-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "smooth" .f32 0x35863815#32 ((1 / 999990 : ℝ) : EReal)
  ∧ IdealRules.named_const.Statement Cert.KernelIdeal.κ "peak" .f32 0x3F666656#32 ((89999 / 99999 : ℝ) : EReal)

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S1024x100000 : Shape := ⟨2, ![1024, 100000]⟩
abbrev S1024 : Shape := ⟨1, ![1024]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x100000 .f32) (main_arg1 : IVec S1024 32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 100000#32
  let main_v6 : IVec S1024 32 := broadcastInDim S1024 ![] bcast_S_S1024 main_c_1
  let main_v7 : IVec S1024 1 := cmpi .slt main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  main_v10
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S_ : Shape := ⟨0, ![]⟩
abbrev S1024x100096 : Shape := ⟨2, ![1024, 100096]⟩
abbrev S32 : Shape := ⟨1, ![32]⟩
abbrev S32x8x128 : Shape := ⟨3, ![32, 8, 128]⟩
abbrev S16 : Shape := ⟨1, ![16]⟩
abbrev S1 : Shape := ⟨1, ![1]⟩
abbrev S1x8x128 : Shape := ⟨3, ![1, 8, 128]⟩
abbrev S8x128 : Shape := ⟨2, ![8, 128]⟩
abbrev S1x1x1 : Shape := ⟨3, ![1, 1, 1]⟩
abbrev S1024x3584 : Shape := ⟨2, ![1024, 3584]⟩
abbrev S1024x1 : Shape := ⟨2, ![1024, 1]⟩
abbrev S1x3584 : Shape := ⟨2, ![1, 3584]⟩
abbrev S1x1024x1 : Shape := ⟨3, ![1, 1024, 1]⟩
abbrev S1x1 : Shape := ⟨2, ![1, 1]⟩
abbrev S1x1x1x1 : Shape := ⟨4, ![1, 1, 1, 1]⟩

abbrev nBuf : Table → Nat
  | .hbm => 9
  | .local .tc .vmem => 9
  | .local .scVector .vmem => 3
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S1024x100096, .f32⟩
  | .hbm, ⟨4, _⟩ => ⟨S1024, .f32⟩
  | .hbm, ⟨5, _⟩ => ⟨S1x1x1, .f32⟩
  | .hbm, ⟨6, _⟩ => ⟨S1024x1, .f32⟩
  | .hbm, ⟨7, _⟩ => ⟨S1x1, .f32⟩
  | .hbm, ⟨8, _⟩ => ⟨S_, .f32⟩
  | .local .tc .vmem, ⟨0, _⟩ => ⟨S1024x3584, .f32⟩
  | .local .tc .vmem, ⟨1, _⟩ => ⟨S1024x3584, .f32⟩
  | .local .tc .vmem, ⟨2, _⟩ => ⟨S1x1x1, .f32⟩
  | .local .tc .vmem, ⟨3, _⟩ => ⟨S1024x1, .f32⟩
  | .local .tc .vmem, ⟨4, _⟩ => ⟨S1024x1, .f32⟩
  | .local .tc .vmem, ⟨5, _⟩ => ⟨S1024x1, .f32⟩
  | .local .tc .vmem, ⟨6, _⟩ => ⟨S1x1x1, .f32⟩
  | .local .tc .vmem, ⟨7, _⟩ => ⟨S1024x1, .f32⟩
  | .local .tc .vmem, ⟨8, _⟩ => ⟨S1x1, .f32⟩
  | .local .scVector .vmem, ⟨0, _⟩ => ⟨S32, .i32⟩
  | .local .scVector .vmem, ⟨1, _⟩ => ⟨S32x8x128, .f32⟩
  | .local .scVector .vmem, ⟨2, _⟩ => ⟨S32, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v0_scv : Ref sig .scVector := ⟨.hbm, 3, rfl⟩
abbrev main_arg1_scv : Ref sig .scVector := ⟨.hbm, 1, rfl⟩
abbrev main_v1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_scratch0 : Ref sig .tc := ⟨.vmem, 3, rfl⟩
abbrev cc1_scratch1 : Ref sig .tc := ⟨.vmem, 4, rfl⟩
abbrev cc1_scratch2 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc2_sem0_0 : DmaSem sig := 6
abbrev cc2_sem1_0 : DmaSem sig := 7
abbrev cc2_sem2_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) (v26 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v6 : BitVec 32 := Scalar.addi v2 c0_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v6 c8_i32
  let c0_i32_4 : BitVec 32 := 0#32
  let v20 : BitVec 1 := Scalar.cmpi .ne v19 c0_i32_4
  let v21 : BitVec 1 := Scalar.andi v18 v20
  let v7 : BitVec 32 := Scalar.divsi v6 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let c128_i32 : BitVec 32 := 128#32
  let v27 : BitVec 32 := Scalar.muli v26 c128_i32
  ![v24.toNat, v27.toNat]

def k0_off3 (i : grid0.Coords) (v54 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_11 : BitVec 32 := 1#32
  let v34 : BitVec 32 := Scalar.addi v2 c1_i32_11
  let c0_i32_13 : BitVec 32 := 0#32
  let v36 : BitVec 1 := Scalar.cmpi .sgt v34 c0_i32_13
  let v37 : BitVec 32 := Scalar.extui v36
  let c0_i32_14 : BitVec 32 := 0#32
  let v38 : BitVec 1 := Scalar.cmpi .slt v34 c0_i32_14
  let v39 : BitVec 32 := Scalar.extui v38
  let v40 : BitVec 32 := Scalar.subi v37 v39
  let c8_i32_12 : BitVec 32 := 8#32
  let c0_i32_15 : BitVec 32 := 0#32
  let v41 : BitVec 1 := Scalar.cmpi .sgt c8_i32_12 c0_i32_15
  let v42 : BitVec 32 := Scalar.extui v41
  let c0_i32_16 : BitVec 32 := 0#32
  let v43 : BitVec 1 := Scalar.cmpi .slt c8_i32_12 c0_i32_16
  let v44 : BitVec 32 := Scalar.extui v43
  let v45 : BitVec 32 := Scalar.subi v42 v44
  let v46 : BitVec 1 := Scalar.cmpi .ne v40 v45
  let v47 : BitVec 32 := Scalar.remsi v34 c8_i32_12
  let c0_i32_17 : BitVec 32 := 0#32
  let v48 : BitVec 1 := Scalar.cmpi .ne v47 c0_i32_17
  let v49 : BitVec 1 := Scalar.andi v46 v48
  let v35 : BitVec 32 := Scalar.divsi v34 c8_i32_12
  let c1_i32_18 : BitVec 32 := 1#32
  let v50 : BitVec 32 := Scalar.subi v35 c1_i32_18
  let v51 : BitVec 32 := Scalar.select v49 v50 v35
  let c8_i32_19 : BitVec 32 := 8#32
  let v52 : BitVec 32 := Scalar.muli v51 c8_i32_19
  let c128_i32_20 : BitVec 32 := 128#32
  let v55 : BitVec 32 := Scalar.muli v54 c128_i32_20
  ![v52.toNat, v55.toNat]

def k0_off4 (i : grid0.Coords) (v82 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_26 : BitVec 32 := 2#32
  let v62 : BitVec 32 := Scalar.addi v2 c2_i32_26
  let c0_i32_28 : BitVec 32 := 0#32
  let v64 : BitVec 1 := Scalar.cmpi .sgt v62 c0_i32_28
  let v65 : BitVec 32 := Scalar.extui v64
  let c0_i32_29 : BitVec 32 := 0#32
  let v66 : BitVec 1 := Scalar.cmpi .slt v62 c0_i32_29
  let v67 : BitVec 32 := Scalar.extui v66
  let v68 : BitVec 32 := Scalar.subi v65 v67
  let c8_i32_27 : BitVec 32 := 8#32
  let c0_i32_30 : BitVec 32 := 0#32
  let v69 : BitVec 1 := Scalar.cmpi .sgt c8_i32_27 c0_i32_30
  let v70 : BitVec 32 := Scalar.extui v69
  let c0_i32_31 : BitVec 32 := 0#32
  let v71 : BitVec 1 := Scalar.cmpi .slt c8_i32_27 c0_i32_31
  let v72 : BitVec 32 := Scalar.extui v71
  let v73 : BitVec 32 := Scalar.subi v70 v72
  let v74 : BitVec 1 := Scalar.cmpi .ne v68 v73
  let v75 : BitVec 32 := Scalar.remsi v62 c8_i32_27
  let c0_i32_32 : BitVec 32 := 0#32
  let v76 : BitVec 1 := Scalar.cmpi .ne v75 c0_i32_32
  let v77 : BitVec 1 := Scalar.andi v74 v76
  let v63 : BitVec 32 := Scalar.divsi v62 c8_i32_27
  let c1_i32_33 : BitVec 32 := 1#32
  let v78 : BitVec 32 := Scalar.subi v63 c1_i32_33
  let v79 : BitVec 32 := Scalar.select v77 v78 v63
  let c8_i32_34 : BitVec 32 := 8#32
  let v80 : BitVec 32 := Scalar.muli v79 c8_i32_34
  let c128_i32_35 : BitVec 32 := 128#32
  let v83 : BitVec 32 := Scalar.muli v82 c128_i32_35
  ![v80.toNat, v83.toNat]

def k0_off5 (i : grid0.Coords) (v110 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32 : BitVec 32 := 3#32
  let v90 : BitVec 32 := Scalar.addi v2 c3_i32
  let c0_i32_42 : BitVec 32 := 0#32
  let v92 : BitVec 1 := Scalar.cmpi .sgt v90 c0_i32_42
  let v93 : BitVec 32 := Scalar.extui v92
  let c0_i32_43 : BitVec 32 := 0#32
  let v94 : BitVec 1 := Scalar.cmpi .slt v90 c0_i32_43
  let v95 : BitVec 32 := Scalar.extui v94
  let v96 : BitVec 32 := Scalar.subi v93 v95
  let c8_i32_41 : BitVec 32 := 8#32
  let c0_i32_44 : BitVec 32 := 0#32
  let v97 : BitVec 1 := Scalar.cmpi .sgt c8_i32_41 c0_i32_44
  let v98 : BitVec 32 := Scalar.extui v97
  let c0_i32_45 : BitVec 32 := 0#32
  let v99 : BitVec 1 := Scalar.cmpi .slt c8_i32_41 c0_i32_45
  let v100 : BitVec 32 := Scalar.extui v99
  let v101 : BitVec 32 := Scalar.subi v98 v100
  let v102 : BitVec 1 := Scalar.cmpi .ne v96 v101
  let v103 : BitVec 32 := Scalar.remsi v90 c8_i32_41
  let c0_i32_46 : BitVec 32 := 0#32
  let v104 : BitVec 1 := Scalar.cmpi .ne v103 c0_i32_46
  let v105 : BitVec 1 := Scalar.andi v102 v104
  let v91 : BitVec 32 := Scalar.divsi v90 c8_i32_41
  let c1_i32_47 : BitVec 32 := 1#32
  let v106 : BitVec 32 := Scalar.subi v91 c1_i32_47
  let v107 : BitVec 32 := Scalar.select v105 v106 v91
  let c8_i32_48 : BitVec 32 := 8#32
  let v108 : BitVec 32 := Scalar.muli v107 c8_i32_48
  let c128_i32_49 : BitVec 32 := 128#32
  let v111 : BitVec 32 := Scalar.muli v110 c128_i32_49
  ![v108.toNat, v111.toNat]

def k0_off6 (i : grid0.Coords) (v138 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c4_i32 : BitVec 32 := 4#32
  let v118 : BitVec 32 := Scalar.addi v2 c4_i32
  let c0_i32_56 : BitVec 32 := 0#32
  let v120 : BitVec 1 := Scalar.cmpi .sgt v118 c0_i32_56
  let v121 : BitVec 32 := Scalar.extui v120
  let c0_i32_57 : BitVec 32 := 0#32
  let v122 : BitVec 1 := Scalar.cmpi .slt v118 c0_i32_57
  let v123 : BitVec 32 := Scalar.extui v122
  let v124 : BitVec 32 := Scalar.subi v121 v123
  let c8_i32_55 : BitVec 32 := 8#32
  let c0_i32_58 : BitVec 32 := 0#32
  let v125 : BitVec 1 := Scalar.cmpi .sgt c8_i32_55 c0_i32_58
  let v126 : BitVec 32 := Scalar.extui v125
  let c0_i32_59 : BitVec 32 := 0#32
  let v127 : BitVec 1 := Scalar.cmpi .slt c8_i32_55 c0_i32_59
  let v128 : BitVec 32 := Scalar.extui v127
  let v129 : BitVec 32 := Scalar.subi v126 v128
  let v130 : BitVec 1 := Scalar.cmpi .ne v124 v129
  let v131 : BitVec 32 := Scalar.remsi v118 c8_i32_55
  let c0_i32_60 : BitVec 32 := 0#32
  let v132 : BitVec 1 := Scalar.cmpi .ne v131 c0_i32_60
  let v133 : BitVec 1 := Scalar.andi v130 v132
  let v119 : BitVec 32 := Scalar.divsi v118 c8_i32_55
  let c1_i32_61 : BitVec 32 := 1#32
  let v134 : BitVec 32 := Scalar.subi v119 c1_i32_61
  let v135 : BitVec 32 := Scalar.select v133 v134 v119
  let c8_i32_62 : BitVec 32 := 8#32
  let v136 : BitVec 32 := Scalar.muli v135 c8_i32_62
  let c128_i32_63 : BitVec 32 := 128#32
  let v139 : BitVec 32 := Scalar.muli v138 c128_i32_63
  ![v136.toNat, v139.toNat]

def k0_off7 (i : grid0.Coords) (v166 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c5_i32 : BitVec 32 := 5#32
  let v146 : BitVec 32 := Scalar.addi v2 c5_i32
  let c0_i32_70 : BitVec 32 := 0#32
  let v148 : BitVec 1 := Scalar.cmpi .sgt v146 c0_i32_70
  let v149 : BitVec 32 := Scalar.extui v148
  let c0_i32_71 : BitVec 32 := 0#32
  let v150 : BitVec 1 := Scalar.cmpi .slt v146 c0_i32_71
  let v151 : BitVec 32 := Scalar.extui v150
  let v152 : BitVec 32 := Scalar.subi v149 v151
  let c8_i32_69 : BitVec 32 := 8#32
  let c0_i32_72 : BitVec 32 := 0#32
  let v153 : BitVec 1 := Scalar.cmpi .sgt c8_i32_69 c0_i32_72
  let v154 : BitVec 32 := Scalar.extui v153
  let c0_i32_73 : BitVec 32 := 0#32
  let v155 : BitVec 1 := Scalar.cmpi .slt c8_i32_69 c0_i32_73
  let v156 : BitVec 32 := Scalar.extui v155
  let v157 : BitVec 32 := Scalar.subi v154 v156
  let v158 : BitVec 1 := Scalar.cmpi .ne v152 v157
  let v159 : BitVec 32 := Scalar.remsi v146 c8_i32_69
  let c0_i32_74 : BitVec 32 := 0#32
  let v160 : BitVec 1 := Scalar.cmpi .ne v159 c0_i32_74
  let v161 : BitVec 1 := Scalar.andi v158 v160
  let v147 : BitVec 32 := Scalar.divsi v146 c8_i32_69
  let c1_i32_75 : BitVec 32 := 1#32
  let v162 : BitVec 32 := Scalar.subi v147 c1_i32_75
  let v163 : BitVec 32 := Scalar.select v161 v162 v147
  let c8_i32_76 : BitVec 32 := 8#32
  let v164 : BitVec 32 := Scalar.muli v163 c8_i32_76
  let c128_i32_77 : BitVec 32 := 128#32
  let v167 : BitVec 32 := Scalar.muli v166 c128_i32_77
  ![v164.toNat, v167.toNat]

def k0_off8 (i : grid0.Coords) (v194 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c6_i32 : BitVec 32 := 6#32
  let v174 : BitVec 32 := Scalar.addi v2 c6_i32
  let c0_i32_84 : BitVec 32 := 0#32
  let v176 : BitVec 1 := Scalar.cmpi .sgt v174 c0_i32_84
  let v177 : BitVec 32 := Scalar.extui v176
  let c0_i32_85 : BitVec 32 := 0#32
  let v178 : BitVec 1 := Scalar.cmpi .slt v174 c0_i32_85
  let v179 : BitVec 32 := Scalar.extui v178
  let v180 : BitVec 32 := Scalar.subi v177 v179
  let c8_i32_83 : BitVec 32 := 8#32
  let c0_i32_86 : BitVec 32 := 0#32
  let v181 : BitVec 1 := Scalar.cmpi .sgt c8_i32_83 c0_i32_86
  let v182 : BitVec 32 := Scalar.extui v181
  let c0_i32_87 : BitVec 32 := 0#32
  let v183 : BitVec 1 := Scalar.cmpi .slt c8_i32_83 c0_i32_87
  let v184 : BitVec 32 := Scalar.extui v183
  let v185 : BitVec 32 := Scalar.subi v182 v184
  let v186 : BitVec 1 := Scalar.cmpi .ne v180 v185
  let v187 : BitVec 32 := Scalar.remsi v174 c8_i32_83
  let c0_i32_88 : BitVec 32 := 0#32
  let v188 : BitVec 1 := Scalar.cmpi .ne v187 c0_i32_88
  let v189 : BitVec 1 := Scalar.andi v186 v188
  let v175 : BitVec 32 := Scalar.divsi v174 c8_i32_83
  let c1_i32_89 : BitVec 32 := 1#32
  let v190 : BitVec 32 := Scalar.subi v175 c1_i32_89
  let v191 : BitVec 32 := Scalar.select v189 v190 v175
  let c8_i32_90 : BitVec 32 := 8#32
  let v192 : BitVec 32 := Scalar.muli v191 c8_i32_90
  let c128_i32_91 : BitVec 32 := 128#32
  let v195 : BitVec 32 := Scalar.muli v194 c128_i32_91
  ![v192.toNat, v195.toNat]

def k0_off9 (i : grid0.Coords) (v222 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c7_i32_97 : BitVec 32 := 7#32
  let v202 : BitVec 32 := Scalar.addi v2 c7_i32_97
  let c0_i32_99 : BitVec 32 := 0#32
  let v204 : BitVec 1 := Scalar.cmpi .sgt v202 c0_i32_99
  let v205 : BitVec 32 := Scalar.extui v204
  let c0_i32_100 : BitVec 32 := 0#32
  let v206 : BitVec 1 := Scalar.cmpi .slt v202 c0_i32_100
  let v207 : BitVec 32 := Scalar.extui v206
  let v208 : BitVec 32 := Scalar.subi v205 v207
  let c8_i32_98 : BitVec 32 := 8#32
  let c0_i32_101 : BitVec 32 := 0#32
  let v209 : BitVec 1 := Scalar.cmpi .sgt c8_i32_98 c0_i32_101
  let v210 : BitVec 32 := Scalar.extui v209
  let c0_i32_102 : BitVec 32 := 0#32
  let v211 : BitVec 1 := Scalar.cmpi .slt c8_i32_98 c0_i32_102
  let v212 : BitVec 32 := Scalar.extui v211
  let v213 : BitVec 32 := Scalar.subi v210 v212
  let v214 : BitVec 1 := Scalar.cmpi .ne v208 v213
  let v215 : BitVec 32 := Scalar.remsi v202 c8_i32_98
  let c0_i32_103 : BitVec 32 := 0#32
  let v216 : BitVec 1 := Scalar.cmpi .ne v215 c0_i32_103
  let v217 : BitVec 1 := Scalar.andi v214 v216
  let v203 : BitVec 32 := Scalar.divsi v202 c8_i32_98
  let c1_i32_104 : BitVec 32 := 1#32
  let v218 : BitVec 32 := Scalar.subi v203 c1_i32_104
  let v219 : BitVec 32 := Scalar.select v217 v218 v203
  let c8_i32_105 : BitVec 32 := 8#32
  let v220 : BitVec 32 := Scalar.muli v219 c8_i32_105
  let c128_i32_106 : BitVec 32 := 128#32
  let v223 : BitVec 32 := Scalar.muli v222 c128_i32_106
  ![v220.toNat, v223.toNat]

def k0_off10 (i : grid0.Coords) (v250 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_112 : BitVec 32 := 8#32
  let v230 : BitVec 32 := Scalar.addi v2 c8_i32_112
  let c0_i32_114 : BitVec 32 := 0#32
  let v232 : BitVec 1 := Scalar.cmpi .sgt v230 c0_i32_114
  let v233 : BitVec 32 := Scalar.extui v232
  let c0_i32_115 : BitVec 32 := 0#32
  let v234 : BitVec 1 := Scalar.cmpi .slt v230 c0_i32_115
  let v235 : BitVec 32 := Scalar.extui v234
  let v236 : BitVec 32 := Scalar.subi v233 v235
  let c8_i32_113 : BitVec 32 := 8#32
  let c0_i32_116 : BitVec 32 := 0#32
  let v237 : BitVec 1 := Scalar.cmpi .sgt c8_i32_113 c0_i32_116
  let v238 : BitVec 32 := Scalar.extui v237
  let c0_i32_117 : BitVec 32 := 0#32
  let v239 : BitVec 1 := Scalar.cmpi .slt c8_i32_113 c0_i32_117
  let v240 : BitVec 32 := Scalar.extui v239
  let v241 : BitVec 32 := Scalar.subi v238 v240
  let v242 : BitVec 1 := Scalar.cmpi .ne v236 v241
  let v243 : BitVec 32 := Scalar.remsi v230 c8_i32_113
  let c0_i32_118 : BitVec 32 := 0#32
  let v244 : BitVec 1 := Scalar.cmpi .ne v243 c0_i32_118
  let v245 : BitVec 1 := Scalar.andi v242 v244
  let v231 : BitVec 32 := Scalar.divsi v230 c8_i32_113
  let c1_i32_119 : BitVec 32 := 1#32
  let v246 : BitVec 32 := Scalar.subi v231 c1_i32_119
  let v247 : BitVec 32 := Scalar.select v245 v246 v231
  let c8_i32_120 : BitVec 32 := 8#32
  let v248 : BitVec 32 := Scalar.muli v247 c8_i32_120
  let c128_i32_121 : BitVec 32 := 128#32
  let v251 : BitVec 32 := Scalar.muli v250 c128_i32_121
  ![v248.toNat, v251.toNat]

def k0_off11 (i : grid0.Coords) (v278 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c9_i32 : BitVec 32 := 9#32
  let v258 : BitVec 32 := Scalar.addi v2 c9_i32
  let c0_i32_128 : BitVec 32 := 0#32
  let v260 : BitVec 1 := Scalar.cmpi .sgt v258 c0_i32_128
  let v261 : BitVec 32 := Scalar.extui v260
  let c0_i32_129 : BitVec 32 := 0#32
  let v262 : BitVec 1 := Scalar.cmpi .slt v258 c0_i32_129
  let v263 : BitVec 32 := Scalar.extui v262
  let v264 : BitVec 32 := Scalar.subi v261 v263
  let c8_i32_127 : BitVec 32 := 8#32
  let c0_i32_130 : BitVec 32 := 0#32
  let v265 : BitVec 1 := Scalar.cmpi .sgt c8_i32_127 c0_i32_130
  let v266 : BitVec 32 := Scalar.extui v265
  let c0_i32_131 : BitVec 32 := 0#32
  let v267 : BitVec 1 := Scalar.cmpi .slt c8_i32_127 c0_i32_131
  let v268 : BitVec 32 := Scalar.extui v267
  let v269 : BitVec 32 := Scalar.subi v266 v268
  let v270 : BitVec 1 := Scalar.cmpi .ne v264 v269
  let v271 : BitVec 32 := Scalar.remsi v258 c8_i32_127
  let c0_i32_132 : BitVec 32 := 0#32
  let v272 : BitVec 1 := Scalar.cmpi .ne v271 c0_i32_132
  let v273 : BitVec 1 := Scalar.andi v270 v272
  let v259 : BitVec 32 := Scalar.divsi v258 c8_i32_127
  let c1_i32_133 : BitVec 32 := 1#32
  let v274 : BitVec 32 := Scalar.subi v259 c1_i32_133
  let v275 : BitVec 32 := Scalar.select v273 v274 v259
  let c8_i32_134 : BitVec 32 := 8#32
  let v276 : BitVec 32 := Scalar.muli v275 c8_i32_134
  let c128_i32_135 : BitVec 32 := 128#32
  let v279 : BitVec 32 := Scalar.muli v278 c128_i32_135
  ![v276.toNat, v279.toNat]

def k0_off12 (i : grid0.Coords) (v306 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c10_i32 : BitVec 32 := 10#32
  let v286 : BitVec 32 := Scalar.addi v2 c10_i32
  let c0_i32_142 : BitVec 32 := 0#32
  let v288 : BitVec 1 := Scalar.cmpi .sgt v286 c0_i32_142
  let v289 : BitVec 32 := Scalar.extui v288
  let c0_i32_143 : BitVec 32 := 0#32
  let v290 : BitVec 1 := Scalar.cmpi .slt v286 c0_i32_143
  let v291 : BitVec 32 := Scalar.extui v290
  let v292 : BitVec 32 := Scalar.subi v289 v291
  let c8_i32_141 : BitVec 32 := 8#32
  let c0_i32_144 : BitVec 32 := 0#32
  let v293 : BitVec 1 := Scalar.cmpi .sgt c8_i32_141 c0_i32_144
  let v294 : BitVec 32 := Scalar.extui v293
  let c0_i32_145 : BitVec 32 := 0#32
  let v295 : BitVec 1 := Scalar.cmpi .slt c8_i32_141 c0_i32_145
  let v296 : BitVec 32 := Scalar.extui v295
  let v297 : BitVec 32 := Scalar.subi v294 v296
  let v298 : BitVec 1 := Scalar.cmpi .ne v292 v297
  let v299 : BitVec 32 := Scalar.remsi v286 c8_i32_141
  let c0_i32_146 : BitVec 32 := 0#32
  let v300 : BitVec 1 := Scalar.cmpi .ne v299 c0_i32_146
  let v301 : BitVec 1 := Scalar.andi v298 v300
  let v287 : BitVec 32 := Scalar.divsi v286 c8_i32_141
  let c1_i32_147 : BitVec 32 := 1#32
  let v302 : BitVec 32 := Scalar.subi v287 c1_i32_147
  let v303 : BitVec 32 := Scalar.select v301 v302 v287
  let c8_i32_148 : BitVec 32 := 8#32
  let v304 : BitVec 32 := Scalar.muli v303 c8_i32_148
  let c128_i32_149 : BitVec 32 := 128#32
  let v307 : BitVec 32 := Scalar.muli v306 c128_i32_149
  ![v304.toNat, v307.toNat]

def k0_off13 (i : grid0.Coords) (v334 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c11_i32 : BitVec 32 := 11#32
  let v314 : BitVec 32 := Scalar.addi v2 c11_i32
  let c0_i32_156 : BitVec 32 := 0#32
  let v316 : BitVec 1 := Scalar.cmpi .sgt v314 c0_i32_156
  let v317 : BitVec 32 := Scalar.extui v316
  let c0_i32_157 : BitVec 32 := 0#32
  let v318 : BitVec 1 := Scalar.cmpi .slt v314 c0_i32_157
  let v319 : BitVec 32 := Scalar.extui v318
  let v320 : BitVec 32 := Scalar.subi v317 v319
  let c8_i32_155 : BitVec 32 := 8#32
  let c0_i32_158 : BitVec 32 := 0#32
  let v321 : BitVec 1 := Scalar.cmpi .sgt c8_i32_155 c0_i32_158
  let v322 : BitVec 32 := Scalar.extui v321
  let c0_i32_159 : BitVec 32 := 0#32
  let v323 : BitVec 1 := Scalar.cmpi .slt c8_i32_155 c0_i32_159
  let v324 : BitVec 32 := Scalar.extui v323
  let v325 : BitVec 32 := Scalar.subi v322 v324
  let v326 : BitVec 1 := Scalar.cmpi .ne v320 v325
  let v327 : BitVec 32 := Scalar.remsi v314 c8_i32_155
  let c0_i32_160 : BitVec 32 := 0#32
  let v328 : BitVec 1 := Scalar.cmpi .ne v327 c0_i32_160
  let v329 : BitVec 1 := Scalar.andi v326 v328
  let v315 : BitVec 32 := Scalar.divsi v314 c8_i32_155
  let c1_i32_161 : BitVec 32 := 1#32
  let v330 : BitVec 32 := Scalar.subi v315 c1_i32_161
  let v331 : BitVec 32 := Scalar.select v329 v330 v315
  let c8_i32_162 : BitVec 32 := 8#32
  let v332 : BitVec 32 := Scalar.muli v331 c8_i32_162
  let c128_i32_163 : BitVec 32 := 128#32
  let v335 : BitVec 32 := Scalar.muli v334 c128_i32_163
  ![v332.toNat, v335.toNat]

def k0_off14 (i : grid0.Coords) (v362 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c12_i32 : BitVec 32 := 12#32
  let v342 : BitVec 32 := Scalar.addi v2 c12_i32
  let c0_i32_170 : BitVec 32 := 0#32
  let v344 : BitVec 1 := Scalar.cmpi .sgt v342 c0_i32_170
  let v345 : BitVec 32 := Scalar.extui v344
  let c0_i32_171 : BitVec 32 := 0#32
  let v346 : BitVec 1 := Scalar.cmpi .slt v342 c0_i32_171
  let v347 : BitVec 32 := Scalar.extui v346
  let v348 : BitVec 32 := Scalar.subi v345 v347
  let c8_i32_169 : BitVec 32 := 8#32
  let c0_i32_172 : BitVec 32 := 0#32
  let v349 : BitVec 1 := Scalar.cmpi .sgt c8_i32_169 c0_i32_172
  let v350 : BitVec 32 := Scalar.extui v349
  let c0_i32_173 : BitVec 32 := 0#32
  let v351 : BitVec 1 := Scalar.cmpi .slt c8_i32_169 c0_i32_173
  let v352 : BitVec 32 := Scalar.extui v351
  let v353 : BitVec 32 := Scalar.subi v350 v352
  let v354 : BitVec 1 := Scalar.cmpi .ne v348 v353
  let v355 : BitVec 32 := Scalar.remsi v342 c8_i32_169
  let c0_i32_174 : BitVec 32 := 0#32
  let v356 : BitVec 1 := Scalar.cmpi .ne v355 c0_i32_174
  let v357 : BitVec 1 := Scalar.andi v354 v356
  let v343 : BitVec 32 := Scalar.divsi v342 c8_i32_169
  let c1_i32_175 : BitVec 32 := 1#32
  let v358 : BitVec 32 := Scalar.subi v343 c1_i32_175
  let v359 : BitVec 32 := Scalar.select v357 v358 v343
  let c8_i32_176 : BitVec 32 := 8#32
  let v360 : BitVec 32 := Scalar.muli v359 c8_i32_176
  let c128_i32_177 : BitVec 32 := 128#32
  let v363 : BitVec 32 := Scalar.muli v362 c128_i32_177
  ![v360.toNat, v363.toNat]

def k0_off15 (i : grid0.Coords) (v390 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c13_i32 : BitVec 32 := 13#32
  let v370 : BitVec 32 := Scalar.addi v2 c13_i32
  let c0_i32_184 : BitVec 32 := 0#32
  let v372 : BitVec 1 := Scalar.cmpi .sgt v370 c0_i32_184
  let v373 : BitVec 32 := Scalar.extui v372
  let c0_i32_185 : BitVec 32 := 0#32
  let v374 : BitVec 1 := Scalar.cmpi .slt v370 c0_i32_185
  let v375 : BitVec 32 := Scalar.extui v374
  let v376 : BitVec 32 := Scalar.subi v373 v375
  let c8_i32_183 : BitVec 32 := 8#32
  let c0_i32_186 : BitVec 32 := 0#32
  let v377 : BitVec 1 := Scalar.cmpi .sgt c8_i32_183 c0_i32_186
  let v378 : BitVec 32 := Scalar.extui v377
  let c0_i32_187 : BitVec 32 := 0#32
  let v379 : BitVec 1 := Scalar.cmpi .slt c8_i32_183 c0_i32_187
  let v380 : BitVec 32 := Scalar.extui v379
  let v381 : BitVec 32 := Scalar.subi v378 v380
  let v382 : BitVec 1 := Scalar.cmpi .ne v376 v381
  let v383 : BitVec 32 := Scalar.remsi v370 c8_i32_183
  let c0_i32_188 : BitVec 32 := 0#32
  let v384 : BitVec 1 := Scalar.cmpi .ne v383 c0_i32_188
  let v385 : BitVec 1 := Scalar.andi v382 v384
  let v371 : BitVec 32 := Scalar.divsi v370 c8_i32_183
  let c1_i32_189 : BitVec 32 := 1#32
  let v386 : BitVec 32 := Scalar.subi v371 c1_i32_189
  let v387 : BitVec 32 := Scalar.select v385 v386 v371
  let c8_i32_190 : BitVec 32 := 8#32
  let v388 : BitVec 32 := Scalar.muli v387 c8_i32_190
  let c128_i32_191 : BitVec 32 := 128#32
  let v391 : BitVec 32 := Scalar.muli v390 c128_i32_191
  ![v388.toNat, v391.toNat]

def k0_off16 (i : grid0.Coords) (v418 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c14_i32 : BitVec 32 := 14#32
  let v398 : BitVec 32 := Scalar.addi v2 c14_i32
  let c0_i32_198 : BitVec 32 := 0#32
  let v400 : BitVec 1 := Scalar.cmpi .sgt v398 c0_i32_198
  let v401 : BitVec 32 := Scalar.extui v400
  let c0_i32_199 : BitVec 32 := 0#32
  let v402 : BitVec 1 := Scalar.cmpi .slt v398 c0_i32_199
  let v403 : BitVec 32 := Scalar.extui v402
  let v404 : BitVec 32 := Scalar.subi v401 v403
  let c8_i32_197 : BitVec 32 := 8#32
  let c0_i32_200 : BitVec 32 := 0#32
  let v405 : BitVec 1 := Scalar.cmpi .sgt c8_i32_197 c0_i32_200
  let v406 : BitVec 32 := Scalar.extui v405
  let c0_i32_201 : BitVec 32 := 0#32
  let v407 : BitVec 1 := Scalar.cmpi .slt c8_i32_197 c0_i32_201
  let v408 : BitVec 32 := Scalar.extui v407
  let v409 : BitVec 32 := Scalar.subi v406 v408
  let v410 : BitVec 1 := Scalar.cmpi .ne v404 v409
  let v411 : BitVec 32 := Scalar.remsi v398 c8_i32_197
  let c0_i32_202 : BitVec 32 := 0#32
  let v412 : BitVec 1 := Scalar.cmpi .ne v411 c0_i32_202
  let v413 : BitVec 1 := Scalar.andi v410 v412
  let v399 : BitVec 32 := Scalar.divsi v398 c8_i32_197
  let c1_i32_203 : BitVec 32 := 1#32
  let v414 : BitVec 32 := Scalar.subi v399 c1_i32_203
  let v415 : BitVec 32 := Scalar.select v413 v414 v399
  let c8_i32_204 : BitVec 32 := 8#32
  let v416 : BitVec 32 := Scalar.muli v415 c8_i32_204
  let c128_i32_205 : BitVec 32 := 128#32
  let v419 : BitVec 32 := Scalar.muli v418 c128_i32_205
  ![v416.toNat, v419.toNat]

def k0_off17 (i : grid0.Coords) (v446 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c15_i32 : BitVec 32 := 15#32
  let v426 : BitVec 32 := Scalar.addi v2 c15_i32
  let c0_i32_212 : BitVec 32 := 0#32
  let v428 : BitVec 1 := Scalar.cmpi .sgt v426 c0_i32_212
  let v429 : BitVec 32 := Scalar.extui v428
  let c0_i32_213 : BitVec 32 := 0#32
  let v430 : BitVec 1 := Scalar.cmpi .slt v426 c0_i32_213
  let v431 : BitVec 32 := Scalar.extui v430
  let v432 : BitVec 32 := Scalar.subi v429 v431
  let c8_i32_211 : BitVec 32 := 8#32
  let c0_i32_214 : BitVec 32 := 0#32
  let v433 : BitVec 1 := Scalar.cmpi .sgt c8_i32_211 c0_i32_214
  let v434 : BitVec 32 := Scalar.extui v433
  let c0_i32_215 : BitVec 32 := 0#32
  let v435 : BitVec 1 := Scalar.cmpi .slt c8_i32_211 c0_i32_215
  let v436 : BitVec 32 := Scalar.extui v435
  let v437 : BitVec 32 := Scalar.subi v434 v436
  let v438 : BitVec 1 := Scalar.cmpi .ne v432 v437
  let v439 : BitVec 32 := Scalar.remsi v426 c8_i32_211
  let c0_i32_216 : BitVec 32 := 0#32
  let v440 : BitVec 1 := Scalar.cmpi .ne v439 c0_i32_216
  let v441 : BitVec 1 := Scalar.andi v438 v440
  let v427 : BitVec 32 := Scalar.divsi v426 c8_i32_211
  let c1_i32_217 : BitVec 32 := 1#32
  let v442 : BitVec 32 := Scalar.subi v427 c1_i32_217
  let v443 : BitVec 32 := Scalar.select v441 v442 v427
  let c8_i32_218 : BitVec 32 := 8#32
  let v444 : BitVec 32 := Scalar.muli v443 c8_i32_218
  let c128_i32_219 : BitVec 32 := 128#32
  let v447 : BitVec 32 := Scalar.muli v446 c128_i32_219
  ![v444.toNat, v447.toNat]

def k0_off18 (i : grid0.Coords) (v477 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v457 : BitVec 32 := Scalar.addi v2 c16_i32
  let c0_i32_227 : BitVec 32 := 0#32
  let v459 : BitVec 1 := Scalar.cmpi .sgt v457 c0_i32_227
  let v460 : BitVec 32 := Scalar.extui v459
  let c0_i32_228 : BitVec 32 := 0#32
  let v461 : BitVec 1 := Scalar.cmpi .slt v457 c0_i32_228
  let v462 : BitVec 32 := Scalar.extui v461
  let v463 : BitVec 32 := Scalar.subi v460 v462
  let c8_i32_226 : BitVec 32 := 8#32
  let c0_i32_229 : BitVec 32 := 0#32
  let v464 : BitVec 1 := Scalar.cmpi .sgt c8_i32_226 c0_i32_229
  let v465 : BitVec 32 := Scalar.extui v464
  let c0_i32_230 : BitVec 32 := 0#32
  let v466 : BitVec 1 := Scalar.cmpi .slt c8_i32_226 c0_i32_230
  let v467 : BitVec 32 := Scalar.extui v466
  let v468 : BitVec 32 := Scalar.subi v465 v467
  let v469 : BitVec 1 := Scalar.cmpi .ne v463 v468
  let v470 : BitVec 32 := Scalar.remsi v457 c8_i32_226
  let c0_i32_231 : BitVec 32 := 0#32
  let v471 : BitVec 1 := Scalar.cmpi .ne v470 c0_i32_231
  let v472 : BitVec 1 := Scalar.andi v469 v471
  let v458 : BitVec 32 := Scalar.divsi v457 c8_i32_226
  let c1_i32_232 : BitVec 32 := 1#32
  let v473 : BitVec 32 := Scalar.subi v458 c1_i32_232
  let v474 : BitVec 32 := Scalar.select v472 v473 v458
  let c8_i32_233 : BitVec 32 := 8#32
  let v475 : BitVec 32 := Scalar.muli v474 c8_i32_233
  let c128_i32_234 : BitVec 32 := 128#32
  let v478 : BitVec 32 := Scalar.muli v477 c128_i32_234
  ![v475.toNat, v478.toNat]

def k0_off19 (i : grid0.Coords) (v505 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c17_i32 : BitVec 32 := 17#32
  let v485 : BitVec 32 := Scalar.addi v2 c17_i32
  let c0_i32_241 : BitVec 32 := 0#32
  let v487 : BitVec 1 := Scalar.cmpi .sgt v485 c0_i32_241
  let v488 : BitVec 32 := Scalar.extui v487
  let c0_i32_242 : BitVec 32 := 0#32
  let v489 : BitVec 1 := Scalar.cmpi .slt v485 c0_i32_242
  let v490 : BitVec 32 := Scalar.extui v489
  let v491 : BitVec 32 := Scalar.subi v488 v490
  let c8_i32_240 : BitVec 32 := 8#32
  let c0_i32_243 : BitVec 32 := 0#32
  let v492 : BitVec 1 := Scalar.cmpi .sgt c8_i32_240 c0_i32_243
  let v493 : BitVec 32 := Scalar.extui v492
  let c0_i32_244 : BitVec 32 := 0#32
  let v494 : BitVec 1 := Scalar.cmpi .slt c8_i32_240 c0_i32_244
  let v495 : BitVec 32 := Scalar.extui v494
  let v496 : BitVec 32 := Scalar.subi v493 v495
  let v497 : BitVec 1 := Scalar.cmpi .ne v491 v496
  let v498 : BitVec 32 := Scalar.remsi v485 c8_i32_240
  let c0_i32_245 : BitVec 32 := 0#32
  let v499 : BitVec 1 := Scalar.cmpi .ne v498 c0_i32_245
  let v500 : BitVec 1 := Scalar.andi v497 v499
  let v486 : BitVec 32 := Scalar.divsi v485 c8_i32_240
  let c1_i32_246 : BitVec 32 := 1#32
  let v501 : BitVec 32 := Scalar.subi v486 c1_i32_246
  let v502 : BitVec 32 := Scalar.select v500 v501 v486
  let c8_i32_247 : BitVec 32 := 8#32
  let v503 : BitVec 32 := Scalar.muli v502 c8_i32_247
  let c128_i32_248 : BitVec 32 := 128#32
  let v506 : BitVec 32 := Scalar.muli v505 c128_i32_248
  ![v503.toNat, v506.toNat]

def k0_off20 (i : grid0.Coords) (v533 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c18_i32 : BitVec 32 := 18#32
  let v513 : BitVec 32 := Scalar.addi v2 c18_i32
  let c0_i32_255 : BitVec 32 := 0#32
  let v515 : BitVec 1 := Scalar.cmpi .sgt v513 c0_i32_255
  let v516 : BitVec 32 := Scalar.extui v515
  let c0_i32_256 : BitVec 32 := 0#32
  let v517 : BitVec 1 := Scalar.cmpi .slt v513 c0_i32_256
  let v518 : BitVec 32 := Scalar.extui v517
  let v519 : BitVec 32 := Scalar.subi v516 v518
  let c8_i32_254 : BitVec 32 := 8#32
  let c0_i32_257 : BitVec 32 := 0#32
  let v520 : BitVec 1 := Scalar.cmpi .sgt c8_i32_254 c0_i32_257
  let v521 : BitVec 32 := Scalar.extui v520
  let c0_i32_258 : BitVec 32 := 0#32
  let v522 : BitVec 1 := Scalar.cmpi .slt c8_i32_254 c0_i32_258
  let v523 : BitVec 32 := Scalar.extui v522
  let v524 : BitVec 32 := Scalar.subi v521 v523
  let v525 : BitVec 1 := Scalar.cmpi .ne v519 v524
  let v526 : BitVec 32 := Scalar.remsi v513 c8_i32_254
  let c0_i32_259 : BitVec 32 := 0#32
  let v527 : BitVec 1 := Scalar.cmpi .ne v526 c0_i32_259
  let v528 : BitVec 1 := Scalar.andi v525 v527
  let v514 : BitVec 32 := Scalar.divsi v513 c8_i32_254
  let c1_i32_260 : BitVec 32 := 1#32
  let v529 : BitVec 32 := Scalar.subi v514 c1_i32_260
  let v530 : BitVec 32 := Scalar.select v528 v529 v514
  let c8_i32_261 : BitVec 32 := 8#32
  let v531 : BitVec 32 := Scalar.muli v530 c8_i32_261
  let c128_i32_262 : BitVec 32 := 128#32
  let v534 : BitVec 32 := Scalar.muli v533 c128_i32_262
  ![v531.toNat, v534.toNat]

def k0_off21 (i : grid0.Coords) (v561 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c19_i32 : BitVec 32 := 19#32
  let v541 : BitVec 32 := Scalar.addi v2 c19_i32
  let c0_i32_269 : BitVec 32 := 0#32
  let v543 : BitVec 1 := Scalar.cmpi .sgt v541 c0_i32_269
  let v544 : BitVec 32 := Scalar.extui v543
  let c0_i32_270 : BitVec 32 := 0#32
  let v545 : BitVec 1 := Scalar.cmpi .slt v541 c0_i32_270
  let v546 : BitVec 32 := Scalar.extui v545
  let v547 : BitVec 32 := Scalar.subi v544 v546
  let c8_i32_268 : BitVec 32 := 8#32
  let c0_i32_271 : BitVec 32 := 0#32
  let v548 : BitVec 1 := Scalar.cmpi .sgt c8_i32_268 c0_i32_271
  let v549 : BitVec 32 := Scalar.extui v548
  let c0_i32_272 : BitVec 32 := 0#32
  let v550 : BitVec 1 := Scalar.cmpi .slt c8_i32_268 c0_i32_272
  let v551 : BitVec 32 := Scalar.extui v550
  let v552 : BitVec 32 := Scalar.subi v549 v551
  let v553 : BitVec 1 := Scalar.cmpi .ne v547 v552
  let v554 : BitVec 32 := Scalar.remsi v541 c8_i32_268
  let c0_i32_273 : BitVec 32 := 0#32
  let v555 : BitVec 1 := Scalar.cmpi .ne v554 c0_i32_273
  let v556 : BitVec 1 := Scalar.andi v553 v555
  let v542 : BitVec 32 := Scalar.divsi v541 c8_i32_268
  let c1_i32_274 : BitVec 32 := 1#32
  let v557 : BitVec 32 := Scalar.subi v542 c1_i32_274
  let v558 : BitVec 32 := Scalar.select v556 v557 v542
  let c8_i32_275 : BitVec 32 := 8#32
  let v559 : BitVec 32 := Scalar.muli v558 c8_i32_275
  let c128_i32_276 : BitVec 32 := 128#32
  let v562 : BitVec 32 := Scalar.muli v561 c128_i32_276
  ![v559.toNat, v562.toNat]

def k0_off22 (i : grid0.Coords) (v589 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c20_i32 : BitVec 32 := 20#32
  let v569 : BitVec 32 := Scalar.addi v2 c20_i32
  let c0_i32_283 : BitVec 32 := 0#32
  let v571 : BitVec 1 := Scalar.cmpi .sgt v569 c0_i32_283
  let v572 : BitVec 32 := Scalar.extui v571
  let c0_i32_284 : BitVec 32 := 0#32
  let v573 : BitVec 1 := Scalar.cmpi .slt v569 c0_i32_284
  let v574 : BitVec 32 := Scalar.extui v573
  let v575 : BitVec 32 := Scalar.subi v572 v574
  let c8_i32_282 : BitVec 32 := 8#32
  let c0_i32_285 : BitVec 32 := 0#32
  let v576 : BitVec 1 := Scalar.cmpi .sgt c8_i32_282 c0_i32_285
  let v577 : BitVec 32 := Scalar.extui v576
  let c0_i32_286 : BitVec 32 := 0#32
  let v578 : BitVec 1 := Scalar.cmpi .slt c8_i32_282 c0_i32_286
  let v579 : BitVec 32 := Scalar.extui v578
  let v580 : BitVec 32 := Scalar.subi v577 v579
  let v581 : BitVec 1 := Scalar.cmpi .ne v575 v580
  let v582 : BitVec 32 := Scalar.remsi v569 c8_i32_282
  let c0_i32_287 : BitVec 32 := 0#32
  let v583 : BitVec 1 := Scalar.cmpi .ne v582 c0_i32_287
  let v584 : BitVec 1 := Scalar.andi v581 v583
  let v570 : BitVec 32 := Scalar.divsi v569 c8_i32_282
  let c1_i32_288 : BitVec 32 := 1#32
  let v585 : BitVec 32 := Scalar.subi v570 c1_i32_288
  let v586 : BitVec 32 := Scalar.select v584 v585 v570
  let c8_i32_289 : BitVec 32 := 8#32
  let v587 : BitVec 32 := Scalar.muli v586 c8_i32_289
  let c128_i32_290 : BitVec 32 := 128#32
  let v590 : BitVec 32 := Scalar.muli v589 c128_i32_290
  ![v587.toNat, v590.toNat]

def k0_off23 (i : grid0.Coords) (v617 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c21_i32 : BitVec 32 := 21#32
  let v597 : BitVec 32 := Scalar.addi v2 c21_i32
  let c0_i32_297 : BitVec 32 := 0#32
  let v599 : BitVec 1 := Scalar.cmpi .sgt v597 c0_i32_297
  let v600 : BitVec 32 := Scalar.extui v599
  let c0_i32_298 : BitVec 32 := 0#32
  let v601 : BitVec 1 := Scalar.cmpi .slt v597 c0_i32_298
  let v602 : BitVec 32 := Scalar.extui v601
  let v603 : BitVec 32 := Scalar.subi v600 v602
  let c8_i32_296 : BitVec 32 := 8#32
  let c0_i32_299 : BitVec 32 := 0#32
  let v604 : BitVec 1 := Scalar.cmpi .sgt c8_i32_296 c0_i32_299
  let v605 : BitVec 32 := Scalar.extui v604
  let c0_i32_300 : BitVec 32 := 0#32
  let v606 : BitVec 1 := Scalar.cmpi .slt c8_i32_296 c0_i32_300
  let v607 : BitVec 32 := Scalar.extui v606
  let v608 : BitVec 32 := Scalar.subi v605 v607
  let v609 : BitVec 1 := Scalar.cmpi .ne v603 v608
  let v610 : BitVec 32 := Scalar.remsi v597 c8_i32_296
  let c0_i32_301 : BitVec 32 := 0#32
  let v611 : BitVec 1 := Scalar.cmpi .ne v610 c0_i32_301
  let v612 : BitVec 1 := Scalar.andi v609 v611
  let v598 : BitVec 32 := Scalar.divsi v597 c8_i32_296
  let c1_i32_302 : BitVec 32 := 1#32
  let v613 : BitVec 32 := Scalar.subi v598 c1_i32_302
  let v614 : BitVec 32 := Scalar.select v612 v613 v598
  let c8_i32_303 : BitVec 32 := 8#32
  let v615 : BitVec 32 := Scalar.muli v614 c8_i32_303
  let c128_i32_304 : BitVec 32 := 128#32
  let v618 : BitVec 32 := Scalar.muli v617 c128_i32_304
  ![v615.toNat, v618.toNat]

def k0_off24 (i : grid0.Coords) (v645 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c22_i32 : BitVec 32 := 22#32
  let v625 : BitVec 32 := Scalar.addi v2 c22_i32
  let c0_i32_311 : BitVec 32 := 0#32
  let v627 : BitVec 1 := Scalar.cmpi .sgt v625 c0_i32_311
  let v628 : BitVec 32 := Scalar.extui v627
  let c0_i32_312 : BitVec 32 := 0#32
  let v629 : BitVec 1 := Scalar.cmpi .slt v625 c0_i32_312
  let v630 : BitVec 32 := Scalar.extui v629
  let v631 : BitVec 32 := Scalar.subi v628 v630
  let c8_i32_310 : BitVec 32 := 8#32
  let c0_i32_313 : BitVec 32 := 0#32
  let v632 : BitVec 1 := Scalar.cmpi .sgt c8_i32_310 c0_i32_313
  let v633 : BitVec 32 := Scalar.extui v632
  let c0_i32_314 : BitVec 32 := 0#32
  let v634 : BitVec 1 := Scalar.cmpi .slt c8_i32_310 c0_i32_314
  let v635 : BitVec 32 := Scalar.extui v634
  let v636 : BitVec 32 := Scalar.subi v633 v635
  let v637 : BitVec 1 := Scalar.cmpi .ne v631 v636
  let v638 : BitVec 32 := Scalar.remsi v625 c8_i32_310
  let c0_i32_315 : BitVec 32 := 0#32
  let v639 : BitVec 1 := Scalar.cmpi .ne v638 c0_i32_315
  let v640 : BitVec 1 := Scalar.andi v637 v639
  let v626 : BitVec 32 := Scalar.divsi v625 c8_i32_310
  let c1_i32_316 : BitVec 32 := 1#32
  let v641 : BitVec 32 := Scalar.subi v626 c1_i32_316
  let v642 : BitVec 32 := Scalar.select v640 v641 v626
  let c8_i32_317 : BitVec 32 := 8#32
  let v643 : BitVec 32 := Scalar.muli v642 c8_i32_317
  let c128_i32_318 : BitVec 32 := 128#32
  let v646 : BitVec 32 := Scalar.muli v645 c128_i32_318
  ![v643.toNat, v646.toNat]

def k0_off25 (i : grid0.Coords) (v673 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c23_i32 : BitVec 32 := 23#32
  let v653 : BitVec 32 := Scalar.addi v2 c23_i32
  let c0_i32_325 : BitVec 32 := 0#32
  let v655 : BitVec 1 := Scalar.cmpi .sgt v653 c0_i32_325
  let v656 : BitVec 32 := Scalar.extui v655
  let c0_i32_326 : BitVec 32 := 0#32
  let v657 : BitVec 1 := Scalar.cmpi .slt v653 c0_i32_326
  let v658 : BitVec 32 := Scalar.extui v657
  let v659 : BitVec 32 := Scalar.subi v656 v658
  let c8_i32_324 : BitVec 32 := 8#32
  let c0_i32_327 : BitVec 32 := 0#32
  let v660 : BitVec 1 := Scalar.cmpi .sgt c8_i32_324 c0_i32_327
  let v661 : BitVec 32 := Scalar.extui v660
  let c0_i32_328 : BitVec 32 := 0#32
  let v662 : BitVec 1 := Scalar.cmpi .slt c8_i32_324 c0_i32_328
  let v663 : BitVec 32 := Scalar.extui v662
  let v664 : BitVec 32 := Scalar.subi v661 v663
  let v665 : BitVec 1 := Scalar.cmpi .ne v659 v664
  let v666 : BitVec 32 := Scalar.remsi v653 c8_i32_324
  let c0_i32_329 : BitVec 32 := 0#32
  let v667 : BitVec 1 := Scalar.cmpi .ne v666 c0_i32_329
  let v668 : BitVec 1 := Scalar.andi v665 v667
  let v654 : BitVec 32 := Scalar.divsi v653 c8_i32_324
  let c1_i32_330 : BitVec 32 := 1#32
  let v669 : BitVec 32 := Scalar.subi v654 c1_i32_330
  let v670 : BitVec 32 := Scalar.select v668 v669 v654
  let c8_i32_331 : BitVec 32 := 8#32
  let v671 : BitVec 32 := Scalar.muli v670 c8_i32_331
  let c128_i32_332 : BitVec 32 := 128#32
  let v674 : BitVec 32 := Scalar.muli v673 c128_i32_332
  ![v671.toNat, v674.toNat]

def k0_off26 (i : grid0.Coords) (v701 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32 : BitVec 32 := 24#32
  let v681 : BitVec 32 := Scalar.addi v2 c24_i32
  let c0_i32_339 : BitVec 32 := 0#32
  let v683 : BitVec 1 := Scalar.cmpi .sgt v681 c0_i32_339
  let v684 : BitVec 32 := Scalar.extui v683
  let c0_i32_340 : BitVec 32 := 0#32
  let v685 : BitVec 1 := Scalar.cmpi .slt v681 c0_i32_340
  let v686 : BitVec 32 := Scalar.extui v685
  let v687 : BitVec 32 := Scalar.subi v684 v686
  let c8_i32_338 : BitVec 32 := 8#32
  let c0_i32_341 : BitVec 32 := 0#32
  let v688 : BitVec 1 := Scalar.cmpi .sgt c8_i32_338 c0_i32_341
  let v689 : BitVec 32 := Scalar.extui v688
  let c0_i32_342 : BitVec 32 := 0#32
  let v690 : BitVec 1 := Scalar.cmpi .slt c8_i32_338 c0_i32_342
  let v691 : BitVec 32 := Scalar.extui v690
  let v692 : BitVec 32 := Scalar.subi v689 v691
  let v693 : BitVec 1 := Scalar.cmpi .ne v687 v692
  let v694 : BitVec 32 := Scalar.remsi v681 c8_i32_338
  let c0_i32_343 : BitVec 32 := 0#32
  let v695 : BitVec 1 := Scalar.cmpi .ne v694 c0_i32_343
  let v696 : BitVec 1 := Scalar.andi v693 v695
  let v682 : BitVec 32 := Scalar.divsi v681 c8_i32_338
  let c1_i32_344 : BitVec 32 := 1#32
  let v697 : BitVec 32 := Scalar.subi v682 c1_i32_344
  let v698 : BitVec 32 := Scalar.select v696 v697 v682
  let c8_i32_345 : BitVec 32 := 8#32
  let v699 : BitVec 32 := Scalar.muli v698 c8_i32_345
  let c128_i32_346 : BitVec 32 := 128#32
  let v702 : BitVec 32 := Scalar.muli v701 c128_i32_346
  ![v699.toNat, v702.toNat]

def k0_off27 (i : grid0.Coords) (v729 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c25_i32 : BitVec 32 := 25#32
  let v709 : BitVec 32 := Scalar.addi v2 c25_i32
  let c0_i32_353 : BitVec 32 := 0#32
  let v711 : BitVec 1 := Scalar.cmpi .sgt v709 c0_i32_353
  let v712 : BitVec 32 := Scalar.extui v711
  let c0_i32_354 : BitVec 32 := 0#32
  let v713 : BitVec 1 := Scalar.cmpi .slt v709 c0_i32_354
  let v714 : BitVec 32 := Scalar.extui v713
  let v715 : BitVec 32 := Scalar.subi v712 v714
  let c8_i32_352 : BitVec 32 := 8#32
  let c0_i32_355 : BitVec 32 := 0#32
  let v716 : BitVec 1 := Scalar.cmpi .sgt c8_i32_352 c0_i32_355
  let v717 : BitVec 32 := Scalar.extui v716
  let c0_i32_356 : BitVec 32 := 0#32
  let v718 : BitVec 1 := Scalar.cmpi .slt c8_i32_352 c0_i32_356
  let v719 : BitVec 32 := Scalar.extui v718
  let v720 : BitVec 32 := Scalar.subi v717 v719
  let v721 : BitVec 1 := Scalar.cmpi .ne v715 v720
  let v722 : BitVec 32 := Scalar.remsi v709 c8_i32_352
  let c0_i32_357 : BitVec 32 := 0#32
  let v723 : BitVec 1 := Scalar.cmpi .ne v722 c0_i32_357
  let v724 : BitVec 1 := Scalar.andi v721 v723
  let v710 : BitVec 32 := Scalar.divsi v709 c8_i32_352
  let c1_i32_358 : BitVec 32 := 1#32
  let v725 : BitVec 32 := Scalar.subi v710 c1_i32_358
  let v726 : BitVec 32 := Scalar.select v724 v725 v710
  let c8_i32_359 : BitVec 32 := 8#32
  let v727 : BitVec 32 := Scalar.muli v726 c8_i32_359
  let c128_i32_360 : BitVec 32 := 128#32
  let v730 : BitVec 32 := Scalar.muli v729 c128_i32_360
  ![v727.toNat, v730.toNat]

def k0_off28 (i : grid0.Coords) (v757 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c26_i32 : BitVec 32 := 26#32
  let v737 : BitVec 32 := Scalar.addi v2 c26_i32
  let c0_i32_367 : BitVec 32 := 0#32
  let v739 : BitVec 1 := Scalar.cmpi .sgt v737 c0_i32_367
  let v740 : BitVec 32 := Scalar.extui v739
  let c0_i32_368 : BitVec 32 := 0#32
  let v741 : BitVec 1 := Scalar.cmpi .slt v737 c0_i32_368
  let v742 : BitVec 32 := Scalar.extui v741
  let v743 : BitVec 32 := Scalar.subi v740 v742
  let c8_i32_366 : BitVec 32 := 8#32
  let c0_i32_369 : BitVec 32 := 0#32
  let v744 : BitVec 1 := Scalar.cmpi .sgt c8_i32_366 c0_i32_369
  let v745 : BitVec 32 := Scalar.extui v744
  let c0_i32_370 : BitVec 32 := 0#32
  let v746 : BitVec 1 := Scalar.cmpi .slt c8_i32_366 c0_i32_370
  let v747 : BitVec 32 := Scalar.extui v746
  let v748 : BitVec 32 := Scalar.subi v745 v747
  let v749 : BitVec 1 := Scalar.cmpi .ne v743 v748
  let v750 : BitVec 32 := Scalar.remsi v737 c8_i32_366
  let c0_i32_371 : BitVec 32 := 0#32
  let v751 : BitVec 1 := Scalar.cmpi .ne v750 c0_i32_371
  let v752 : BitVec 1 := Scalar.andi v749 v751
  let v738 : BitVec 32 := Scalar.divsi v737 c8_i32_366
  let c1_i32_372 : BitVec 32 := 1#32
  let v753 : BitVec 32 := Scalar.subi v738 c1_i32_372
  let v754 : BitVec 32 := Scalar.select v752 v753 v738
  let c8_i32_373 : BitVec 32 := 8#32
  let v755 : BitVec 32 := Scalar.muli v754 c8_i32_373
  let c128_i32_374 : BitVec 32 := 128#32
  let v758 : BitVec 32 := Scalar.muli v757 c128_i32_374
  ![v755.toNat, v758.toNat]

def k0_off29 (i : grid0.Coords) (v785 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c27_i32 : BitVec 32 := 27#32
  let v765 : BitVec 32 := Scalar.addi v2 c27_i32
  let c0_i32_381 : BitVec 32 := 0#32
  let v767 : BitVec 1 := Scalar.cmpi .sgt v765 c0_i32_381
  let v768 : BitVec 32 := Scalar.extui v767
  let c0_i32_382 : BitVec 32 := 0#32
  let v769 : BitVec 1 := Scalar.cmpi .slt v765 c0_i32_382
  let v770 : BitVec 32 := Scalar.extui v769
  let v771 : BitVec 32 := Scalar.subi v768 v770
  let c8_i32_380 : BitVec 32 := 8#32
  let c0_i32_383 : BitVec 32 := 0#32
  let v772 : BitVec 1 := Scalar.cmpi .sgt c8_i32_380 c0_i32_383
  let v773 : BitVec 32 := Scalar.extui v772
  let c0_i32_384 : BitVec 32 := 0#32
  let v774 : BitVec 1 := Scalar.cmpi .slt c8_i32_380 c0_i32_384
  let v775 : BitVec 32 := Scalar.extui v774
  let v776 : BitVec 32 := Scalar.subi v773 v775
  let v777 : BitVec 1 := Scalar.cmpi .ne v771 v776
  let v778 : BitVec 32 := Scalar.remsi v765 c8_i32_380
  let c0_i32_385 : BitVec 32 := 0#32
  let v779 : BitVec 1 := Scalar.cmpi .ne v778 c0_i32_385
  let v780 : BitVec 1 := Scalar.andi v777 v779
  let v766 : BitVec 32 := Scalar.divsi v765 c8_i32_380
  let c1_i32_386 : BitVec 32 := 1#32
  let v781 : BitVec 32 := Scalar.subi v766 c1_i32_386
  let v782 : BitVec 32 := Scalar.select v780 v781 v766
  let c8_i32_387 : BitVec 32 := 8#32
  let v783 : BitVec 32 := Scalar.muli v782 c8_i32_387
  let c128_i32_388 : BitVec 32 := 128#32
  let v786 : BitVec 32 := Scalar.muli v785 c128_i32_388
  ![v783.toNat, v786.toNat]

def k0_off30 (i : grid0.Coords) (v813 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c28_i32 : BitVec 32 := 28#32
  let v793 : BitVec 32 := Scalar.addi v2 c28_i32
  let c0_i32_395 : BitVec 32 := 0#32
  let v795 : BitVec 1 := Scalar.cmpi .sgt v793 c0_i32_395
  let v796 : BitVec 32 := Scalar.extui v795
  let c0_i32_396 : BitVec 32 := 0#32
  let v797 : BitVec 1 := Scalar.cmpi .slt v793 c0_i32_396
  let v798 : BitVec 32 := Scalar.extui v797
  let v799 : BitVec 32 := Scalar.subi v796 v798
  let c8_i32_394 : BitVec 32 := 8#32
  let c0_i32_397 : BitVec 32 := 0#32
  let v800 : BitVec 1 := Scalar.cmpi .sgt c8_i32_394 c0_i32_397
  let v801 : BitVec 32 := Scalar.extui v800
  let c0_i32_398 : BitVec 32 := 0#32
  let v802 : BitVec 1 := Scalar.cmpi .slt c8_i32_394 c0_i32_398
  let v803 : BitVec 32 := Scalar.extui v802
  let v804 : BitVec 32 := Scalar.subi v801 v803
  let v805 : BitVec 1 := Scalar.cmpi .ne v799 v804
  let v806 : BitVec 32 := Scalar.remsi v793 c8_i32_394
  let c0_i32_399 : BitVec 32 := 0#32
  let v807 : BitVec 1 := Scalar.cmpi .ne v806 c0_i32_399
  let v808 : BitVec 1 := Scalar.andi v805 v807
  let v794 : BitVec 32 := Scalar.divsi v793 c8_i32_394
  let c1_i32_400 : BitVec 32 := 1#32
  let v809 : BitVec 32 := Scalar.subi v794 c1_i32_400
  let v810 : BitVec 32 := Scalar.select v808 v809 v794
  let c8_i32_401 : BitVec 32 := 8#32
  let v811 : BitVec 32 := Scalar.muli v810 c8_i32_401
  let c128_i32_402 : BitVec 32 := 128#32
  let v814 : BitVec 32 := Scalar.muli v813 c128_i32_402
  ![v811.toNat, v814.toNat]

def k0_off31 (i : grid0.Coords) (v841 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c29_i32 : BitVec 32 := 29#32
  let v821 : BitVec 32 := Scalar.addi v2 c29_i32
  let c0_i32_409 : BitVec 32 := 0#32
  let v823 : BitVec 1 := Scalar.cmpi .sgt v821 c0_i32_409
  let v824 : BitVec 32 := Scalar.extui v823
  let c0_i32_410 : BitVec 32 := 0#32
  let v825 : BitVec 1 := Scalar.cmpi .slt v821 c0_i32_410
  let v826 : BitVec 32 := Scalar.extui v825
  let v827 : BitVec 32 := Scalar.subi v824 v826
  let c8_i32_408 : BitVec 32 := 8#32
  let c0_i32_411 : BitVec 32 := 0#32
  let v828 : BitVec 1 := Scalar.cmpi .sgt c8_i32_408 c0_i32_411
  let v829 : BitVec 32 := Scalar.extui v828
  let c0_i32_412 : BitVec 32 := 0#32
  let v830 : BitVec 1 := Scalar.cmpi .slt c8_i32_408 c0_i32_412
  let v831 : BitVec 32 := Scalar.extui v830
  let v832 : BitVec 32 := Scalar.subi v829 v831
  let v833 : BitVec 1 := Scalar.cmpi .ne v827 v832
  let v834 : BitVec 32 := Scalar.remsi v821 c8_i32_408
  let c0_i32_413 : BitVec 32 := 0#32
  let v835 : BitVec 1 := Scalar.cmpi .ne v834 c0_i32_413
  let v836 : BitVec 1 := Scalar.andi v833 v835
  let v822 : BitVec 32 := Scalar.divsi v821 c8_i32_408
  let c1_i32_414 : BitVec 32 := 1#32
  let v837 : BitVec 32 := Scalar.subi v822 c1_i32_414
  let v838 : BitVec 32 := Scalar.select v836 v837 v822
  let c8_i32_415 : BitVec 32 := 8#32
  let v839 : BitVec 32 := Scalar.muli v838 c8_i32_415
  let c128_i32_416 : BitVec 32 := 128#32
  let v842 : BitVec 32 := Scalar.muli v841 c128_i32_416
  ![v839.toNat, v842.toNat]

def k0_off32 (i : grid0.Coords) (v869 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c30_i32 : BitVec 32 := 30#32
  let v849 : BitVec 32 := Scalar.addi v2 c30_i32
  let c0_i32_423 : BitVec 32 := 0#32
  let v851 : BitVec 1 := Scalar.cmpi .sgt v849 c0_i32_423
  let v852 : BitVec 32 := Scalar.extui v851
  let c0_i32_424 : BitVec 32 := 0#32
  let v853 : BitVec 1 := Scalar.cmpi .slt v849 c0_i32_424
  let v854 : BitVec 32 := Scalar.extui v853
  let v855 : BitVec 32 := Scalar.subi v852 v854
  let c8_i32_422 : BitVec 32 := 8#32
  let c0_i32_425 : BitVec 32 := 0#32
  let v856 : BitVec 1 := Scalar.cmpi .sgt c8_i32_422 c0_i32_425
  let v857 : BitVec 32 := Scalar.extui v856
  let c0_i32_426 : BitVec 32 := 0#32
  let v858 : BitVec 1 := Scalar.cmpi .slt c8_i32_422 c0_i32_426
  let v859 : BitVec 32 := Scalar.extui v858
  let v860 : BitVec 32 := Scalar.subi v857 v859
  let v861 : BitVec 1 := Scalar.cmpi .ne v855 v860
  let v862 : BitVec 32 := Scalar.remsi v849 c8_i32_422
  let c0_i32_427 : BitVec 32 := 0#32
  let v863 : BitVec 1 := Scalar.cmpi .ne v862 c0_i32_427
  let v864 : BitVec 1 := Scalar.andi v861 v863
  let v850 : BitVec 32 := Scalar.divsi v849 c8_i32_422
  let c1_i32_428 : BitVec 32 := 1#32
  let v865 : BitVec 32 := Scalar.subi v850 c1_i32_428
  let v866 : BitVec 32 := Scalar.select v864 v865 v850
  let c8_i32_429 : BitVec 32 := 8#32
  let v867 : BitVec 32 := Scalar.muli v866 c8_i32_429
  let c128_i32_430 : BitVec 32 := 128#32
  let v870 : BitVec 32 := Scalar.muli v869 c128_i32_430
  ![v867.toNat, v870.toNat]

def k0_off33 (i : grid0.Coords) (v897 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c31_i32 : BitVec 32 := 31#32
  let v877 : BitVec 32 := Scalar.addi v2 c31_i32
  let c0_i32_437 : BitVec 32 := 0#32
  let v879 : BitVec 1 := Scalar.cmpi .sgt v877 c0_i32_437
  let v880 : BitVec 32 := Scalar.extui v879
  let c0_i32_438 : BitVec 32 := 0#32
  let v881 : BitVec 1 := Scalar.cmpi .slt v877 c0_i32_438
  let v882 : BitVec 32 := Scalar.extui v881
  let v883 : BitVec 32 := Scalar.subi v880 v882
  let c8_i32_436 : BitVec 32 := 8#32
  let c0_i32_439 : BitVec 32 := 0#32
  let v884 : BitVec 1 := Scalar.cmpi .sgt c8_i32_436 c0_i32_439
  let v885 : BitVec 32 := Scalar.extui v884
  let c0_i32_440 : BitVec 32 := 0#32
  let v886 : BitVec 1 := Scalar.cmpi .slt c8_i32_436 c0_i32_440
  let v887 : BitVec 32 := Scalar.extui v886
  let v888 : BitVec 32 := Scalar.subi v885 v887
  let v889 : BitVec 1 := Scalar.cmpi .ne v883 v888
  let v890 : BitVec 32 := Scalar.remsi v877 c8_i32_436
  let c0_i32_441 : BitVec 32 := 0#32
  let v891 : BitVec 1 := Scalar.cmpi .ne v890 c0_i32_441
  let v892 : BitVec 1 := Scalar.andi v889 v891
  let v878 : BitVec 32 := Scalar.divsi v877 c8_i32_436
  let c1_i32_442 : BitVec 32 := 1#32
  let v893 : BitVec 32 := Scalar.subi v878 c1_i32_442
  let v894 : BitVec 32 := Scalar.select v892 v893 v878
  let c8_i32_443 : BitVec 32 := 8#32
  let v895 : BitVec 32 := Scalar.muli v894 c8_i32_443
  let c128_i32_444 : BitVec 32 := 128#32
  let v898 : BitVec 32 := Scalar.muli v897 c128_i32_444
  ![v895.toNat, v898.toNat]

def k0_chk32 (i : grid0.Coords) (v897 : BitVec 32) : Prop :=
  (∀ a, (k0_off33 i v897) a + S8x128.size a ≤ S1024x100096.size a)
theorem k0_off33_inb : ∀ (i : grid0.Coords) (v897 : BitVec 32) (k0_hw32 : k0_chk32 i v897), ∀ a, (k0_off33 i v897) a + S8x128.size a ≤ S1024x100096.size a := fun i v897 k0_hw32 => k0_hw32

def k0_off34 (i : grid0.Coords) (v26 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v6 : BitVec 32 := Scalar.addi v2 c0_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v6 c8_i32
  let c0_i32_4 : BitVec 32 := 0#32
  let v20 : BitVec 1 := Scalar.cmpi .ne v19 c0_i32_4
  let v21 : BitVec 1 := Scalar.andi v18 v20
  let v7 : BitVec 32 := Scalar.divsi v6 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let c128_i32 : BitVec 32 := 128#32
  let v27 : BitVec 32 := Scalar.muli v26 c128_i32
  ![v24.toNat, v27.toNat]

def k0_chk1 (i : grid0.Coords) (v26 : BitVec 32) : Prop :=
  (∀ a, (k0_off2 i v26) a + S8x128.size a ≤ S1024x100096.size a) ∧
  (∀ a, (k0_off34 i v26) a + S8x128.size a ≤ S1024x100096.size a)
theorem k0_off2_inb : ∀ (i : grid0.Coords) (v26 : BitVec 32) (k0_hw1 : k0_chk1 i v26), ∀ a, (k0_off2 i v26) a + S8x128.size a ≤ S1024x100096.size a := fun i v26 k0_hw1 => k0_hw1.1
theorem k0_off34_inb : ∀ (i : grid0.Coords) (v26 : BitVec 32) (k0_hw1 : k0_chk1 i v26), ∀ a, (k0_off34 i v26) a + S8x128.size a ≤ S1024x100096.size a := fun i v26 k0_hw1 => k0_hw1.2

def k0_off35 (i : grid0.Coords) (v54 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_11 : BitVec 32 := 1#32
  let v34 : BitVec 32 := Scalar.addi v2 c1_i32_11
  let c0_i32_13 : BitVec 32 := 0#32
  let v36 : BitVec 1 := Scalar.cmpi .sgt v34 c0_i32_13
  let v37 : BitVec 32 := Scalar.extui v36
  let c0_i32_14 : BitVec 32 := 0#32
  let v38 : BitVec 1 := Scalar.cmpi .slt v34 c0_i32_14
  let v39 : BitVec 32 := Scalar.extui v38
  let v40 : BitVec 32 := Scalar.subi v37 v39
  let c8_i32_12 : BitVec 32 := 8#32
  let c0_i32_15 : BitVec 32 := 0#32
  let v41 : BitVec 1 := Scalar.cmpi .sgt c8_i32_12 c0_i32_15
  let v42 : BitVec 32 := Scalar.extui v41
  let c0_i32_16 : BitVec 32 := 0#32
  let v43 : BitVec 1 := Scalar.cmpi .slt c8_i32_12 c0_i32_16
  let v44 : BitVec 32 := Scalar.extui v43
  let v45 : BitVec 32 := Scalar.subi v42 v44
  let v46 : BitVec 1 := Scalar.cmpi .ne v40 v45
  let v47 : BitVec 32 := Scalar.remsi v34 c8_i32_12
  let c0_i32_17 : BitVec 32 := 0#32
  let v48 : BitVec 1 := Scalar.cmpi .ne v47 c0_i32_17
  let v49 : BitVec 1 := Scalar.andi v46 v48
  let v35 : BitVec 32 := Scalar.divsi v34 c8_i32_12
  let c1_i32_18 : BitVec 32 := 1#32
  let v50 : BitVec 32 := Scalar.subi v35 c1_i32_18
  let v51 : BitVec 32 := Scalar.select v49 v50 v35
  let c8_i32_19 : BitVec 32 := 8#32
  let v52 : BitVec 32 := Scalar.muli v51 c8_i32_19
  let c128_i32_20 : BitVec 32 := 128#32
  let v55 : BitVec 32 := Scalar.muli v54 c128_i32_20
  ![v52.toNat, v55.toNat]

def k0_chk2 (i : grid0.Coords) (v54 : BitVec 32) : Prop :=
  (∀ a, (k0_off3 i v54) a + S8x128.size a ≤ S1024x100096.size a) ∧
  (∀ a, (k0_off35 i v54) a + S8x128.size a ≤ S1024x100096.size a)
theorem k0_off3_inb : ∀ (i : grid0.Coords) (v54 : BitVec 32) (k0_hw2 : k0_chk2 i v54), ∀ a, (k0_off3 i v54) a + S8x128.size a ≤ S1024x100096.size a := fun i v54 k0_hw2 => k0_hw2.1
theorem k0_off35_inb : ∀ (i : grid0.Coords) (v54 : BitVec 32) (k0_hw2 : k0_chk2 i v54), ∀ a, (k0_off35 i v54) a + S8x128.size a ≤ S1024x100096.size a := fun i v54 k0_hw2 => k0_hw2.2

def k0_off36 (i : grid0.Coords) (v82 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_26 : BitVec 32 := 2#32
  let v62 : BitVec 32 := Scalar.addi v2 c2_i32_26
  let c0_i32_28 : BitVec 32 := 0#32
  let v64 : BitVec 1 := Scalar.cmpi .sgt v62 c0_i32_28
  let v65 : BitVec 32 := Scalar.extui v64
  let c0_i32_29 : BitVec 32 := 0#32
  let v66 : BitVec 1 := Scalar.cmpi .slt v62 c0_i32_29
  let v67 : BitVec 32 := Scalar.extui v66
  let v68 : BitVec 32 := Scalar.subi v65 v67
  let c8_i32_27 : BitVec 32 := 8#32
  let c0_i32_30 : BitVec 32 := 0#32
  let v69 : BitVec 1 := Scalar.cmpi .sgt c8_i32_27 c0_i32_30
  let v70 : BitVec 32 := Scalar.extui v69
  let c0_i32_31 : BitVec 32 := 0#32
  let v71 : BitVec 1 := Scalar.cmpi .slt c8_i32_27 c0_i32_31
  let v72 : BitVec 32 := Scalar.extui v71
  let v73 : BitVec 32 := Scalar.subi v70 v72
  let v74 : BitVec 1 := Scalar.cmpi .ne v68 v73
  let v75 : BitVec 32 := Scalar.remsi v62 c8_i32_27
  let c0_i32_32 : BitVec 32 := 0#32
  let v76 : BitVec 1 := Scalar.cmpi .ne v75 c0_i32_32
  let v77 : BitVec 1 := Scalar.andi v74 v76
  let v63 : BitVec 32 := Scalar.divsi v62 c8_i32_27
  let c1_i32_33 : BitVec 32 := 1#32
  let v78 : BitVec 32 := Scalar.subi v63 c1_i32_33
  let v79 : BitVec 32 := Scalar.select v77 v78 v63
  let c8_i32_34 : BitVec 32 := 8#32
  let v80 : BitVec 32 := Scalar.muli v79 c8_i32_34
  let c128_i32_35 : BitVec 32 := 128#32
  let v83 : BitVec 32 := Scalar.muli v82 c128_i32_35
  ![v80.toNat, v83.toNat]

def k0_chk3 (i : grid0.Coords) (v82 : BitVec 32) : Prop :=
  (∀ a, (k0_off4 i v82) a + S8x128.size a ≤ S1024x100096.size a) ∧
  (∀ a, (k0_off36 i v82) a + S8x128.size a ≤ S1024x100096.size a)
theorem k0_off4_inb : ∀ (i : grid0.Coords) (v82 : BitVec 32) (k0_hw3 : k0_chk3 i v82), ∀ a, (k0_off4 i v82) a + S8x128.size a ≤ S1024x100096.size a := fun i v82 k0_hw3 => k0_hw3.1
theorem k0_off36_inb : ∀ (i : grid0.Coords) (v82 : BitVec 32) (k0_hw3 : k0_chk3 i v82), ∀ a, (k0_off36 i v82) a + S8x128.size a ≤ S1024x100096.size a := fun i v82 k0_hw3 => k0_hw3.2

def k0_off37 (i : grid0.Coords) (v110 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32 : BitVec 32 := 3#32
  let v90 : BitVec 32 := Scalar.addi v2 c3_i32
  let c0_i32_42 : BitVec 32 := 0#32
  let v92 : BitVec 1 := Scalar.cmpi .sgt v90 c0_i32_42
  let v93 : BitVec 32 := Scalar.extui v92
  let c0_i32_43 : BitVec 32 := 0#32
  let v94 : BitVec 1 := Scalar.cmpi .slt v90 c0_i32_43
  let v95 : BitVec 32 := Scalar.extui v94
  let v96 : BitVec 32 := Scalar.subi v93 v95
  let c8_i32_41 : BitVec 32 := 8#32
  let c0_i32_44 : BitVec 32 := 0#32
  let v97 : BitVec 1 := Scalar.cmpi .sgt c8_i32_41 c0_i32_44
  let v98 : BitVec 32 := Scalar.extui v97
  let c0_i32_45 : BitVec 32 := 0#32
  let v99 : BitVec 1 := Scalar.cmpi .slt c8_i32_41 c0_i32_45
  let v100 : BitVec 32 := Scalar.extui v99
  let v101 : BitVec 32 := Scalar.subi v98 v100
  let v102 : BitVec 1 := Scalar.cmpi .ne v96 v101
  let v103 : BitVec 32 := Scalar.remsi v90 c8_i32_41
  let c0_i32_46 : BitVec 32 := 0#32
  let v104 : BitVec 1 := Scalar.cmpi .ne v103 c0_i32_46
  let v105 : BitVec 1 := Scalar.andi v102 v104
  let v91 : BitVec 32 := Scalar.divsi v90 c8_i32_41
  let c1_i32_47 : BitVec 32 := 1#32
  let v106 : BitVec 32 := Scalar.subi v91 c1_i32_47
  let v107 : BitVec 32 := Scalar.select v105 v106 v91
  let c8_i32_48 : BitVec 32 := 8#32
  let v108 : BitVec 32 := Scalar.muli v107 c8_i32_48
  let c128_i32_49 : BitVec 32 := 128#32
  let v111 : BitVec 32 := Scalar.muli v110 c128_i32_49
  ![v108.toNat, v111.toNat]

def k0_chk4 (i : grid0.Coords) (v110 : BitVec 32) : Prop :=
  (∀ a, (k0_off5 i v110) a + S8x128.size a ≤ S1024x100096.size a) ∧
  (∀ a, (k0_off37 i v110) a + S8x128.size a ≤ S1024x100096.size a)
theorem k0_off5_inb : ∀ (i : grid0.Coords) (v110 : BitVec 32) (k0_hw4 : k0_chk4 i v110), ∀ a, (k0_off5 i v110) a + S8x128.size a ≤ S1024x100096.size a := fun i v110 k0_hw4 => k0_hw4.1
theorem k0_off37_inb : ∀ (i : grid0.Coords) (v110 : BitVec 32) (k0_hw4 : k0_chk4 i v110), ∀ a, (k0_off37 i v110) a + S8x128.size a ≤ S1024x100096.size a := fun i v110 k0_hw4 => k0_hw4.2

def k0_off38 (i : grid0.Coords) (v138 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c4_i32 : BitVec 32 := 4#32
  let v118 : BitVec 32 := Scalar.addi v2 c4_i32
  let c0_i32_56 : BitVec 32 := 0#32
  let v120 : BitVec 1 := Scalar.cmpi .sgt v118 c0_i32_56
  let v121 : BitVec 32 := Scalar.extui v120
  let c0_i32_57 : BitVec 32 := 0#32
  let v122 : BitVec 1 := Scalar.cmpi .slt v118 c0_i32_57
  let v123 : BitVec 32 := Scalar.extui v122
  let v124 : BitVec 32 := Scalar.subi v121 v123
  let c8_i32_55 : BitVec 32 := 8#32
  let c0_i32_58 : BitVec 32 := 0#32
  let v125 : BitVec 1 := Scalar.cmpi .sgt c8_i32_55 c0_i32_58
  let v126 : BitVec 32 := Scalar.extui v125
  let c0_i32_59 : BitVec 32 := 0#32
  let v127 : BitVec 1 := Scalar.cmpi .slt c8_i32_55 c0_i32_59
  let v128 : BitVec 32 := Scalar.extui v127
  let v129 : BitVec 32 := Scalar.subi v126 v128
  let v130 : BitVec 1 := Scalar.cmpi .ne v124 v129
  let v131 : BitVec 32 := Scalar.remsi v118 c8_i32_55
  let c0_i32_60 : BitVec 32 := 0#32
  let v132 : BitVec 1 := Scalar.cmpi .ne v131 c0_i32_60
  let v133 : BitVec 1 := Scalar.andi v130 v132
  let v119 : BitVec 32 := Scalar.divsi v118 c8_i32_55
  let c1_i32_61 : BitVec 32 := 1#32
  let v134 : BitVec 32 := Scalar.subi v119 c1_i32_61
  let v135 : BitVec 32 := Scalar.select v133 v134 v119
  let c8_i32_62 : BitVec 32 := 8#32
  let v136 : BitVec 32 := Scalar.muli v135 c8_i32_62
  let c128_i32_63 : BitVec 32 := 128#32
  let v139 : BitVec 32 := Scalar.muli v138 c128_i32_63
  ![v136.toNat, v139.toNat]

def k0_chk5 (i : grid0.Coords) (v138 : BitVec 32) : Prop :=
  (∀ a, (k0_off6 i v138) a + S8x128.size a ≤ S1024x100096.size a) ∧
  (∀ a, (k0_off38 i v138) a + S8x128.size a ≤ S1024x100096.size a)
theorem k0_off6_inb : ∀ (i : grid0.Coords) (v138 : BitVec 32) (k0_hw5 : k0_chk5 i v138), ∀ a, (k0_off6 i v138) a + S8x128.size a ≤ S1024x100096.size a := fun i v138 k0_hw5 => k0_hw5.1
theorem k0_off38_inb : ∀ (i : grid0.Coords) (v138 : BitVec 32) (k0_hw5 : k0_chk5 i v138), ∀ a, (k0_off38 i v138) a + S8x128.size a ≤ S1024x100096.size a := fun i v138 k0_hw5 => k0_hw5.2

def k0_off39 (i : grid0.Coords) (v166 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c5_i32 : BitVec 32 := 5#32
  let v146 : BitVec 32 := Scalar.addi v2 c5_i32
  let c0_i32_70 : BitVec 32 := 0#32
  let v148 : BitVec 1 := Scalar.cmpi .sgt v146 c0_i32_70
  let v149 : BitVec 32 := Scalar.extui v148
  let c0_i32_71 : BitVec 32 := 0#32
  let v150 : BitVec 1 := Scalar.cmpi .slt v146 c0_i32_71
  let v151 : BitVec 32 := Scalar.extui v150
  let v152 : BitVec 32 := Scalar.subi v149 v151
  let c8_i32_69 : BitVec 32 := 8#32
  let c0_i32_72 : BitVec 32 := 0#32
  let v153 : BitVec 1 := Scalar.cmpi .sgt c8_i32_69 c0_i32_72
  let v154 : BitVec 32 := Scalar.extui v153
  let c0_i32_73 : BitVec 32 := 0#32
  let v155 : BitVec 1 := Scalar.cmpi .slt c8_i32_69 c0_i32_73
  let v156 : BitVec 32 := Scalar.extui v155
  let v157 : BitVec 32 := Scalar.subi v154 v156
  let v158 : BitVec 1 := Scalar.cmpi .ne v152 v157
  let v159 : BitVec 32 := Scalar.remsi v146 c8_i32_69
  let c0_i32_74 : BitVec 32 := 0#32
  let v160 : BitVec 1 := Scalar.cmpi .ne v159 c0_i32_74
  let v161 : BitVec 1 := Scalar.andi v158 v160
  let v147 : BitVec 32 := Scalar.divsi v146 c8_i32_69
  let c1_i32_75 : BitVec 32 := 1#32
  let v162 : BitVec 32 := Scalar.subi v147 c1_i32_75
  let v163 : BitVec 32 := Scalar.select v161 v162 v147
  let c8_i32_76 : BitVec 32 := 8#32
  let v164 : BitVec 32 := Scalar.muli v163 c8_i32_76
  let c128_i32_77 : BitVec 32 := 128#32
  let v167 : BitVec 32 := Scalar.muli v166 c128_i32_77
  ![v164.toNat, v167.toNat]

def k0_chk6 (i : grid0.Coords) (v166 : BitVec 32) : Prop :=
  (∀ a, (k0_off7 i v166) a + S8x128.size a ≤ S1024x100096.size a) ∧
  (∀ a, (k0_off39 i v166) a + S8x128.size a ≤ S1024x100096.size a)
theorem k0_off7_inb : ∀ (i : grid0.Coords) (v166 : BitVec 32) (k0_hw6 : k0_chk6 i v166), ∀ a, (k0_off7 i v166) a + S8x128.size a ≤ S1024x100096.size a := fun i v166 k0_hw6 => k0_hw6.1
theorem k0_off39_inb : ∀ (i : grid0.Coords) (v166 : BitVec 32) (k0_hw6 : k0_chk6 i v166), ∀ a, (k0_off39 i v166) a + S8x128.size a ≤ S1024x100096.size a := fun i v166 k0_hw6 => k0_hw6.2

def k0_off40 (i : grid0.Coords) (v194 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c6_i32 : BitVec 32 := 6#32
  let v174 : BitVec 32 := Scalar.addi v2 c6_i32
  let c0_i32_84 : BitVec 32 := 0#32
  let v176 : BitVec 1 := Scalar.cmpi .sgt v174 c0_i32_84
  let v177 : BitVec 32 := Scalar.extui v176
  let c0_i32_85 : BitVec 32 := 0#32
  let v178 : BitVec 1 := Scalar.cmpi .slt v174 c0_i32_85
  let v179 : BitVec 32 := Scalar.extui v178
  let v180 : BitVec 32 := Scalar.subi v177 v179
  let c8_i32_83 : BitVec 32 := 8#32
  let c0_i32_86 : BitVec 32 := 0#32
  let v181 : BitVec 1 := Scalar.cmpi .sgt c8_i32_83 c0_i32_86
  let v182 : BitVec 32 := Scalar.extui v181
  let c0_i32_87 : BitVec 32 := 0#32
  let v183 : BitVec 1 := Scalar.cmpi .slt c8_i32_83 c0_i32_87
  let v184 : BitVec 32 := Scalar.extui v183
  let v185 : BitVec 32 := Scalar.subi v182 v184
  let v186 : BitVec 1 := Scalar.cmpi .ne v180 v185
  let v187 : BitVec 32 := Scalar.remsi v174 c8_i32_83
  let c0_i32_88 : BitVec 32 := 0#32
  let v188 : BitVec 1 := Scalar.cmpi .ne v187 c0_i32_88
  let v189 : BitVec 1 := Scalar.andi v186 v188
  let v175 : BitVec 32 := Scalar.divsi v174 c8_i32_83
  let c1_i32_89 : BitVec 32 := 1#32
  let v190 : BitVec 32 := Scalar.subi v175 c1_i32_89
  let v191 : BitVec 32 := Scalar.select v189 v190 v175
  let c8_i32_90 : BitVec 32 := 8#32
  let v192 : BitVec 32 := Scalar.muli v191 c8_i32_90
  let c128_i32_91 : BitVec 32 := 128#32
  let v195 : BitVec 32 := Scalar.muli v194 c128_i32_91
  ![v192.toNat, v195.toNat]

def k0_chk7 (i : grid0.Coords) (v194 : BitVec 32) : Prop :=
  (∀ a, (k0_off8 i v194) a + S8x128.size a ≤ S1024x100096.size a) ∧
  (∀ a, (k0_off40 i v194) a + S8x128.size a ≤ S1024x100096.size a)
theorem k0_off8_inb : ∀ (i : grid0.Coords) (v194 : BitVec 32) (k0_hw7 : k0_chk7 i v194), ∀ a, (k0_off8 i v194) a + S8x128.size a ≤ S1024x100096.size a := fun i v194 k0_hw7 => k0_hw7.1
theorem k0_off40_inb : ∀ (i : grid0.Coords) (v194 : BitVec 32) (k0_hw7 : k0_chk7 i v194), ∀ a, (k0_off40 i v194) a + S8x128.size a ≤ S1024x100096.size a := fun i v194 k0_hw7 => k0_hw7.2

def k0_off41 (i : grid0.Coords) (v222 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c7_i32_97 : BitVec 32 := 7#32
  let v202 : BitVec 32 := Scalar.addi v2 c7_i32_97
  let c0_i32_99 : BitVec 32 := 0#32
  let v204 : BitVec 1 := Scalar.cmpi .sgt v202 c0_i32_99
  let v205 : BitVec 32 := Scalar.extui v204
  let c0_i32_100 : BitVec 32 := 0#32
  let v206 : BitVec 1 := Scalar.cmpi .slt v202 c0_i32_100
  let v207 : BitVec 32 := Scalar.extui v206
  let v208 : BitVec 32 := Scalar.subi v205 v207
  let c8_i32_98 : BitVec 32 := 8#32
  let c0_i32_101 : BitVec 32 := 0#32
  let v209 : BitVec 1 := Scalar.cmpi .sgt c8_i32_98 c0_i32_101
  let v210 : BitVec 32 := Scalar.extui v209
  let c0_i32_102 : BitVec 32 := 0#32
  let v211 : BitVec 1 := Scalar.cmpi .slt c8_i32_98 c0_i32_102
  let v212 : BitVec 32 := Scalar.extui v211
  let v213 : BitVec 32 := Scalar.subi v210 v212
  let v214 : BitVec 1 := Scalar.cmpi .ne v208 v213
  let v215 : BitVec 32 := Scalar.remsi v202 c8_i32_98
  let c0_i32_103 : BitVec 32 := 0#32
  let v216 : BitVec 1 := Scalar.cmpi .ne v215 c0_i32_103
  let v217 : BitVec 1 := Scalar.andi v214 v216
  let v203 : BitVec 32 := Scalar.divsi v202 c8_i32_98
  let c1_i32_104 : BitVec 32 := 1#32
  let v218 : BitVec 32 := Scalar.subi v203 c1_i32_104
  let v219 : BitVec 32 := Scalar.select v217 v218 v203
  let c8_i32_105 : BitVec 32 := 8#32
  let v220 : BitVec 32 := Scalar.muli v219 c8_i32_105
  let c128_i32_106 : BitVec 32 := 128#32
  let v223 : BitVec 32 := Scalar.muli v222 c128_i32_106
  ![v220.toNat, v223.toNat]

def k0_chk8 (i : grid0.Coords) (v222 : BitVec 32) : Prop :=
  (∀ a, (k0_off9 i v222) a + S8x128.size a ≤ S1024x100096.size a) ∧
  (∀ a, (k0_off41 i v222) a + S8x128.size a ≤ S1024x100096.size a)
theorem k0_off9_inb : ∀ (i : grid0.Coords) (v222 : BitVec 32) (k0_hw8 : k0_chk8 i v222), ∀ a, (k0_off9 i v222) a + S8x128.size a ≤ S1024x100096.size a := fun i v222 k0_hw8 => k0_hw8.1
theorem k0_off41_inb : ∀ (i : grid0.Coords) (v222 : BitVec 32) (k0_hw8 : k0_chk8 i v222), ∀ a, (k0_off41 i v222) a + S8x128.size a ≤ S1024x100096.size a := fun i v222 k0_hw8 => k0_hw8.2

def k0_off42 (i : grid0.Coords) (v250 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_112 : BitVec 32 := 8#32
  let v230 : BitVec 32 := Scalar.addi v2 c8_i32_112
  let c0_i32_114 : BitVec 32 := 0#32
  let v232 : BitVec 1 := Scalar.cmpi .sgt v230 c0_i32_114
  let v233 : BitVec 32 := Scalar.extui v232
  let c0_i32_115 : BitVec 32 := 0#32
  let v234 : BitVec 1 := Scalar.cmpi .slt v230 c0_i32_115
  let v235 : BitVec 32 := Scalar.extui v234
  let v236 : BitVec 32 := Scalar.subi v233 v235
  let c8_i32_113 : BitVec 32 := 8#32
  let c0_i32_116 : BitVec 32 := 0#32
  let v237 : BitVec 1 := Scalar.cmpi .sgt c8_i32_113 c0_i32_116
  let v238 : BitVec 32 := Scalar.extui v237
  let c0_i32_117 : BitVec 32 := 0#32
  let v239 : BitVec 1 := Scalar.cmpi .slt c8_i32_113 c0_i32_117
  let v240 : BitVec 32 := Scalar.extui v239
  let v241 : BitVec 32 := Scalar.subi v238 v240
  let v242 : BitVec 1 := Scalar.cmpi .ne v236 v241
  let v243 : BitVec 32 := Scalar.remsi v230 c8_i32_113
  let c0_i32_118 : BitVec 32 := 0#32
  let v244 : BitVec 1 := Scalar.cmpi .ne v243 c0_i32_118
  let v245 : BitVec 1 := Scalar.andi v242 v244
  let v231 : BitVec 32 := Scalar.divsi v230 c8_i32_113
  let c1_i32_119 : BitVec 32 := 1#32
  let v246 : BitVec 32 := Scalar.subi v231 c1_i32_119
  let v247 : BitVec 32 := Scalar.select v245 v246 v231
  let c8_i32_120 : BitVec 32 := 8#32
  let v248 : BitVec 32 := Scalar.muli v247 c8_i32_120
  let c128_i32_121 : BitVec 32 := 128#32
  let v251 : BitVec 32 := Scalar.muli v250 c128_i32_121
  ![v248.toNat, v251.toNat]

def k0_chk9 (i : grid0.Coords) (v250 : BitVec 32) : Prop :=
  (∀ a, (k0_off10 i v250) a + S8x128.size a ≤ S1024x100096.size a) ∧
  (∀ a, (k0_off42 i v250) a + S8x128.size a ≤ S1024x100096.size a)
theorem k0_off10_inb : ∀ (i : grid0.Coords) (v250 : BitVec 32) (k0_hw9 : k0_chk9 i v250), ∀ a, (k0_off10 i v250) a + S8x128.size a ≤ S1024x100096.size a := fun i v250 k0_hw9 => k0_hw9.1
theorem k0_off42_inb : ∀ (i : grid0.Coords) (v250 : BitVec 32) (k0_hw9 : k0_chk9 i v250), ∀ a, (k0_off42 i v250) a + S8x128.size a ≤ S1024x100096.size a := fun i v250 k0_hw9 => k0_hw9.2

def k0_off43 (i : grid0.Coords) (v278 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c9_i32 : BitVec 32 := 9#32
  let v258 : BitVec 32 := Scalar.addi v2 c9_i32
  let c0_i32_128 : BitVec 32 := 0#32
  let v260 : BitVec 1 := Scalar.cmpi .sgt v258 c0_i32_128
  let v261 : BitVec 32 := Scalar.extui v260
  let c0_i32_129 : BitVec 32 := 0#32
  let v262 : BitVec 1 := Scalar.cmpi .slt v258 c0_i32_129
  let v263 : BitVec 32 := Scalar.extui v262
  let v264 : BitVec 32 := Scalar.subi v261 v263
  let c8_i32_127 : BitVec 32 := 8#32
  let c0_i32_130 : BitVec 32 := 0#32
  let v265 : BitVec 1 := Scalar.cmpi .sgt c8_i32_127 c0_i32_130
  let v266 : BitVec 32 := Scalar.extui v265
  let c0_i32_131 : BitVec 32 := 0#32
  let v267 : BitVec 1 := Scalar.cmpi .slt c8_i32_127 c0_i32_131
  let v268 : BitVec 32 := Scalar.extui v267
  let v269 : BitVec 32 := Scalar.subi v266 v268
  let v270 : BitVec 1 := Scalar.cmpi .ne v264 v269
  let v271 : BitVec 32 := Scalar.remsi v258 c8_i32_127
  let c0_i32_132 : BitVec 32 := 0#32
  let v272 : BitVec 1 := Scalar.cmpi .ne v271 c0_i32_132
  let v273 : BitVec 1 := Scalar.andi v270 v272
  let v259 : BitVec 32 := Scalar.divsi v258 c8_i32_127
  let c1_i32_133 : BitVec 32 := 1#32
  let v274 : BitVec 32 := Scalar.subi v259 c1_i32_133
  let v275 : BitVec 32 := Scalar.select v273 v274 v259
  let c8_i32_134 : BitVec 32 := 8#32
  let v276 : BitVec 32 := Scalar.muli v275 c8_i32_134
  let c128_i32_135 : BitVec 32 := 128#32
  let v279 : BitVec 32 := Scalar.muli v278 c128_i32_135
  ![v276.toNat, v279.toNat]

def k0_chk10 (i : grid0.Coords) (v278 : BitVec 32) : Prop :=
  (∀ a, (k0_off11 i v278) a + S8x128.size a ≤ S1024x100096.size a) ∧
  (∀ a, (k0_off43 i v278) a + S8x128.size a ≤ S1024x100096.size a)
theorem k0_off11_inb : ∀ (i : grid0.Coords) (v278 : BitVec 32) (k0_hw10 : k0_chk10 i v278), ∀ a, (k0_off11 i v278) a + S8x128.size a ≤ S1024x100096.size a := fun i v278 k0_hw10 => k0_hw10.1
theorem k0_off43_inb : ∀ (i : grid0.Coords) (v278 : BitVec 32) (k0_hw10 : k0_chk10 i v278), ∀ a, (k0_off43 i v278) a + S8x128.size a ≤ S1024x100096.size a := fun i v278 k0_hw10 => k0_hw10.2

def k0_off44 (i : grid0.Coords) (v306 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c10_i32 : BitVec 32 := 10#32
  let v286 : BitVec 32 := Scalar.addi v2 c10_i32
  let c0_i32_142 : BitVec 32 := 0#32
  let v288 : BitVec 1 := Scalar.cmpi .sgt v286 c0_i32_142
  let v289 : BitVec 32 := Scalar.extui v288
  let c0_i32_143 : BitVec 32 := 0#32
  let v290 : BitVec 1 := Scalar.cmpi .slt v286 c0_i32_143
  let v291 : BitVec 32 := Scalar.extui v290
  let v292 : BitVec 32 := Scalar.subi v289 v291
  let c8_i32_141 : BitVec 32 := 8#32
  let c0_i32_144 : BitVec 32 := 0#32
  let v293 : BitVec 1 := Scalar.cmpi .sgt c8_i32_141 c0_i32_144
  let v294 : BitVec 32 := Scalar.extui v293
  let c0_i32_145 : BitVec 32 := 0#32
  let v295 : BitVec 1 := Scalar.cmpi .slt c8_i32_141 c0_i32_145
  let v296 : BitVec 32 := Scalar.extui v295
  let v297 : BitVec 32 := Scalar.subi v294 v296
  let v298 : BitVec 1 := Scalar.cmpi .ne v292 v297
  let v299 : BitVec 32 := Scalar.remsi v286 c8_i32_141
  let c0_i32_146 : BitVec 32 := 0#32
  let v300 : BitVec 1 := Scalar.cmpi .ne v299 c0_i32_146
  let v301 : BitVec 1 := Scalar.andi v298 v300
  let v287 : BitVec 32 := Scalar.divsi v286 c8_i32_141
  let c1_i32_147 : BitVec 32 := 1#32
  let v302 : BitVec 32 := Scalar.subi v287 c1_i32_147
  let v303 : BitVec 32 := Scalar.select v301 v302 v287
  let c8_i32_148 : BitVec 32 := 8#32
  let v304 : BitVec 32 := Scalar.muli v303 c8_i32_148
  let c128_i32_149 : BitVec 32 := 128#32
  let v307 : BitVec 32 := Scalar.muli v306 c128_i32_149
  ![v304.toNat, v307.toNat]

def k0_chk11 (i : grid0.Coords) (v306 : BitVec 32) : Prop :=
  (∀ a, (k0_off12 i v306) a + S8x128.size a ≤ S1024x100096.size a) ∧
  (∀ a, (k0_off44 i v306) a + S8x128.size a ≤ S1024x100096.size a)
theorem k0_off12_inb : ∀ (i : grid0.Coords) (v306 : BitVec 32) (k0_hw11 : k0_chk11 i v306), ∀ a, (k0_off12 i v306) a + S8x128.size a ≤ S1024x100096.size a := fun i v306 k0_hw11 => k0_hw11.1
theorem k0_off44_inb : ∀ (i : grid0.Coords) (v306 : BitVec 32) (k0_hw11 : k0_chk11 i v306), ∀ a, (k0_off44 i v306) a + S8x128.size a ≤ S1024x100096.size a := fun i v306 k0_hw11 => k0_hw11.2

def k0_off45 (i : grid0.Coords) (v334 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c11_i32 : BitVec 32 := 11#32
  let v314 : BitVec 32 := Scalar.addi v2 c11_i32
  let c0_i32_156 : BitVec 32 := 0#32
  let v316 : BitVec 1 := Scalar.cmpi .sgt v314 c0_i32_156
  let v317 : BitVec 32 := Scalar.extui v316
  let c0_i32_157 : BitVec 32 := 0#32
  let v318 : BitVec 1 := Scalar.cmpi .slt v314 c0_i32_157
  let v319 : BitVec 32 := Scalar.extui v318
  let v320 : BitVec 32 := Scalar.subi v317 v319
  let c8_i32_155 : BitVec 32 := 8#32
  let c0_i32_158 : BitVec 32 := 0#32
  let v321 : BitVec 1 := Scalar.cmpi .sgt c8_i32_155 c0_i32_158
  let v322 : BitVec 32 := Scalar.extui v321
  let c0_i32_159 : BitVec 32 := 0#32
  let v323 : BitVec 1 := Scalar.cmpi .slt c8_i32_155 c0_i32_159
  let v324 : BitVec 32 := Scalar.extui v323
  let v325 : BitVec 32 := Scalar.subi v322 v324
  let v326 : BitVec 1 := Scalar.cmpi .ne v320 v325
  let v327 : BitVec 32 := Scalar.remsi v314 c8_i32_155
  let c0_i32_160 : BitVec 32 := 0#32
  let v328 : BitVec 1 := Scalar.cmpi .ne v327 c0_i32_160
  let v329 : BitVec 1 := Scalar.andi v326 v328
  let v315 : BitVec 32 := Scalar.divsi v314 c8_i32_155
  let c1_i32_161 : BitVec 32 := 1#32
  let v330 : BitVec 32 := Scalar.subi v315 c1_i32_161
  let v331 : BitVec 32 := Scalar.select v329 v330 v315
  let c8_i32_162 : BitVec 32 := 8#32
  let v332 : BitVec 32 := Scalar.muli v331 c8_i32_162
  let c128_i32_163 : BitVec 32 := 128#32
  let v335 : BitVec 32 := Scalar.muli v334 c128_i32_163
  ![v332.toNat, v335.toNat]

def k0_chk12 (i : grid0.Coords) (v334 : BitVec 32) : Prop :=
  (∀ a, (k0_off13 i v334) a + S8x128.size a ≤ S1024x100096.size a) ∧
  (∀ a, (k0_off45 i v334) a + S8x128.size a ≤ S1024x100096.size a)
theorem k0_off13_inb : ∀ (i : grid0.Coords) (v334 : BitVec 32) (k0_hw12 : k0_chk12 i v334), ∀ a, (k0_off13 i v334) a + S8x128.size a ≤ S1024x100096.size a := fun i v334 k0_hw12 => k0_hw12.1
theorem k0_off45_inb : ∀ (i : grid0.Coords) (v334 : BitVec 32) (k0_hw12 : k0_chk12 i v334), ∀ a, (k0_off45 i v334) a + S8x128.size a ≤ S1024x100096.size a := fun i v334 k0_hw12 => k0_hw12.2

def k0_off46 (i : grid0.Coords) (v362 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c12_i32 : BitVec 32 := 12#32
  let v342 : BitVec 32 := Scalar.addi v2 c12_i32
  let c0_i32_170 : BitVec 32 := 0#32
  let v344 : BitVec 1 := Scalar.cmpi .sgt v342 c0_i32_170
  let v345 : BitVec 32 := Scalar.extui v344
  let c0_i32_171 : BitVec 32 := 0#32
  let v346 : BitVec 1 := Scalar.cmpi .slt v342 c0_i32_171
  let v347 : BitVec 32 := Scalar.extui v346
  let v348 : BitVec 32 := Scalar.subi v345 v347
  let c8_i32_169 : BitVec 32 := 8#32
  let c0_i32_172 : BitVec 32 := 0#32
  let v349 : BitVec 1 := Scalar.cmpi .sgt c8_i32_169 c0_i32_172
  let v350 : BitVec 32 := Scalar.extui v349
  let c0_i32_173 : BitVec 32 := 0#32
  let v351 : BitVec 1 := Scalar.cmpi .slt c8_i32_169 c0_i32_173
  let v352 : BitVec 32 := Scalar.extui v351
  let v353 : BitVec 32 := Scalar.subi v350 v352
  let v354 : BitVec 1 := Scalar.cmpi .ne v348 v353
  let v355 : BitVec 32 := Scalar.remsi v342 c8_i32_169
  let c0_i32_174 : BitVec 32 := 0#32
  let v356 : BitVec 1 := Scalar.cmpi .ne v355 c0_i32_174
  let v357 : BitVec 1 := Scalar.andi v354 v356
  let v343 : BitVec 32 := Scalar.divsi v342 c8_i32_169
  let c1_i32_175 : BitVec 32 := 1#32
  let v358 : BitVec 32 := Scalar.subi v343 c1_i32_175
  let v359 : BitVec 32 := Scalar.select v357 v358 v343
  let c8_i32_176 : BitVec 32 := 8#32
  let v360 : BitVec 32 := Scalar.muli v359 c8_i32_176
  let c128_i32_177 : BitVec 32 := 128#32
  let v363 : BitVec 32 := Scalar.muli v362 c128_i32_177
  ![v360.toNat, v363.toNat]

def k0_chk13 (i : grid0.Coords) (v362 : BitVec 32) : Prop :=
  (∀ a, (k0_off14 i v362) a + S8x128.size a ≤ S1024x100096.size a) ∧
  (∀ a, (k0_off46 i v362) a + S8x128.size a ≤ S1024x100096.size a)
theorem k0_off14_inb : ∀ (i : grid0.Coords) (v362 : BitVec 32) (k0_hw13 : k0_chk13 i v362), ∀ a, (k0_off14 i v362) a + S8x128.size a ≤ S1024x100096.size a := fun i v362 k0_hw13 => k0_hw13.1
theorem k0_off46_inb : ∀ (i : grid0.Coords) (v362 : BitVec 32) (k0_hw13 : k0_chk13 i v362), ∀ a, (k0_off46 i v362) a + S8x128.size a ≤ S1024x100096.size a := fun i v362 k0_hw13 => k0_hw13.2

def k0_off47 (i : grid0.Coords) (v390 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c13_i32 : BitVec 32 := 13#32
  let v370 : BitVec 32 := Scalar.addi v2 c13_i32
  let c0_i32_184 : BitVec 32 := 0#32
  let v372 : BitVec 1 := Scalar.cmpi .sgt v370 c0_i32_184
  let v373 : BitVec 32 := Scalar.extui v372
  let c0_i32_185 : BitVec 32 := 0#32
  let v374 : BitVec 1 := Scalar.cmpi .slt v370 c0_i32_185
  let v375 : BitVec 32 := Scalar.extui v374
  let v376 : BitVec 32 := Scalar.subi v373 v375
  let c8_i32_183 : BitVec 32 := 8#32
  let c0_i32_186 : BitVec 32 := 0#32
  let v377 : BitVec 1 := Scalar.cmpi .sgt c8_i32_183 c0_i32_186
  let v378 : BitVec 32 := Scalar.extui v377
  let c0_i32_187 : BitVec 32 := 0#32
  let v379 : BitVec 1 := Scalar.cmpi .slt c8_i32_183 c0_i32_187
  let v380 : BitVec 32 := Scalar.extui v379
  let v381 : BitVec 32 := Scalar.subi v378 v380
  let v382 : BitVec 1 := Scalar.cmpi .ne v376 v381
  let v383 : BitVec 32 := Scalar.remsi v370 c8_i32_183
  let c0_i32_188 : BitVec 32 := 0#32
  let v384 : BitVec 1 := Scalar.cmpi .ne v383 c0_i32_188
  let v385 : BitVec 1 := Scalar.andi v382 v384
  let v371 : BitVec 32 := Scalar.divsi v370 c8_i32_183
  let c1_i32_189 : BitVec 32 := 1#32
  let v386 : BitVec 32 := Scalar.subi v371 c1_i32_189
  let v387 : BitVec 32 := Scalar.select v385 v386 v371
  let c8_i32_190 : BitVec 32 := 8#32
  let v388 : BitVec 32 := Scalar.muli v387 c8_i32_190
  let c128_i32_191 : BitVec 32 := 128#32
  let v391 : BitVec 32 := Scalar.muli v390 c128_i32_191
  ![v388.toNat, v391.toNat]

def k0_chk14 (i : grid0.Coords) (v390 : BitVec 32) : Prop :=
  (∀ a, (k0_off15 i v390) a + S8x128.size a ≤ S1024x100096.size a) ∧
  (∀ a, (k0_off47 i v390) a + S8x128.size a ≤ S1024x100096.size a)
theorem k0_off15_inb : ∀ (i : grid0.Coords) (v390 : BitVec 32) (k0_hw14 : k0_chk14 i v390), ∀ a, (k0_off15 i v390) a + S8x128.size a ≤ S1024x100096.size a := fun i v390 k0_hw14 => k0_hw14.1
theorem k0_off47_inb : ∀ (i : grid0.Coords) (v390 : BitVec 32) (k0_hw14 : k0_chk14 i v390), ∀ a, (k0_off47 i v390) a + S8x128.size a ≤ S1024x100096.size a := fun i v390 k0_hw14 => k0_hw14.2

def k0_off48 (i : grid0.Coords) (v418 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c14_i32 : BitVec 32 := 14#32
  let v398 : BitVec 32 := Scalar.addi v2 c14_i32
  let c0_i32_198 : BitVec 32 := 0#32
  let v400 : BitVec 1 := Scalar.cmpi .sgt v398 c0_i32_198
  let v401 : BitVec 32 := Scalar.extui v400
  let c0_i32_199 : BitVec 32 := 0#32
  let v402 : BitVec 1 := Scalar.cmpi .slt v398 c0_i32_199
  let v403 : BitVec 32 := Scalar.extui v402
  let v404 : BitVec 32 := Scalar.subi v401 v403
  let c8_i32_197 : BitVec 32 := 8#32
  let c0_i32_200 : BitVec 32 := 0#32
  let v405 : BitVec 1 := Scalar.cmpi .sgt c8_i32_197 c0_i32_200
  let v406 : BitVec 32 := Scalar.extui v405
  let c0_i32_201 : BitVec 32 := 0#32
  let v407 : BitVec 1 := Scalar.cmpi .slt c8_i32_197 c0_i32_201
  let v408 : BitVec 32 := Scalar.extui v407
  let v409 : BitVec 32 := Scalar.subi v406 v408
  let v410 : BitVec 1 := Scalar.cmpi .ne v404 v409
  let v411 : BitVec 32 := Scalar.remsi v398 c8_i32_197
  let c0_i32_202 : BitVec 32 := 0#32
  let v412 : BitVec 1 := Scalar.cmpi .ne v411 c0_i32_202
  let v413 : BitVec 1 := Scalar.andi v410 v412
  let v399 : BitVec 32 := Scalar.divsi v398 c8_i32_197
  let c1_i32_203 : BitVec 32 := 1#32
  let v414 : BitVec 32 := Scalar.subi v399 c1_i32_203
  let v415 : BitVec 32 := Scalar.select v413 v414 v399
  let c8_i32_204 : BitVec 32 := 8#32
  let v416 : BitVec 32 := Scalar.muli v415 c8_i32_204
  let c128_i32_205 : BitVec 32 := 128#32
  let v419 : BitVec 32 := Scalar.muli v418 c128_i32_205
  ![v416.toNat, v419.toNat]

def k0_chk15 (i : grid0.Coords) (v418 : BitVec 32) : Prop :=
  (∀ a, (k0_off16 i v418) a + S8x128.size a ≤ S1024x100096.size a) ∧
  (∀ a, (k0_off48 i v418) a + S8x128.size a ≤ S1024x100096.size a)
theorem k0_off16_inb : ∀ (i : grid0.Coords) (v418 : BitVec 32) (k0_hw15 : k0_chk15 i v418), ∀ a, (k0_off16 i v418) a + S8x128.size a ≤ S1024x100096.size a := fun i v418 k0_hw15 => k0_hw15.1
theorem k0_off48_inb : ∀ (i : grid0.Coords) (v418 : BitVec 32) (k0_hw15 : k0_chk15 i v418), ∀ a, (k0_off48 i v418) a + S8x128.size a ≤ S1024x100096.size a := fun i v418 k0_hw15 => k0_hw15.2

def k0_off49 (i : grid0.Coords) (v446 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c15_i32 : BitVec 32 := 15#32
  let v426 : BitVec 32 := Scalar.addi v2 c15_i32
  let c0_i32_212 : BitVec 32 := 0#32
  let v428 : BitVec 1 := Scalar.cmpi .sgt v426 c0_i32_212
  let v429 : BitVec 32 := Scalar.extui v428
  let c0_i32_213 : BitVec 32 := 0#32
  let v430 : BitVec 1 := Scalar.cmpi .slt v426 c0_i32_213
  let v431 : BitVec 32 := Scalar.extui v430
  let v432 : BitVec 32 := Scalar.subi v429 v431
  let c8_i32_211 : BitVec 32 := 8#32
  let c0_i32_214 : BitVec 32 := 0#32
  let v433 : BitVec 1 := Scalar.cmpi .sgt c8_i32_211 c0_i32_214
  let v434 : BitVec 32 := Scalar.extui v433
  let c0_i32_215 : BitVec 32 := 0#32
  let v435 : BitVec 1 := Scalar.cmpi .slt c8_i32_211 c0_i32_215
  let v436 : BitVec 32 := Scalar.extui v435
  let v437 : BitVec 32 := Scalar.subi v434 v436
  let v438 : BitVec 1 := Scalar.cmpi .ne v432 v437
  let v439 : BitVec 32 := Scalar.remsi v426 c8_i32_211
  let c0_i32_216 : BitVec 32 := 0#32
  let v440 : BitVec 1 := Scalar.cmpi .ne v439 c0_i32_216
  let v441 : BitVec 1 := Scalar.andi v438 v440
  let v427 : BitVec 32 := Scalar.divsi v426 c8_i32_211
  let c1_i32_217 : BitVec 32 := 1#32
  let v442 : BitVec 32 := Scalar.subi v427 c1_i32_217
  let v443 : BitVec 32 := Scalar.select v441 v442 v427
  let c8_i32_218 : BitVec 32 := 8#32
  let v444 : BitVec 32 := Scalar.muli v443 c8_i32_218
  let c128_i32_219 : BitVec 32 := 128#32
  let v447 : BitVec 32 := Scalar.muli v446 c128_i32_219
  ![v444.toNat, v447.toNat]

def k0_chk16 (i : grid0.Coords) (v446 : BitVec 32) : Prop :=
  (∀ a, (k0_off17 i v446) a + S8x128.size a ≤ S1024x100096.size a) ∧
  (∀ a, (k0_off49 i v446) a + S8x128.size a ≤ S1024x100096.size a)
theorem k0_off17_inb : ∀ (i : grid0.Coords) (v446 : BitVec 32) (k0_hw16 : k0_chk16 i v446), ∀ a, (k0_off17 i v446) a + S8x128.size a ≤ S1024x100096.size a := fun i v446 k0_hw16 => k0_hw16.1
theorem k0_off49_inb : ∀ (i : grid0.Coords) (v446 : BitVec 32) (k0_hw16 : k0_chk16 i v446), ∀ a, (k0_off49 i v446) a + S8x128.size a ≤ S1024x100096.size a := fun i v446 k0_hw16 => k0_hw16.2

def k0_off50 (i : grid0.Coords) (v477 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v457 : BitVec 32 := Scalar.addi v2 c16_i32
  let c0_i32_227 : BitVec 32 := 0#32
  let v459 : BitVec 1 := Scalar.cmpi .sgt v457 c0_i32_227
  let v460 : BitVec 32 := Scalar.extui v459
  let c0_i32_228 : BitVec 32 := 0#32
  let v461 : BitVec 1 := Scalar.cmpi .slt v457 c0_i32_228
  let v462 : BitVec 32 := Scalar.extui v461
  let v463 : BitVec 32 := Scalar.subi v460 v462
  let c8_i32_226 : BitVec 32 := 8#32
  let c0_i32_229 : BitVec 32 := 0#32
  let v464 : BitVec 1 := Scalar.cmpi .sgt c8_i32_226 c0_i32_229
  let v465 : BitVec 32 := Scalar.extui v464
  let c0_i32_230 : BitVec 32 := 0#32
  let v466 : BitVec 1 := Scalar.cmpi .slt c8_i32_226 c0_i32_230
  let v467 : BitVec 32 := Scalar.extui v466
  let v468 : BitVec 32 := Scalar.subi v465 v467
  let v469 : BitVec 1 := Scalar.cmpi .ne v463 v468
  let v470 : BitVec 32 := Scalar.remsi v457 c8_i32_226
  let c0_i32_231 : BitVec 32 := 0#32
  let v471 : BitVec 1 := Scalar.cmpi .ne v470 c0_i32_231
  let v472 : BitVec 1 := Scalar.andi v469 v471
  let v458 : BitVec 32 := Scalar.divsi v457 c8_i32_226
  let c1_i32_232 : BitVec 32 := 1#32
  let v473 : BitVec 32 := Scalar.subi v458 c1_i32_232
  let v474 : BitVec 32 := Scalar.select v472 v473 v458
  let c8_i32_233 : BitVec 32 := 8#32
  let v475 : BitVec 32 := Scalar.muli v474 c8_i32_233
  let c128_i32_234 : BitVec 32 := 128#32
  let v478 : BitVec 32 := Scalar.muli v477 c128_i32_234
  ![v475.toNat, v478.toNat]

def k0_chk17 (i : grid0.Coords) (v477 : BitVec 32) : Prop :=
  (∀ a, (k0_off18 i v477) a + S8x128.size a ≤ S1024x100096.size a) ∧
  (∀ a, (k0_off50 i v477) a + S8x128.size a ≤ S1024x100096.size a)
theorem k0_off18_inb : ∀ (i : grid0.Coords) (v477 : BitVec 32) (k0_hw17 : k0_chk17 i v477), ∀ a, (k0_off18 i v477) a + S8x128.size a ≤ S1024x100096.size a := fun i v477 k0_hw17 => k0_hw17.1
theorem k0_off50_inb : ∀ (i : grid0.Coords) (v477 : BitVec 32) (k0_hw17 : k0_chk17 i v477), ∀ a, (k0_off50 i v477) a + S8x128.size a ≤ S1024x100096.size a := fun i v477 k0_hw17 => k0_hw17.2

def k0_off51 (i : grid0.Coords) (v505 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c17_i32 : BitVec 32 := 17#32
  let v485 : BitVec 32 := Scalar.addi v2 c17_i32
  let c0_i32_241 : BitVec 32 := 0#32
  let v487 : BitVec 1 := Scalar.cmpi .sgt v485 c0_i32_241
  let v488 : BitVec 32 := Scalar.extui v487
  let c0_i32_242 : BitVec 32 := 0#32
  let v489 : BitVec 1 := Scalar.cmpi .slt v485 c0_i32_242
  let v490 : BitVec 32 := Scalar.extui v489
  let v491 : BitVec 32 := Scalar.subi v488 v490
  let c8_i32_240 : BitVec 32 := 8#32
  let c0_i32_243 : BitVec 32 := 0#32
  let v492 : BitVec 1 := Scalar.cmpi .sgt c8_i32_240 c0_i32_243
  let v493 : BitVec 32 := Scalar.extui v492
  let c0_i32_244 : BitVec 32 := 0#32
  let v494 : BitVec 1 := Scalar.cmpi .slt c8_i32_240 c0_i32_244
  let v495 : BitVec 32 := Scalar.extui v494
  let v496 : BitVec 32 := Scalar.subi v493 v495
  let v497 : BitVec 1 := Scalar.cmpi .ne v491 v496
  let v498 : BitVec 32 := Scalar.remsi v485 c8_i32_240
  let c0_i32_245 : BitVec 32 := 0#32
  let v499 : BitVec 1 := Scalar.cmpi .ne v498 c0_i32_245
  let v500 : BitVec 1 := Scalar.andi v497 v499
  let v486 : BitVec 32 := Scalar.divsi v485 c8_i32_240
  let c1_i32_246 : BitVec 32 := 1#32
  let v501 : BitVec 32 := Scalar.subi v486 c1_i32_246
  let v502 : BitVec 32 := Scalar.select v500 v501 v486
  let c8_i32_247 : BitVec 32 := 8#32
  let v503 : BitVec 32 := Scalar.muli v502 c8_i32_247
  let c128_i32_248 : BitVec 32 := 128#32
  let v506 : BitVec 32 := Scalar.muli v505 c128_i32_248
  ![v503.toNat, v506.toNat]

def k0_chk18 (i : grid0.Coords) (v505 : BitVec 32) : Prop :=
  (∀ a, (k0_off19 i v505) a + S8x128.size a ≤ S1024x100096.size a) ∧
  (∀ a, (k0_off51 i v505) a + S8x128.size a ≤ S1024x100096.size a)
theorem k0_off19_inb : ∀ (i : grid0.Coords) (v505 : BitVec 32) (k0_hw18 : k0_chk18 i v505), ∀ a, (k0_off19 i v505) a + S8x128.size a ≤ S1024x100096.size a := fun i v505 k0_hw18 => k0_hw18.1
theorem k0_off51_inb : ∀ (i : grid0.Coords) (v505 : BitVec 32) (k0_hw18 : k0_chk18 i v505), ∀ a, (k0_off51 i v505) a + S8x128.size a ≤ S1024x100096.size a := fun i v505 k0_hw18 => k0_hw18.2

def k0_off52 (i : grid0.Coords) (v533 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c18_i32 : BitVec 32 := 18#32
  let v513 : BitVec 32 := Scalar.addi v2 c18_i32
  let c0_i32_255 : BitVec 32 := 0#32
  let v515 : BitVec 1 := Scalar.cmpi .sgt v513 c0_i32_255
  let v516 : BitVec 32 := Scalar.extui v515
  let c0_i32_256 : BitVec 32 := 0#32
  let v517 : BitVec 1 := Scalar.cmpi .slt v513 c0_i32_256
  let v518 : BitVec 32 := Scalar.extui v517
  let v519 : BitVec 32 := Scalar.subi v516 v518
  let c8_i32_254 : BitVec 32 := 8#32
  let c0_i32_257 : BitVec 32 := 0#32
  let v520 : BitVec 1 := Scalar.cmpi .sgt c8_i32_254 c0_i32_257
  let v521 : BitVec 32 := Scalar.extui v520
  let c0_i32_258 : BitVec 32 := 0#32
  let v522 : BitVec 1 := Scalar.cmpi .slt c8_i32_254 c0_i32_258
  let v523 : BitVec 32 := Scalar.extui v522
  let v524 : BitVec 32 := Scalar.subi v521 v523
  let v525 : BitVec 1 := Scalar.cmpi .ne v519 v524
  let v526 : BitVec 32 := Scalar.remsi v513 c8_i32_254
  let c0_i32_259 : BitVec 32 := 0#32
  let v527 : BitVec 1 := Scalar.cmpi .ne v526 c0_i32_259
  let v528 : BitVec 1 := Scalar.andi v525 v527
  let v514 : BitVec 32 := Scalar.divsi v513 c8_i32_254
  let c1_i32_260 : BitVec 32 := 1#32
  let v529 : BitVec 32 := Scalar.subi v514 c1_i32_260
  let v530 : BitVec 32 := Scalar.select v528 v529 v514
  let c8_i32_261 : BitVec 32 := 8#32
  let v531 : BitVec 32 := Scalar.muli v530 c8_i32_261
  let c128_i32_262 : BitVec 32 := 128#32
  let v534 : BitVec 32 := Scalar.muli v533 c128_i32_262
  ![v531.toNat, v534.toNat]

def k0_chk19 (i : grid0.Coords) (v533 : BitVec 32) : Prop :=
  (∀ a, (k0_off20 i v533) a + S8x128.size a ≤ S1024x100096.size a) ∧
  (∀ a, (k0_off52 i v533) a + S8x128.size a ≤ S1024x100096.size a)
theorem k0_off20_inb : ∀ (i : grid0.Coords) (v533 : BitVec 32) (k0_hw19 : k0_chk19 i v533), ∀ a, (k0_off20 i v533) a + S8x128.size a ≤ S1024x100096.size a := fun i v533 k0_hw19 => k0_hw19.1
theorem k0_off52_inb : ∀ (i : grid0.Coords) (v533 : BitVec 32) (k0_hw19 : k0_chk19 i v533), ∀ a, (k0_off52 i v533) a + S8x128.size a ≤ S1024x100096.size a := fun i v533 k0_hw19 => k0_hw19.2

def k0_off53 (i : grid0.Coords) (v561 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c19_i32 : BitVec 32 := 19#32
  let v541 : BitVec 32 := Scalar.addi v2 c19_i32
  let c0_i32_269 : BitVec 32 := 0#32
  let v543 : BitVec 1 := Scalar.cmpi .sgt v541 c0_i32_269
  let v544 : BitVec 32 := Scalar.extui v543
  let c0_i32_270 : BitVec 32 := 0#32
  let v545 : BitVec 1 := Scalar.cmpi .slt v541 c0_i32_270
  let v546 : BitVec 32 := Scalar.extui v545
  let v547 : BitVec 32 := Scalar.subi v544 v546
  let c8_i32_268 : BitVec 32 := 8#32
  let c0_i32_271 : BitVec 32 := 0#32
  let v548 : BitVec 1 := Scalar.cmpi .sgt c8_i32_268 c0_i32_271
  let v549 : BitVec 32 := Scalar.extui v548
  let c0_i32_272 : BitVec 32 := 0#32
  let v550 : BitVec 1 := Scalar.cmpi .slt c8_i32_268 c0_i32_272
  let v551 : BitVec 32 := Scalar.extui v550
  let v552 : BitVec 32 := Scalar.subi v549 v551
  let v553 : BitVec 1 := Scalar.cmpi .ne v547 v552
  let v554 : BitVec 32 := Scalar.remsi v541 c8_i32_268
  let c0_i32_273 : BitVec 32 := 0#32
  let v555 : BitVec 1 := Scalar.cmpi .ne v554 c0_i32_273
  let v556 : BitVec 1 := Scalar.andi v553 v555
  let v542 : BitVec 32 := Scalar.divsi v541 c8_i32_268
  let c1_i32_274 : BitVec 32 := 1#32
  let v557 : BitVec 32 := Scalar.subi v542 c1_i32_274
  let v558 : BitVec 32 := Scalar.select v556 v557 v542
  let c8_i32_275 : BitVec 32 := 8#32
  let v559 : BitVec 32 := Scalar.muli v558 c8_i32_275
  let c128_i32_276 : BitVec 32 := 128#32
  let v562 : BitVec 32 := Scalar.muli v561 c128_i32_276
  ![v559.toNat, v562.toNat]

def k0_chk20 (i : grid0.Coords) (v561 : BitVec 32) : Prop :=
  (∀ a, (k0_off21 i v561) a + S8x128.size a ≤ S1024x100096.size a) ∧
  (∀ a, (k0_off53 i v561) a + S8x128.size a ≤ S1024x100096.size a)
theorem k0_off21_inb : ∀ (i : grid0.Coords) (v561 : BitVec 32) (k0_hw20 : k0_chk20 i v561), ∀ a, (k0_off21 i v561) a + S8x128.size a ≤ S1024x100096.size a := fun i v561 k0_hw20 => k0_hw20.1
theorem k0_off53_inb : ∀ (i : grid0.Coords) (v561 : BitVec 32) (k0_hw20 : k0_chk20 i v561), ∀ a, (k0_off53 i v561) a + S8x128.size a ≤ S1024x100096.size a := fun i v561 k0_hw20 => k0_hw20.2

def k0_off54 (i : grid0.Coords) (v589 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c20_i32 : BitVec 32 := 20#32
  let v569 : BitVec 32 := Scalar.addi v2 c20_i32
  let c0_i32_283 : BitVec 32 := 0#32
  let v571 : BitVec 1 := Scalar.cmpi .sgt v569 c0_i32_283
  let v572 : BitVec 32 := Scalar.extui v571
  let c0_i32_284 : BitVec 32 := 0#32
  let v573 : BitVec 1 := Scalar.cmpi .slt v569 c0_i32_284
  let v574 : BitVec 32 := Scalar.extui v573
  let v575 : BitVec 32 := Scalar.subi v572 v574
  let c8_i32_282 : BitVec 32 := 8#32
  let c0_i32_285 : BitVec 32 := 0#32
  let v576 : BitVec 1 := Scalar.cmpi .sgt c8_i32_282 c0_i32_285
  let v577 : BitVec 32 := Scalar.extui v576
  let c0_i32_286 : BitVec 32 := 0#32
  let v578 : BitVec 1 := Scalar.cmpi .slt c8_i32_282 c0_i32_286
  let v579 : BitVec 32 := Scalar.extui v578
  let v580 : BitVec 32 := Scalar.subi v577 v579
  let v581 : BitVec 1 := Scalar.cmpi .ne v575 v580
  let v582 : BitVec 32 := Scalar.remsi v569 c8_i32_282
  let c0_i32_287 : BitVec 32 := 0#32
  let v583 : BitVec 1 := Scalar.cmpi .ne v582 c0_i32_287
  let v584 : BitVec 1 := Scalar.andi v581 v583
  let v570 : BitVec 32 := Scalar.divsi v569 c8_i32_282
  let c1_i32_288 : BitVec 32 := 1#32
  let v585 : BitVec 32 := Scalar.subi v570 c1_i32_288
  let v586 : BitVec 32 := Scalar.select v584 v585 v570
  let c8_i32_289 : BitVec 32 := 8#32
  let v587 : BitVec 32 := Scalar.muli v586 c8_i32_289
  let c128_i32_290 : BitVec 32 := 128#32
  let v590 : BitVec 32 := Scalar.muli v589 c128_i32_290
  ![v587.toNat, v590.toNat]

def k0_chk21 (i : grid0.Coords) (v589 : BitVec 32) : Prop :=
  (∀ a, (k0_off22 i v589) a + S8x128.size a ≤ S1024x100096.size a) ∧
  (∀ a, (k0_off54 i v589) a + S8x128.size a ≤ S1024x100096.size a)
theorem k0_off22_inb : ∀ (i : grid0.Coords) (v589 : BitVec 32) (k0_hw21 : k0_chk21 i v589), ∀ a, (k0_off22 i v589) a + S8x128.size a ≤ S1024x100096.size a := fun i v589 k0_hw21 => k0_hw21.1
theorem k0_off54_inb : ∀ (i : grid0.Coords) (v589 : BitVec 32) (k0_hw21 : k0_chk21 i v589), ∀ a, (k0_off54 i v589) a + S8x128.size a ≤ S1024x100096.size a := fun i v589 k0_hw21 => k0_hw21.2

def k0_off55 (i : grid0.Coords) (v617 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c21_i32 : BitVec 32 := 21#32
  let v597 : BitVec 32 := Scalar.addi v2 c21_i32
  let c0_i32_297 : BitVec 32 := 0#32
  let v599 : BitVec 1 := Scalar.cmpi .sgt v597 c0_i32_297
  let v600 : BitVec 32 := Scalar.extui v599
  let c0_i32_298 : BitVec 32 := 0#32
  let v601 : BitVec 1 := Scalar.cmpi .slt v597 c0_i32_298
  let v602 : BitVec 32 := Scalar.extui v601
  let v603 : BitVec 32 := Scalar.subi v600 v602
  let c8_i32_296 : BitVec 32 := 8#32
  let c0_i32_299 : BitVec 32 := 0#32
  let v604 : BitVec 1 := Scalar.cmpi .sgt c8_i32_296 c0_i32_299
  let v605 : BitVec 32 := Scalar.extui v604
  let c0_i32_300 : BitVec 32 := 0#32
  let v606 : BitVec 1 := Scalar.cmpi .slt c8_i32_296 c0_i32_300
  let v607 : BitVec 32 := Scalar.extui v606
  let v608 : BitVec 32 := Scalar.subi v605 v607
  let v609 : BitVec 1 := Scalar.cmpi .ne v603 v608
  let v610 : BitVec 32 := Scalar.remsi v597 c8_i32_296
  let c0_i32_301 : BitVec 32 := 0#32
  let v611 : BitVec 1 := Scalar.cmpi .ne v610 c0_i32_301
  let v612 : BitVec 1 := Scalar.andi v609 v611
  let v598 : BitVec 32 := Scalar.divsi v597 c8_i32_296
  let c1_i32_302 : BitVec 32 := 1#32
  let v613 : BitVec 32 := Scalar.subi v598 c1_i32_302
  let v614 : BitVec 32 := Scalar.select v612 v613 v598
  let c8_i32_303 : BitVec 32 := 8#32
  let v615 : BitVec 32 := Scalar.muli v614 c8_i32_303
  let c128_i32_304 : BitVec 32 := 128#32
  let v618 : BitVec 32 := Scalar.muli v617 c128_i32_304
  ![v615.toNat, v618.toNat]

def k0_chk22 (i : grid0.Coords) (v617 : BitVec 32) : Prop :=
  (∀ a, (k0_off23 i v617) a + S8x128.size a ≤ S1024x100096.size a) ∧
  (∀ a, (k0_off55 i v617) a + S8x128.size a ≤ S1024x100096.size a)
theorem k0_off23_inb : ∀ (i : grid0.Coords) (v617 : BitVec 32) (k0_hw22 : k0_chk22 i v617), ∀ a, (k0_off23 i v617) a + S8x128.size a ≤ S1024x100096.size a := fun i v617 k0_hw22 => k0_hw22.1
theorem k0_off55_inb : ∀ (i : grid0.Coords) (v617 : BitVec 32) (k0_hw22 : k0_chk22 i v617), ∀ a, (k0_off55 i v617) a + S8x128.size a ≤ S1024x100096.size a := fun i v617 k0_hw22 => k0_hw22.2

def k0_off56 (i : grid0.Coords) (v645 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c22_i32 : BitVec 32 := 22#32
  let v625 : BitVec 32 := Scalar.addi v2 c22_i32
  let c0_i32_311 : BitVec 32 := 0#32
  let v627 : BitVec 1 := Scalar.cmpi .sgt v625 c0_i32_311
  let v628 : BitVec 32 := Scalar.extui v627
  let c0_i32_312 : BitVec 32 := 0#32
  let v629 : BitVec 1 := Scalar.cmpi .slt v625 c0_i32_312
  let v630 : BitVec 32 := Scalar.extui v629
  let v631 : BitVec 32 := Scalar.subi v628 v630
  let c8_i32_310 : BitVec 32 := 8#32
  let c0_i32_313 : BitVec 32 := 0#32
  let v632 : BitVec 1 := Scalar.cmpi .sgt c8_i32_310 c0_i32_313
  let v633 : BitVec 32 := Scalar.extui v632
  let c0_i32_314 : BitVec 32 := 0#32
  let v634 : BitVec 1 := Scalar.cmpi .slt c8_i32_310 c0_i32_314
  let v635 : BitVec 32 := Scalar.extui v634
  let v636 : BitVec 32 := Scalar.subi v633 v635
  let v637 : BitVec 1 := Scalar.cmpi .ne v631 v636
  let v638 : BitVec 32 := Scalar.remsi v625 c8_i32_310
  let c0_i32_315 : BitVec 32 := 0#32
  let v639 : BitVec 1 := Scalar.cmpi .ne v638 c0_i32_315
  let v640 : BitVec 1 := Scalar.andi v637 v639
  let v626 : BitVec 32 := Scalar.divsi v625 c8_i32_310
  let c1_i32_316 : BitVec 32 := 1#32
  let v641 : BitVec 32 := Scalar.subi v626 c1_i32_316
  let v642 : BitVec 32 := Scalar.select v640 v641 v626
  let c8_i32_317 : BitVec 32 := 8#32
  let v643 : BitVec 32 := Scalar.muli v642 c8_i32_317
  let c128_i32_318 : BitVec 32 := 128#32
  let v646 : BitVec 32 := Scalar.muli v645 c128_i32_318
  ![v643.toNat, v646.toNat]

def k0_chk23 (i : grid0.Coords) (v645 : BitVec 32) : Prop :=
  (∀ a, (k0_off24 i v645) a + S8x128.size a ≤ S1024x100096.size a) ∧
  (∀ a, (k0_off56 i v645) a + S8x128.size a ≤ S1024x100096.size a)
theorem k0_off24_inb : ∀ (i : grid0.Coords) (v645 : BitVec 32) (k0_hw23 : k0_chk23 i v645), ∀ a, (k0_off24 i v645) a + S8x128.size a ≤ S1024x100096.size a := fun i v645 k0_hw23 => k0_hw23.1
theorem k0_off56_inb : ∀ (i : grid0.Coords) (v645 : BitVec 32) (k0_hw23 : k0_chk23 i v645), ∀ a, (k0_off56 i v645) a + S8x128.size a ≤ S1024x100096.size a := fun i v645 k0_hw23 => k0_hw23.2

def k0_off57 (i : grid0.Coords) (v673 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c23_i32 : BitVec 32 := 23#32
  let v653 : BitVec 32 := Scalar.addi v2 c23_i32
  let c0_i32_325 : BitVec 32 := 0#32
  let v655 : BitVec 1 := Scalar.cmpi .sgt v653 c0_i32_325
  let v656 : BitVec 32 := Scalar.extui v655
  let c0_i32_326 : BitVec 32 := 0#32
  let v657 : BitVec 1 := Scalar.cmpi .slt v653 c0_i32_326
  let v658 : BitVec 32 := Scalar.extui v657
  let v659 : BitVec 32 := Scalar.subi v656 v658
  let c8_i32_324 : BitVec 32 := 8#32
  let c0_i32_327 : BitVec 32 := 0#32
  let v660 : BitVec 1 := Scalar.cmpi .sgt c8_i32_324 c0_i32_327
  let v661 : BitVec 32 := Scalar.extui v660
  let c0_i32_328 : BitVec 32 := 0#32
  let v662 : BitVec 1 := Scalar.cmpi .slt c8_i32_324 c0_i32_328
  let v663 : BitVec 32 := Scalar.extui v662
  let v664 : BitVec 32 := Scalar.subi v661 v663
  let v665 : BitVec 1 := Scalar.cmpi .ne v659 v664
  let v666 : BitVec 32 := Scalar.remsi v653 c8_i32_324
  let c0_i32_329 : BitVec 32 := 0#32
  let v667 : BitVec 1 := Scalar.cmpi .ne v666 c0_i32_329
  let v668 : BitVec 1 := Scalar.andi v665 v667
  let v654 : BitVec 32 := Scalar.divsi v653 c8_i32_324
  let c1_i32_330 : BitVec 32 := 1#32
  let v669 : BitVec 32 := Scalar.subi v654 c1_i32_330
  let v670 : BitVec 32 := Scalar.select v668 v669 v654
  let c8_i32_331 : BitVec 32 := 8#32
  let v671 : BitVec 32 := Scalar.muli v670 c8_i32_331
  let c128_i32_332 : BitVec 32 := 128#32
  let v674 : BitVec 32 := Scalar.muli v673 c128_i32_332
  ![v671.toNat, v674.toNat]

def k0_chk24 (i : grid0.Coords) (v673 : BitVec 32) : Prop :=
  (∀ a, (k0_off25 i v673) a + S8x128.size a ≤ S1024x100096.size a) ∧
  (∀ a, (k0_off57 i v673) a + S8x128.size a ≤ S1024x100096.size a)
theorem k0_off25_inb : ∀ (i : grid0.Coords) (v673 : BitVec 32) (k0_hw24 : k0_chk24 i v673), ∀ a, (k0_off25 i v673) a + S8x128.size a ≤ S1024x100096.size a := fun i v673 k0_hw24 => k0_hw24.1
theorem k0_off57_inb : ∀ (i : grid0.Coords) (v673 : BitVec 32) (k0_hw24 : k0_chk24 i v673), ∀ a, (k0_off57 i v673) a + S8x128.size a ≤ S1024x100096.size a := fun i v673 k0_hw24 => k0_hw24.2

def k0_off58 (i : grid0.Coords) (v701 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32 : BitVec 32 := 24#32
  let v681 : BitVec 32 := Scalar.addi v2 c24_i32
  let c0_i32_339 : BitVec 32 := 0#32
  let v683 : BitVec 1 := Scalar.cmpi .sgt v681 c0_i32_339
  let v684 : BitVec 32 := Scalar.extui v683
  let c0_i32_340 : BitVec 32 := 0#32
  let v685 : BitVec 1 := Scalar.cmpi .slt v681 c0_i32_340
  let v686 : BitVec 32 := Scalar.extui v685
  let v687 : BitVec 32 := Scalar.subi v684 v686
  let c8_i32_338 : BitVec 32 := 8#32
  let c0_i32_341 : BitVec 32 := 0#32
  let v688 : BitVec 1 := Scalar.cmpi .sgt c8_i32_338 c0_i32_341
  let v689 : BitVec 32 := Scalar.extui v688
  let c0_i32_342 : BitVec 32 := 0#32
  let v690 : BitVec 1 := Scalar.cmpi .slt c8_i32_338 c0_i32_342
  let v691 : BitVec 32 := Scalar.extui v690
  let v692 : BitVec 32 := Scalar.subi v689 v691
  let v693 : BitVec 1 := Scalar.cmpi .ne v687 v692
  let v694 : BitVec 32 := Scalar.remsi v681 c8_i32_338
  let c0_i32_343 : BitVec 32 := 0#32
  let v695 : BitVec 1 := Scalar.cmpi .ne v694 c0_i32_343
  let v696 : BitVec 1 := Scalar.andi v693 v695
  let v682 : BitVec 32 := Scalar.divsi v681 c8_i32_338
  let c1_i32_344 : BitVec 32 := 1#32
  let v697 : BitVec 32 := Scalar.subi v682 c1_i32_344
  let v698 : BitVec 32 := Scalar.select v696 v697 v682
  let c8_i32_345 : BitVec 32 := 8#32
  let v699 : BitVec 32 := Scalar.muli v698 c8_i32_345
  let c128_i32_346 : BitVec 32 := 128#32
  let v702 : BitVec 32 := Scalar.muli v701 c128_i32_346
  ![v699.toNat, v702.toNat]

def k0_chk25 (i : grid0.Coords) (v701 : BitVec 32) : Prop :=
  (∀ a, (k0_off26 i v701) a + S8x128.size a ≤ S1024x100096.size a) ∧
  (∀ a, (k0_off58 i v701) a + S8x128.size a ≤ S1024x100096.size a)
theorem k0_off26_inb : ∀ (i : grid0.Coords) (v701 : BitVec 32) (k0_hw25 : k0_chk25 i v701), ∀ a, (k0_off26 i v701) a + S8x128.size a ≤ S1024x100096.size a := fun i v701 k0_hw25 => k0_hw25.1
theorem k0_off58_inb : ∀ (i : grid0.Coords) (v701 : BitVec 32) (k0_hw25 : k0_chk25 i v701), ∀ a, (k0_off58 i v701) a + S8x128.size a ≤ S1024x100096.size a := fun i v701 k0_hw25 => k0_hw25.2

def k0_off59 (i : grid0.Coords) (v729 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c25_i32 : BitVec 32 := 25#32
  let v709 : BitVec 32 := Scalar.addi v2 c25_i32
  let c0_i32_353 : BitVec 32 := 0#32
  let v711 : BitVec 1 := Scalar.cmpi .sgt v709 c0_i32_353
  let v712 : BitVec 32 := Scalar.extui v711
  let c0_i32_354 : BitVec 32 := 0#32
  let v713 : BitVec 1 := Scalar.cmpi .slt v709 c0_i32_354
  let v714 : BitVec 32 := Scalar.extui v713
  let v715 : BitVec 32 := Scalar.subi v712 v714
  let c8_i32_352 : BitVec 32 := 8#32
  let c0_i32_355 : BitVec 32 := 0#32
  let v716 : BitVec 1 := Scalar.cmpi .sgt c8_i32_352 c0_i32_355
  let v717 : BitVec 32 := Scalar.extui v716
  let c0_i32_356 : BitVec 32 := 0#32
  let v718 : BitVec 1 := Scalar.cmpi .slt c8_i32_352 c0_i32_356
  let v719 : BitVec 32 := Scalar.extui v718
  let v720 : BitVec 32 := Scalar.subi v717 v719
  let v721 : BitVec 1 := Scalar.cmpi .ne v715 v720
  let v722 : BitVec 32 := Scalar.remsi v709 c8_i32_352
  let c0_i32_357 : BitVec 32 := 0#32
  let v723 : BitVec 1 := Scalar.cmpi .ne v722 c0_i32_357
  let v724 : BitVec 1 := Scalar.andi v721 v723
  let v710 : BitVec 32 := Scalar.divsi v709 c8_i32_352
  let c1_i32_358 : BitVec 32 := 1#32
  let v725 : BitVec 32 := Scalar.subi v710 c1_i32_358
  let v726 : BitVec 32 := Scalar.select v724 v725 v710
  let c8_i32_359 : BitVec 32 := 8#32
  let v727 : BitVec 32 := Scalar.muli v726 c8_i32_359
  let c128_i32_360 : BitVec 32 := 128#32
  let v730 : BitVec 32 := Scalar.muli v729 c128_i32_360
  ![v727.toNat, v730.toNat]

def k0_chk26 (i : grid0.Coords) (v729 : BitVec 32) : Prop :=
  (∀ a, (k0_off27 i v729) a + S8x128.size a ≤ S1024x100096.size a) ∧
  (∀ a, (k0_off59 i v729) a + S8x128.size a ≤ S1024x100096.size a)
theorem k0_off27_inb : ∀ (i : grid0.Coords) (v729 : BitVec 32) (k0_hw26 : k0_chk26 i v729), ∀ a, (k0_off27 i v729) a + S8x128.size a ≤ S1024x100096.size a := fun i v729 k0_hw26 => k0_hw26.1
theorem k0_off59_inb : ∀ (i : grid0.Coords) (v729 : BitVec 32) (k0_hw26 : k0_chk26 i v729), ∀ a, (k0_off59 i v729) a + S8x128.size a ≤ S1024x100096.size a := fun i v729 k0_hw26 => k0_hw26.2

def k0_off60 (i : grid0.Coords) (v757 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c26_i32 : BitVec 32 := 26#32
  let v737 : BitVec 32 := Scalar.addi v2 c26_i32
  let c0_i32_367 : BitVec 32 := 0#32
  let v739 : BitVec 1 := Scalar.cmpi .sgt v737 c0_i32_367
  let v740 : BitVec 32 := Scalar.extui v739
  let c0_i32_368 : BitVec 32 := 0#32
  let v741 : BitVec 1 := Scalar.cmpi .slt v737 c0_i32_368
  let v742 : BitVec 32 := Scalar.extui v741
  let v743 : BitVec 32 := Scalar.subi v740 v742
  let c8_i32_366 : BitVec 32 := 8#32
  let c0_i32_369 : BitVec 32 := 0#32
  let v744 : BitVec 1 := Scalar.cmpi .sgt c8_i32_366 c0_i32_369
  let v745 : BitVec 32 := Scalar.extui v744
  let c0_i32_370 : BitVec 32 := 0#32
  let v746 : BitVec 1 := Scalar.cmpi .slt c8_i32_366 c0_i32_370
  let v747 : BitVec 32 := Scalar.extui v746
  let v748 : BitVec 32 := Scalar.subi v745 v747
  let v749 : BitVec 1 := Scalar.cmpi .ne v743 v748
  let v750 : BitVec 32 := Scalar.remsi v737 c8_i32_366
  let c0_i32_371 : BitVec 32 := 0#32
  let v751 : BitVec 1 := Scalar.cmpi .ne v750 c0_i32_371
  let v752 : BitVec 1 := Scalar.andi v749 v751
  let v738 : BitVec 32 := Scalar.divsi v737 c8_i32_366
  let c1_i32_372 : BitVec 32 := 1#32
  let v753 : BitVec 32 := Scalar.subi v738 c1_i32_372
  let v754 : BitVec 32 := Scalar.select v752 v753 v738
  let c8_i32_373 : BitVec 32 := 8#32
  let v755 : BitVec 32 := Scalar.muli v754 c8_i32_373
  let c128_i32_374 : BitVec 32 := 128#32
  let v758 : BitVec 32 := Scalar.muli v757 c128_i32_374
  ![v755.toNat, v758.toNat]

def k0_chk27 (i : grid0.Coords) (v757 : BitVec 32) : Prop :=
  (∀ a, (k0_off28 i v757) a + S8x128.size a ≤ S1024x100096.size a) ∧
  (∀ a, (k0_off60 i v757) a + S8x128.size a ≤ S1024x100096.size a)
theorem k0_off28_inb : ∀ (i : grid0.Coords) (v757 : BitVec 32) (k0_hw27 : k0_chk27 i v757), ∀ a, (k0_off28 i v757) a + S8x128.size a ≤ S1024x100096.size a := fun i v757 k0_hw27 => k0_hw27.1
theorem k0_off60_inb : ∀ (i : grid0.Coords) (v757 : BitVec 32) (k0_hw27 : k0_chk27 i v757), ∀ a, (k0_off60 i v757) a + S8x128.size a ≤ S1024x100096.size a := fun i v757 k0_hw27 => k0_hw27.2

def k0_off61 (i : grid0.Coords) (v785 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c27_i32 : BitVec 32 := 27#32
  let v765 : BitVec 32 := Scalar.addi v2 c27_i32
  let c0_i32_381 : BitVec 32 := 0#32
  let v767 : BitVec 1 := Scalar.cmpi .sgt v765 c0_i32_381
  let v768 : BitVec 32 := Scalar.extui v767
  let c0_i32_382 : BitVec 32 := 0#32
  let v769 : BitVec 1 := Scalar.cmpi .slt v765 c0_i32_382
  let v770 : BitVec 32 := Scalar.extui v769
  let v771 : BitVec 32 := Scalar.subi v768 v770
  let c8_i32_380 : BitVec 32 := 8#32
  let c0_i32_383 : BitVec 32 := 0#32
  let v772 : BitVec 1 := Scalar.cmpi .sgt c8_i32_380 c0_i32_383
  let v773 : BitVec 32 := Scalar.extui v772
  let c0_i32_384 : BitVec 32 := 0#32
  let v774 : BitVec 1 := Scalar.cmpi .slt c8_i32_380 c0_i32_384
  let v775 : BitVec 32 := Scalar.extui v774
  let v776 : BitVec 32 := Scalar.subi v773 v775
  let v777 : BitVec 1 := Scalar.cmpi .ne v771 v776
  let v778 : BitVec 32 := Scalar.remsi v765 c8_i32_380
  let c0_i32_385 : BitVec 32 := 0#32
  let v779 : BitVec 1 := Scalar.cmpi .ne v778 c0_i32_385
  let v780 : BitVec 1 := Scalar.andi v777 v779
  let v766 : BitVec 32 := Scalar.divsi v765 c8_i32_380
  let c1_i32_386 : BitVec 32 := 1#32
  let v781 : BitVec 32 := Scalar.subi v766 c1_i32_386
  let v782 : BitVec 32 := Scalar.select v780 v781 v766
  let c8_i32_387 : BitVec 32 := 8#32
  let v783 : BitVec 32 := Scalar.muli v782 c8_i32_387
  let c128_i32_388 : BitVec 32 := 128#32
  let v786 : BitVec 32 := Scalar.muli v785 c128_i32_388
  ![v783.toNat, v786.toNat]

def k0_chk28 (i : grid0.Coords) (v785 : BitVec 32) : Prop :=
  (∀ a, (k0_off29 i v785) a + S8x128.size a ≤ S1024x100096.size a) ∧
  (∀ a, (k0_off61 i v785) a + S8x128.size a ≤ S1024x100096.size a)
theorem k0_off29_inb : ∀ (i : grid0.Coords) (v785 : BitVec 32) (k0_hw28 : k0_chk28 i v785), ∀ a, (k0_off29 i v785) a + S8x128.size a ≤ S1024x100096.size a := fun i v785 k0_hw28 => k0_hw28.1
theorem k0_off61_inb : ∀ (i : grid0.Coords) (v785 : BitVec 32) (k0_hw28 : k0_chk28 i v785), ∀ a, (k0_off61 i v785) a + S8x128.size a ≤ S1024x100096.size a := fun i v785 k0_hw28 => k0_hw28.2

def k0_off62 (i : grid0.Coords) (v813 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c28_i32 : BitVec 32 := 28#32
  let v793 : BitVec 32 := Scalar.addi v2 c28_i32
  let c0_i32_395 : BitVec 32 := 0#32
  let v795 : BitVec 1 := Scalar.cmpi .sgt v793 c0_i32_395
  let v796 : BitVec 32 := Scalar.extui v795
  let c0_i32_396 : BitVec 32 := 0#32
  let v797 : BitVec 1 := Scalar.cmpi .slt v793 c0_i32_396
  let v798 : BitVec 32 := Scalar.extui v797
  let v799 : BitVec 32 := Scalar.subi v796 v798
  let c8_i32_394 : BitVec 32 := 8#32
  let c0_i32_397 : BitVec 32 := 0#32
  let v800 : BitVec 1 := Scalar.cmpi .sgt c8_i32_394 c0_i32_397
  let v801 : BitVec 32 := Scalar.extui v800
  let c0_i32_398 : BitVec 32 := 0#32
  let v802 : BitVec 1 := Scalar.cmpi .slt c8_i32_394 c0_i32_398
  let v803 : BitVec 32 := Scalar.extui v802
  let v804 : BitVec 32 := Scalar.subi v801 v803
  let v805 : BitVec 1 := Scalar.cmpi .ne v799 v804
  let v806 : BitVec 32 := Scalar.remsi v793 c8_i32_394
  let c0_i32_399 : BitVec 32 := 0#32
  let v807 : BitVec 1 := Scalar.cmpi .ne v806 c0_i32_399
  let v808 : BitVec 1 := Scalar.andi v805 v807
  let v794 : BitVec 32 := Scalar.divsi v793 c8_i32_394
  let c1_i32_400 : BitVec 32 := 1#32
  let v809 : BitVec 32 := Scalar.subi v794 c1_i32_400
  let v810 : BitVec 32 := Scalar.select v808 v809 v794
  let c8_i32_401 : BitVec 32 := 8#32
  let v811 : BitVec 32 := Scalar.muli v810 c8_i32_401
  let c128_i32_402 : BitVec 32 := 128#32
  let v814 : BitVec 32 := Scalar.muli v813 c128_i32_402
  ![v811.toNat, v814.toNat]

def k0_chk29 (i : grid0.Coords) (v813 : BitVec 32) : Prop :=
  (∀ a, (k0_off30 i v813) a + S8x128.size a ≤ S1024x100096.size a) ∧
  (∀ a, (k0_off62 i v813) a + S8x128.size a ≤ S1024x100096.size a)
theorem k0_off30_inb : ∀ (i : grid0.Coords) (v813 : BitVec 32) (k0_hw29 : k0_chk29 i v813), ∀ a, (k0_off30 i v813) a + S8x128.size a ≤ S1024x100096.size a := fun i v813 k0_hw29 => k0_hw29.1
theorem k0_off62_inb : ∀ (i : grid0.Coords) (v813 : BitVec 32) (k0_hw29 : k0_chk29 i v813), ∀ a, (k0_off62 i v813) a + S8x128.size a ≤ S1024x100096.size a := fun i v813 k0_hw29 => k0_hw29.2

def k0_off63 (i : grid0.Coords) (v841 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c29_i32 : BitVec 32 := 29#32
  let v821 : BitVec 32 := Scalar.addi v2 c29_i32
  let c0_i32_409 : BitVec 32 := 0#32
  let v823 : BitVec 1 := Scalar.cmpi .sgt v821 c0_i32_409
  let v824 : BitVec 32 := Scalar.extui v823
  let c0_i32_410 : BitVec 32 := 0#32
  let v825 : BitVec 1 := Scalar.cmpi .slt v821 c0_i32_410
  let v826 : BitVec 32 := Scalar.extui v825
  let v827 : BitVec 32 := Scalar.subi v824 v826
  let c8_i32_408 : BitVec 32 := 8#32
  let c0_i32_411 : BitVec 32 := 0#32
  let v828 : BitVec 1 := Scalar.cmpi .sgt c8_i32_408 c0_i32_411
  let v829 : BitVec 32 := Scalar.extui v828
  let c0_i32_412 : BitVec 32 := 0#32
  let v830 : BitVec 1 := Scalar.cmpi .slt c8_i32_408 c0_i32_412
  let v831 : BitVec 32 := Scalar.extui v830
  let v832 : BitVec 32 := Scalar.subi v829 v831
  let v833 : BitVec 1 := Scalar.cmpi .ne v827 v832
  let v834 : BitVec 32 := Scalar.remsi v821 c8_i32_408
  let c0_i32_413 : BitVec 32 := 0#32
  let v835 : BitVec 1 := Scalar.cmpi .ne v834 c0_i32_413
  let v836 : BitVec 1 := Scalar.andi v833 v835
  let v822 : BitVec 32 := Scalar.divsi v821 c8_i32_408
  let c1_i32_414 : BitVec 32 := 1#32
  let v837 : BitVec 32 := Scalar.subi v822 c1_i32_414
  let v838 : BitVec 32 := Scalar.select v836 v837 v822
  let c8_i32_415 : BitVec 32 := 8#32
  let v839 : BitVec 32 := Scalar.muli v838 c8_i32_415
  let c128_i32_416 : BitVec 32 := 128#32
  let v842 : BitVec 32 := Scalar.muli v841 c128_i32_416
  ![v839.toNat, v842.toNat]

def k0_chk30 (i : grid0.Coords) (v841 : BitVec 32) : Prop :=
  (∀ a, (k0_off31 i v841) a + S8x128.size a ≤ S1024x100096.size a) ∧
  (∀ a, (k0_off63 i v841) a + S8x128.size a ≤ S1024x100096.size a)
theorem k0_off31_inb : ∀ (i : grid0.Coords) (v841 : BitVec 32) (k0_hw30 : k0_chk30 i v841), ∀ a, (k0_off31 i v841) a + S8x128.size a ≤ S1024x100096.size a := fun i v841 k0_hw30 => k0_hw30.1
theorem k0_off63_inb : ∀ (i : grid0.Coords) (v841 : BitVec 32) (k0_hw30 : k0_chk30 i v841), ∀ a, (k0_off63 i v841) a + S8x128.size a ≤ S1024x100096.size a := fun i v841 k0_hw30 => k0_hw30.2

def k0_off64 (i : grid0.Coords) (v869 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c30_i32 : BitVec 32 := 30#32
  let v849 : BitVec 32 := Scalar.addi v2 c30_i32
  let c0_i32_423 : BitVec 32 := 0#32
  let v851 : BitVec 1 := Scalar.cmpi .sgt v849 c0_i32_423
  let v852 : BitVec 32 := Scalar.extui v851
  let c0_i32_424 : BitVec 32 := 0#32
  let v853 : BitVec 1 := Scalar.cmpi .slt v849 c0_i32_424
  let v854 : BitVec 32 := Scalar.extui v853
  let v855 : BitVec 32 := Scalar.subi v852 v854
  let c8_i32_422 : BitVec 32 := 8#32
  let c0_i32_425 : BitVec 32 := 0#32
  let v856 : BitVec 1 := Scalar.cmpi .sgt c8_i32_422 c0_i32_425
  let v857 : BitVec 32 := Scalar.extui v856
  let c0_i32_426 : BitVec 32 := 0#32
  let v858 : BitVec 1 := Scalar.cmpi .slt c8_i32_422 c0_i32_426
  let v859 : BitVec 32 := Scalar.extui v858
  let v860 : BitVec 32 := Scalar.subi v857 v859
  let v861 : BitVec 1 := Scalar.cmpi .ne v855 v860
  let v862 : BitVec 32 := Scalar.remsi v849 c8_i32_422
  let c0_i32_427 : BitVec 32 := 0#32
  let v863 : BitVec 1 := Scalar.cmpi .ne v862 c0_i32_427
  let v864 : BitVec 1 := Scalar.andi v861 v863
  let v850 : BitVec 32 := Scalar.divsi v849 c8_i32_422
  let c1_i32_428 : BitVec 32 := 1#32
  let v865 : BitVec 32 := Scalar.subi v850 c1_i32_428
  let v866 : BitVec 32 := Scalar.select v864 v865 v850
  let c8_i32_429 : BitVec 32 := 8#32
  let v867 : BitVec 32 := Scalar.muli v866 c8_i32_429
  let c128_i32_430 : BitVec 32 := 128#32
  let v870 : BitVec 32 := Scalar.muli v869 c128_i32_430
  ![v867.toNat, v870.toNat]

def k0_chk31 (i : grid0.Coords) (v869 : BitVec 32) : Prop :=
  (∀ a, (k0_off32 i v869) a + S8x128.size a ≤ S1024x100096.size a) ∧
  (∀ a, (k0_off64 i v869) a + S8x128.size a ≤ S1024x100096.size a)
theorem k0_off32_inb : ∀ (i : grid0.Coords) (v869 : BitVec 32) (k0_hw31 : k0_chk31 i v869), ∀ a, (k0_off32 i v869) a + S8x128.size a ≤ S1024x100096.size a := fun i v869 k0_hw31 => k0_hw31.1
theorem k0_off64_inb : ∀ (i : grid0.Coords) (v869 : BitVec 32) (k0_hw31 : k0_chk31 i v869), ∀ a, (k0_off64 i v869) a + S8x128.size a ≤ S1024x100096.size a := fun i v869 k0_hw31 => k0_hw31.2

def k0_chk33 (v1102 : IVec S16 32) (v1105 : IVec S16 32) (v1123 : IVec S16 32) : Prop :=
  (∀ a x, ((![v1105, v1123, v1102] : Fin 3 → IVec S16 32) a x).toNat < S32x8x128.size a)
theorem k0_idx1_inb : ∀ (v1102 : IVec S16 32) (v1105 : IVec S16 32) (v1123 : IVec S16 32) (k0_hw33 : k0_chk33 v1102 v1105 v1123), ∀ a x, ((![v1105, v1123, v1102] : Fin 3 → IVec S16 32) a x).toNat < S32x8x128.size a := fun v1102 v1105 v1123 k0_hw33 => k0_hw33

def k0_chk34 (v1131 : IVec S16 32) (v1134 : IVec S16 32) (v1152 : IVec S16 32) : Prop :=
  (∀ a x, ((![v1134, v1152, v1131] : Fin 3 → IVec S16 32) a x).toNat < S32x8x128.size a)
theorem k0_idx2_inb : ∀ (v1131 : IVec S16 32) (v1134 : IVec S16 32) (v1152 : IVec S16 32) (k0_hw34 : k0_chk34 v1131 v1134 v1152), ∀ a x, ((![v1134, v1152, v1131] : Fin 3 → IVec S16 32) a x).toNat < S32x8x128.size a := fun v1131 v1134 v1152 k0_hw34 => k0_hw34
def k0_off65 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨2, ![1, 28], ![false, false]⟩

def k1_cond3 (i : grid1.Coords) : BitVec 1 :=
  let arg1 : BitVec 32 := BitVec.ofNat 32 (i 1).val
  let c27_i32_2 : BitVec 32 := 27#32
  let v6 : BitVec 1 := Scalar.cmpi .eq arg1 c27_i32_2
  let v7 : BitVec 32 := Scalar.extui v6
  let c0_i32_3 : BitVec 32 := 0#32
  let v8 : BitVec 1 := Scalar.cmpi .ne v7 c0_i32_3
  v8

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x3584 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev grid2 : Pipeline.Grid := .none

abbrev stage2_0 : Fin 1 → Memref sig .tc .vmem S1x1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "peak" => some ((89999 / 99999 : ℝ) : EReal)
  | "smooth" => some ((1 / 999990 : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 53
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024x1, .f32⟩
  | .hbm, ⟨11, _⟩ => ⟨S1024x100000, .f32⟩
  | .hbm, ⟨12, _⟩ => ⟨S1024x100000, .f32⟩
  | .hbm, ⟨13, _⟩ => ⟨S1024x100000, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1, .f32⟩
  | .hbm, ⟨18, _⟩ => ⟨S1024x100000, .f32⟩
  | .hbm, ⟨19, _⟩ => ⟨S1024x100000, .f32⟩
  | .hbm, ⟨20, _⟩ => ⟨S_, .f32⟩
  | .hbm, ⟨21, _⟩ => ⟨S_, .f32⟩
  | .hbm, ⟨22, _⟩ => ⟨S1024x100000, .f32⟩
  | .hbm, ⟨23, _⟩ => ⟨S1024, .i32⟩
  | .hbm, ⟨24, _⟩ => ⟨S_, .f32⟩
  | .hbm, ⟨25, _⟩ => ⟨S_, .f32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S1024x1, .i32⟩
  | .hbm, ⟨41, _⟩ => ⟨S1024x1, .i32⟩
  | .hbm, ⟨42, _⟩ => ⟨S1024x2, .i32⟩
  | .hbm, ⟨43, _⟩ => ⟨S1024, .f32⟩
  | .hbm, ⟨44, _⟩ => ⟨S1024x100000, .f32⟩
  | .hbm, ⟨45, _⟩ => ⟨S1024x100000, .f32⟩
  | .hbm, ⟨46, _⟩ => ⟨S1024x100000, .f32⟩
  | .hbm, ⟨47, _⟩ => ⟨S_, .f32⟩
  | .hbm, ⟨48, _⟩ => ⟨S1024, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v1 : Ref sig .tc := ⟨.hbm, 19, rfl⟩
abbrev main_cst_1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_3 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_4 : Ref sig .tc := ⟨.hbm, 33, rfl⟩
abbrev main_v11 : Ref sig .tc := ⟨.hbm, 34, rfl⟩
abbrev main_v12 : Ref sig .tc := ⟨.hbm, 35, rfl⟩
abbrev main_c_5 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_cst_7 : Ref sig .tc := ⟨.hbm, 49, rfl⟩
abbrev main_v24 : Ref sig .tc := ⟨.hbm, 50, rfl⟩
abbrev main_cst_8 : Ref sig .tc := ⟨.hbm, 51, rfl⟩
abbrev main_v25 : Ref sig .tc := ⟨.hbm, 52, rfl⟩

abbrev nD : Nat := 1
abbrev τ : Topo := Topo.v7x

variable {F : FTy → Type} [FloatOps F]
-- ==== Proof.Offsets.lean ====
/-
  The integer side of the gather kernel: the word offsets of its copies, the checks on them, and the index vectors of
  its two indexed loads, each as a closed form of the tile's coordinates and of the target it serves.

  Tile `(c, s)` serves rows `base .. base + 31` with `base = 64 * s + 32 * c`. Copy `j` brings the block of 8 rows and
  128 columns that holds the element at row `base + j`, column `t` for the `j`-th target `t`.
-/
module

public import proofs.«01_k».proof.Proof.Gen.KernelIdeal
public import proofs.«01_k».proof.Proof.Gen.KernelIdeal.Skeleton
public import Idealize.ShloMosaic.Lib.Tactic

@[expose] public section

noncomputable section

namespace Cert.Proof.SC

open Cert.KernelIdeal Cert.KernelIdeal.Gen
open Idealize.ShloMosaic

/-! ## Scalars -/

/-- The first row of a tile, as the kernel computes it. -/
def baseW (i : grid0.Coords) : BitVec 32 :=
  Scalar.muli (Scalar.addi (Scalar.muli (BitVec.ofNat 32 (i 1).val) 2#32) (BitVec.ofNat 32 (i 0).val)) 32#32

/-- Eight times the quotient by eight rounded down, as the kernel computes it. -/
def down8 (r : BitVec 32) : BitVec 32 :=
  Scalar.muli (Scalar.select
    (Scalar.andi
      (Scalar.cmpi .ne
        (Scalar.subi (Scalar.extui (Scalar.cmpi .sgt r 0#32)) (Scalar.extui (Scalar.cmpi .slt r 0#32)))
        (Scalar.subi (Scalar.extui (Scalar.cmpi .sgt 8#32 0#32)) (Scalar.extui (Scalar.cmpi .slt 8#32 0#32))))
      (Scalar.cmpi .ne (Scalar.remsi r 8#32) 0#32))
    (Scalar.subi (Scalar.divsi r 8#32) 1#32) (Scalar.divsi r 8#32)) 8#32

/-- The remainder by eight, made non-negative, as the kernel computes it in each lane. -/
def mod8 (r : BitVec 32) : BitVec 32 :=
  Scalar.select
    (IntOp.andi (IntOp.xori (IntOp.cmpi .slt (IntOp.remsi .vector r 8#32) 0#32) (IntOp.cmpi .slt 8#32 0#32))
      (IntOp.cmpi .ne (IntOp.remsi .vector r 8#32) 0#32))
    (IntOp.addi (IntOp.remsi .vector r 8#32) 8#32) (IntOp.remsi .vector r 8#32)

/-- A tile's first row as a number. -/
def baseN (i : grid0.Coords) : ℕ := 64 * (i 1).val + 32 * (i 0).val

theorem lt0 (i : grid0.Coords) : (i 0).val < 2 := (i 0).isLt
theorem lt1 (i : grid0.Coords) : (i 1).val < 16 := (i 1).isLt

theorem baseN_le (i : grid0.Coords) : baseN i ≤ 992 := by
  have h0 := lt0 i
  have h1 := lt1 i
  unfold baseN; omega

theorem baseW_toNat (i : grid0.Coords) : (baseW i).toNat = baseN i := by
  have h0 := lt0 i
  have h1 := lt1 i
  unfold baseW baseN Scalar.muli Scalar.addi IntOp.muli IntOp.addi
  simp only [BitVec.toNat_mul, BitVec.toNat_add, BitVec.toNat_ofNat]
  omega

theorem down8_small : ∀ n : Fin 1024, (down8 (BitVec.ofNat 32 n.val)).toNat = n.val / 8 * 8 := by decide +kernel
theorem mod8_small : ∀ n : Fin 1024, (mod8 (BitVec.ofNat 32 n.val)).toNat = n.val % 8 := by decide +kernel

/-- Row `base + j` as the kernel's word. -/
theorem row_word (i : grid0.Coords) (j : Fin 32) :
    IntOp.addi (baseW i) (BitVec.ofNat 32 j.val) = BitVec.ofNat 32 (baseN i + j.val) := by
  apply BitVec.eq_of_toNat_eq
  have h := baseN_le i
  have hj := j.isLt
  unfold IntOp.addi
  rw [BitVec.toNat_add, baseW_toNat, BitVec.toNat_ofNat, BitVec.toNat_ofNat]
  omega

/-- The offsets of copy `j`: from the word of its row and the word `v` of its column block. -/
def offG (i : grid0.Coords) (c v : BitVec 32) : Fin 2 → Nat :=
  ![(down8 (Scalar.addi (baseW i) c)).toNat, (Scalar.muli v 128#32).toNat]

/-- The same in closed form, for the target `t`. -/
def offC (i : grid0.Coords) (j : Fin 32) (t : ℕ) : Fin 2 → Nat := ![(baseN i + j.val) / 8 * 8, t / 128 * 128]

theorem offG_eq (i : grid0.Coords) (j : Fin 32) (v : BitVec 32) (t : ℕ) (hv : v.toNat = t / 128) (ht : t < 100000) :
    offG i (BitVec.ofNat 32 j.val) v = offC i j t := by
  have h := baseN_le i
  have hj := j.isLt
  unfold offG offC
  rw [show Scalar.addi (baseW i) (BitVec.ofNat 32 j.val) = _ from row_word i j,
    down8_small ⟨baseN i + j.val, by omega⟩,
    show (Scalar.muli v 128#32).toNat = t / 128 * 128 by
      unfold Scalar.muli IntOp.muli
      rw [BitVec.toNat_mul, hv]
      simp only [BitVec.toNat_ofNat]
      omega]

theorem offC_inb (i : grid0.Coords) (j : Fin 32) (t : ℕ) (ht : t < 100000) :
    ∀ a, offC i j t a + S8x128.size a ≤ S1024x100096.size a := by
  have h := baseN_le i
  have hj := j.isLt
  intro a
  match a with
  | 0 => show (baseN i + j.val) / 8 * 8 + 8 ≤ 1024; omega
  | 1 => show t / 128 * 128 + 128 ≤ 100096; omega

theorem offG_inb (i : grid0.Coords) (j : Fin 32) (v : BitVec 32) (t : ℕ) (hv : v.toNat = t / 128) (ht : t < 100000) :
    ∀ a, offG i (BitVec.ofNat 32 j.val) v a + S8x128.size a ≤ S1024x100096.size a := by
  rw [offG_eq i j v t hv ht]; exact offC_inb i j t ht

/-! ## Lanes -/

/-- Lane `k` of a vector of sixteen. -/
abbrev lane (k : Fin 16) : S16.Idx := fun | 0 => k

theorem idx16_eta (x : S16.Idx) : x = lane (x 0) := by
  funext a; match a with | 0 => rfl

/-- A lane of a vector, sliced out and extracted. -/
theorem lane_extract (k : Fin 16) (v : IVec S16 32) (h : S16.Slices ![k.val] S1) (hp) :
    extractAt ![0] (extractStridedSlice S1 ![k.val] v h) hp = v (lane k) := by
  unfold extractAt extractStridedSlice
  refine congrArg v (funext fun a => Fin.ext ?_)
  match a with
  | 0 => rfl

/-- The column block of a target: its word shifted right by seven. -/
theorem block_of (w : BitVec 32) : (IntOp.shrui .vector w 7#32).toNat = w.toNat / 128 := by
  unfold IntOp.shrui
  simp [Nat.shiftRight_eq_div_pow]

/-- The lane of a target in its column block. -/
theorem lane_of (w : BitVec 32) :
    (IntOp.subi w (IntOp.shli .vector (IntOp.shrui .vector w 7#32) 7#32)).toNat = w.toNat % 128 := by
  have hw := w.isLt
  have e : (IntOp.shli .vector (IntOp.shrui .vector w 7#32) 7#32).toNat = w.toNat / 128 * 128 := by
    unfold IntOp.shli IntOp.shrui
    simp [Nat.shiftRight_eq_div_pow, Nat.shiftLeft_eq]
    omega
  unfold IntOp.subi
  rw [BitVec.toNat_sub, e]
  omega

/-! ## The index vectors of the two gathers -/

section Idx
variable {F : FTy → Type} [FloatOps F] [Named F]

theorem pay2_toNat (v : Vec F S16 .i32) (x : S16.Idx) : (k0_pay2 v x).toNat = (v x).toNat / 128 := block_of (v x)
theorem pay19_toNat (v : Vec F S16 .i32) (x : S16.Idx) : (k0_pay19 v x).toNat = (v x).toNat / 128 := block_of (v x)
theorem pay36_toNat (v : Vec F S16 .i32) (x : S16.Idx) : (k0_pay36 v x).toNat = (v x).toNat % 128 := lane_of (v x)
theorem pay39_toNat (v : Vec F S16 .i32) (x : S16.Idx) : (k0_pay39 v x).toNat = (v x).toNat % 128 := lane_of (v x)

theorem pay37_eq (x : S16.Idx) : k0_pay37 x = BitVec.ofNat 32 (x 0).val := by
  rw [idx16_eta x]
  apply BitVec.eq_of_toNat_eq
  show (IntOp.addi (BitVec.ofNat 32 (0 * 16 + (x 0).val)) 0#32).toNat = _
  unfold IntOp.addi
  simp

theorem pay40_eq (x : S16.Idx) : k0_pay40 x = BitVec.ofNat 32 (16 + (x 0).val) := by
  rw [idx16_eta x]
  apply BitVec.eq_of_toNat_eq
  show (IntOp.addi (BitVec.ofNat 32 (0 * 16 + (x 0).val)) 16#32).toNat = _
  unfold IntOp.addi
  rw [BitVec.toNat_add]
  simp only [BitVec.toNat_ofNat]
  show _ = (16 + (x 0).val) % _
  omega

theorem lane_lt (x : S16.Idx) : (x 0).val < 16 := (x 0).isLt

theorem addi_comm' (x y : BitVec 32) : IntOp.addi x y = IntOp.addi y x := BitVec.add_comm x y

theorem pay38_toNat (i : grid0.Coords) (x : S16.Idx) :
    (k0_pay38 (baseW i) k0_pay37 x).toNat = (baseN i + (x 0).val) % 8 := by
  have h := baseN_le i
  have hx := lane_lt x
  have e : k0_pay38 (baseW i) k0_pay37 x = mod8 (IntOp.addi (k0_pay37 x) (baseW i)) := rfl
  rw [e, pay37_eq, addi_comm', show (x 0).val = (⟨(x 0).val, by omega⟩ : Fin 32).val from rfl, row_word,
    mod8_small ⟨_, by show baseN i + (x 0).val < 1024; omega⟩]

theorem pay1_toNat (i : grid0.Coords) (x : S16.Idx) :
    (k0_pay1 (Scalar.select (Scalar.cmpi .eq 8#32 0#32) 1#32 8#32) (k0_pay41 (baseW i)) (k0_pay42 (baseW i)) (k0_pay43 (baseW i))
      k0_pay44 x).toNat = (baseN i + (16 + (x 0).val)) % 8 := by
  have h := baseN_le i
  have hx := lane_lt x
  have e : k0_pay1 (Scalar.select (Scalar.cmpi .eq 8#32 0#32) 1#32 8#32) (k0_pay41 (baseW i)) (k0_pay42 (baseW i))
      (k0_pay43 (baseW i)) k0_pay44 x = mod8 (IntOp.addi (k0_pay40 x) (baseW i)) := rfl
  rw [e, pay40_eq, addi_comm', show 16 + (x 0).val = (⟨16 + (x 0).val, by omega⟩ : Fin 32).val from rfl, row_word,
    mod8_small ⟨_, by show baseN i + (16 + (x 0).val) < 1024; omega⟩]

theorem chk33_of (i : grid0.Coords) (v : Vec F S16 .i32) : k0_chk33 (k0_pay36 v) k0_pay37 (k0_pay38 (baseW i) k0_pay37) := by
  intro a x
  match a with
  | 0 => show (k0_pay37 x).toNat < 32; rw [pay37_eq, BitVec.toNat_ofNat]; have := lane_lt x; omega
  | 1 => show (k0_pay38 (baseW i) k0_pay37 x).toNat < 8; rw [pay38_toNat]; omega
  | 2 => show (k0_pay36 v x).toNat < 128; rw [pay36_toNat]; omega

theorem chk34_of (i : grid0.Coords) (v : Vec F S16 .i32) :
    k0_chk34 (k0_pay39 v) k0_pay40 (k0_pay1 (Scalar.select (Scalar.cmpi .eq 8#32 0#32) 1#32 8#32) (k0_pay41 (baseW i))
      (k0_pay42 (baseW i)) (k0_pay43 (baseW i)) k0_pay44) := by
  intro a x
  match a with
  | 0 => show (k0_pay40 x).toNat < 32; rw [pay40_eq, BitVec.toNat_ofNat]; have := lane_lt x; omega
  | 1 => show (k0_pay1 _ _ _ _ _ x).toNat < 8; rw [pay1_toNat]; omega
  | 2 => show (k0_pay39 v x).toNat < 128; rw [pay39_toNat]; omega

end Idx

example (i : grid0.Coords) (v : BitVec 32) : k0_off2 i v = offG i 0#32 v := rfl
example (i : grid0.Coords) (v : BitVec 32) : k0_off33 i v = offG i 31#32 v := rfl
example (i : grid0.Coords) (v : BitVec 32) : k0_off64 i v = offG i 30#32 v := rfl

end Cert.Proof.SC
-- ==== Proof.Common.lean ====
/-
  What the proof of the whole program shares: the program as the launch theorem of the SparseCore calls sees it, the
  resource algebra (the calls' handshakes, the pipelines' cells, the counted transfers), and the buffers by name.
-/
module

public import proofs.«01_k».proof.Defs
public import proofs.«01_k».proof.Proof.Offsets
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.ValueLayout
public import Idealize.ShloMosaic.Lib.Tactic

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' rounds and the counted transfers. -/
abbrev UX : Type := UR sig nD τ × Counters
abbrev UU : Type := UH × UX

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EX : Emb UX (MT nD τ sig (HIx 1) (Elt F) ℕ UU ℕ) :=
  (Emb.inr : Emb UX UU).trans (uEmb (nD := nD) (sig := sig) (Ix := HIx 1) (Val := Elt F) (Name := ℕ) (U := UU) (Lvl := ℕ)).toEmb
def EP : Emb (UR sig nD τ) (MT nD τ sig (HIx 1) (Elt F) ℕ UU ℕ) :=
  (Emb.inl : Emb (UR sig nD τ) UX).trans EX
abbrev EC : UEmb Counters (MT nD τ sig (HIx 1) (Elt F) ℕ UU ℕ) := countersEmb (U := UU)

instance EH_landsIn : (EH : Emb UH 𝕄).LandsIn (upEmb : UEmb _ 𝕄) := by unfold EH; infer_instance
instance EX_landsIn : (EX : Emb UX 𝕄).LandsIn (upEmb : UEmb _ 𝕄) := by unfold EX; infer_instance
instance EP_landsIn : (EP : Emb (UR sig nD τ) 𝕄).LandsIn (upEmb : UEmb _ 𝕄) := by unfold EP; infer_instance

/-! ## The buffers -/

/-- The table the SparseCore reads (the prediction, its columns padded), the targets, and the gathered values. -/
abbrev xLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

abbrev xV : Memref sig .scVector .hbm S1024x100096 .f32 := Memref.whole main_v0_scv
abbrev tV : Memref sig .scVector .hbm S1024 .i32 := Memref.whole main_arg1_scv
abbrev oV : Memref sig .scVector .hbm S1024 .f32 := Memref.whole main_v1_scv
/-- A tile's scratch: its targets, the blocks it fetches, its results. -/
abbrev sT : Memref sig .scVector .vmem S32 .i32 := Memref.whole cc0_scratch0
abbrev sC : Memref sig .scVector .vmem S32x8x128 .f32 := Memref.whole cc0_scratch1
abbrev sO : Memref sig .scVector .vmem S32 .f32 := Memref.whole cc0_scratch2

abbrev cV (L : grid0.Coords) : Fin τ.nSC := (L 0).castLE hcore0
abbrev jV (L : grid0.Coords) : Fin τ.nSub := (L 1).castLE hsub0

/-- A tile's thread. -/
abbrev thr (d : Dev nD) (L : grid0.Coords) : Thread nD τ := V d (cV L) (jV L)

/-- Which of the 32 pieces a tile serves. -/
def wIx (L : grid0.Coords) : Fin 32 := ⟨2 * (L 1).val + (L 0).val, by
  have h1 : (L 1).val < 16 := (L 1).isLt
  have h0 : (L 0).val < 2 := (L 0).isLt
  omega⟩

theorem baseN_wIx (L : grid0.Coords) : baseN L = 32 * (wIx L).val := by
  show 64 * (L 1).val + 32 * (L 0).val = 32 * (2 * (L 1).val + (L 0).val); omega

theorem hdiv : 32 ∣ S1024.size 0 := ⟨32, rfl⟩
/-- Piece `i` of the 1024 rows, as a rectangle and as a set. -/
abbrev piece (i : Fin 32) : Rect S1024 := Rect.part (s := S1024) (a₀ := 0) hdiv i
abbrev pieceSet (i : Fin 32) : Finset S1024.Idx := (piece i).set

theorem pieces_disjoint : ∀ i ∈ (Finset.univ : Finset (Fin 32)), ∀ j ∈ (Finset.univ : Finset (Fin 32)), i ≠ j → Disjoint (pieceSet i) (pieceSet j) :=
  fun _ _ _ _ h => Rect.part_disjoint hdiv h
theorem pieces_cover : (Finset.univ : Finset (Fin 32)).biUnion pieceSet = Finset.univ := Rect.biUnion_part hdiv

/-! ## What the gather computes -/

/-- The value the call leaves in row `r`: the table at row `r` and at the column the targets name there. -/
def gath (X : S1024x100096.Idx → F .f32) (tg : S1024.Idx → BitVec 32) (r : S1024.Idx) : F .f32 :=
  X (ix2 (r 0) ⟨min (tg r).toNat 100095, by show _ < 100096; omega⟩)

/-- The target of row `j` of a tile. -/
def tgt (L : grid0.Coords) (tg : S1024.Idx → BitVec 32) (j : Fin 32) : BitVec 32 :=
  tg (ix1 ⟨baseN L + j.val, by have := baseN_le L; have := j.isLt; show _ < 1024; omega⟩)

end Cert.Proof.SC

end
-- ==== Proof.Steps.lean ====
/-
  The steps of a tile's run: issuing one of its 32 block copies, passing the check that precedes one, loading its
  targets, and waiting. Each step is a rule from a state of the run to the next: `St n k` has `n` copies issued and `k`
  waits done, and holds the targets' scratch, the shares and the chunks of the copies still to be issued, and the batch
  of those in flight. What a copy delivers is stated with its value.
-/
module

public import proofs.«01_k».proof.Proof.Common

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig (HIx 1) (Elt F) ℕ UU ℕ

/-! ## The copies' ends -/

/-- The 8 by 128 block of the table at an offset. -/
abbrev srcM (off : Fin 2 → ℕ) (h : ∀ a, off a + S8x128.size a ≤ S1024x100096.size a) : Memref sig .scVector .hbm S8x128 .f32 :=
  (xV).slice (Rect.unit (s := S1024x100096) off S8x128.size h) (fun _ => rfl)

theorem chunk_inb (n : ℕ) (hn : n < 32) : ∀ a, (![n, 0, 0] : Fin 3 → ℕ) a + S1x8x128.size a ≤ S32x8x128.size a := by
  intro a; fin_cases a
  · show n + 1 ≤ 32; omega
  · show 0 + 8 ≤ 8; omega
  · show 0 + 128 ≤ 128; omega

/-- Chunk `n` of the scratch. -/
abbrev chunkM (n : ℕ) (h : ∀ a, (![n, 0, 0] : Fin 3 → ℕ) a + S1x8x128.size a ≤ S32x8x128.size a) : Memref sig .scVector .vmem S8x128 .f32 :=
  ((sC).slice (Rect.unit (s := S32x8x128) ![n, 0, 0] S1x8x128.size h) (fun _ => rfl)).squeeze S8x128 squeezes_S1x8x128_S8x128

section

variable (d : Dev nD) (L : grid0.Coords)

abbrev cLoc : Loc nD τ sig := (thr d L).loc cc0_scratch1
abbrev sLoc : Loc nD τ sig := (thr d L).loc cc0_scratch0
abbrev rLoc : Loc nD τ sig := (thr d L).loc cc0_scratch2

variable (tg : S1024.Idx → BitVec 32) (htg : ∀ x, (tg x).toNat < 100000)
variable (X : S1024x100096.Idx → F .f32)

/-- The column of the `j`-th target. -/
abbrev tN (j : Fin 32) : ℕ := (tgt L tg j).toNat

include htg in
theorem tN_lt (j : Fin 32) : tN L tg j < 100000 := htg _

/-- The copy `j` reads this set of the table and writes this set of the scratch. -/
abbrev srcSet (j : Fin 32) : Finset S1024x100096.Idx := (srcM _ (offC_inb L j _ (tN_lt L tg htg j))).view.set
abbrev chunkSet (j : Fin 32) : Finset S32x8x128.Idx := (chunkM j.val (chunk_inb j.val j.isLt)).view.set

/-- Where the scratch's element comes from in the table. -/
def cix (x : S32x8x128.Idx) : S1024x100096.Idx :=
  ix2 ⟨(baseN L + (x 0).val) / 8 * 8 + (x 1).val, by
      have := baseN_le L; have h0 : (x 0).val < 32 := (x 0).isLt; have h1 : (x 1).val < 8 := (x 1).isLt
      show _ < 1024; omega⟩
    ⟨min (tN L tg (x 0) / 128 * 128 + (x 2).val) 100095, by show _ < 100096; omega⟩

/-- What the scratch holds when every copy has landed. -/
def G (x : S32x8x128.Idx) : F .f32 := X (cix L tg x)

theorem sC_emb (n : Fin 32) (y : S8x128.Idx) : (chunkM n.val (chunk_inb n.val n.isLt)).view.emb y = ix3 n (y 0) (y 1) := by
  obtain ⟨a, b, rfl⟩ : ∃ a b, y = ix2 a b := ⟨y 0, y 1, eq_ix2 y⟩
  show (Rect.unit (s := S32x8x128) ![n.val, 0, 0] S1x8x128.size (chunk_inb n.val n.isLt)).emb (Shape.reshapeEquiv _ (ix2 a b)) = _
  rw [reshapeEquiv_ix2_1ab]
  funext c; apply Fin.ext; fin_cases c
  · show n.val + 1 * 0 = n.val; omega
  · show 0 + 1 * a.val = a.val; omega
  · show 0 + 1 * b.val = b.val; omega

include htg in
theorem src_emb (n : Fin 32) (y : S8x128.Idx) :
    (srcM _ (offC_inb L n _ (tN_lt L tg htg n))).view.emb y = cix L tg (ix3 n (y 0) (y 1)) := by
  have ht := tN_lt L tg htg n
  have h1 : (y 1).val < 128 := (y 1).isLt
  funext c; apply Fin.ext; fin_cases c
  · show (baseN L + n.val) / 8 * 8 + 1 * (y 0).val = (baseN L + n.val) / 8 * 8 + (y 0).val; omega
  · show tN L tg n / 128 * 128 + 1 * (y 1).val = min (tN L tg n / 128 * 128 + (y 1).val) 100095; omega

/-- A copy lands the blocks' contents in its chunk. -/
theorem lands (n : Fin 32) (fc : S32x8x128.Idx → F .f32) (x : S32x8x128.Idx) (hx : x ∈ chunkSet n) :
    (chunkM n.val (chunk_inb n.val n.isLt)).view.write (Elt F) fc
      ((srcM _ (offC_inb L n _ (tN_lt L tg htg n))).view.read (Elt F) X) Finset.univ x = G L tg X x := by
  obtain ⟨y, -, rfl⟩ := Finset.mem_map.mp hx
  rw [View.write_emb_of_mem _ _ (Finset.mem_univ _)]
  refine (cast_eq _ _).trans ((View.read_apply _ _).trans ((cast_eq _ _).trans ?_))
  rw [src_emb L tg htg, sC_emb]; rfl

theorem sl16 {n : ℕ} (hn : n < 16) : S16.Slices ![n] S1 := ⟨rfl, fun a => by
  match a with
  | 0 => show n + 1 ≤ 16; omega⟩

/-- The column block of a target among the first sixteen, and among the last, as the kernel takes it from its vector. -/
theorem lane_lo {v : Vec F S16 .i32} (hv : ∀ x : S16.Idx, v x = tgt L tg ⟨0 + (x 0).val, by have : (x 0).val < 16 := (x 0).isLt; omega⟩)
    {n : ℕ} (hn : n < 16) (hp) :
    (extractAt ![0] (extractStridedSlice S1 ![n] (k0_pay2 v) (sl16 hn)) hp).toNat = tN L tg ⟨n, by omega⟩ / 128 := by
  refine (congrArg BitVec.toNat (lane_extract ⟨n, hn⟩ _ (sl16 hn) hp)).trans ((pay2_toNat v _).trans ?_)
  rw [hv]
  exact congrArg (fun j => tN L tg j / 128) (Fin.ext (Nat.zero_add n))
theorem lane_hi {v : Vec F S16 .i32} (hv : ∀ x : S16.Idx, v x = tgt L tg ⟨16 + (x 0).val, by have : (x 0).val < 16 := (x 0).isLt; omega⟩)
    {n : ℕ} (hk : n - 16 < 16) (hn : 16 ≤ n) (hp) :
    (extractAt ![0] (extractStridedSlice S1 ![n - 16] (k0_pay19 v) (sl16 hk)) hp).toNat = tN L tg ⟨n, by omega⟩ / 128 := by
  refine (congrArg BitVec.toNat (lane_extract ⟨n - 16, hk⟩ _ (sl16 hk) hp)).trans ((pay19_toNat v _).trans ?_)
  rw [hv]
  exact congrArg (fun j => (tgt L tg j).toNat / 128) (Fin.ext (Nat.add_sub_cancel' hn))

/-! ## The state -/

variable (q : PosShare TreeShare) (fc : S32x8x128.Idx → F .f32)

abbrev NB : ℕ := (chunkM 0 (chunk_inb 0 (by decide))).view.dmaCredit
theorem NB_pos : 0 < NB := View.dmaCredit_pos _ (by decide)

/-- What copy `t` delivers: its chunk at its value, and the share it read the table through. -/
def Dl (t : Fin 32) : sProp 𝕄 :=
  iprop((cLoc d L ↦[chunkSet t]{fullShare} G L tg X) ∗ (xLoc d ↦[srcSet L tg htg t]{Transfers.shareTok q 32 t} X))

instance Dl_storable (t : Fin 32) : BI.Storable (upEmb : UEmb _ 𝕄) (Dl d L tg htg X q t) := by unfold Dl; infer_instance

/-- What copy `t` needs. -/
def Nd (t : Fin 32) : sProp 𝕄 :=
  iprop((xLoc d ↦[srcSet L tg htg t]{Transfers.shareTok q 32 t} X) ∗ (cLoc d L ↦[chunkSet t]{fullShare} fc))

/-- The targets the tile has fetched. -/
def Tv (x : S32.Idx) : BitVec 32 := tgt L tg (x 0)

variable (O : CellTallies nD τ sig (HIx 1)) (W : Waits sig (HIx 1))
variable (hO : ∀ g, O g none = 0)
variable (Rm : sProp (MT nD τ sig (HIx 1) (Elt F) ℕ UU ℕ))

/-- What the thread owes, having waited only at levels below every handshake. -/
def Ow : sProp 𝕄 := iprop(∃ W', ⌜∀ p ∈ W', p ∈ W ∨ p.2 = none⌝ ∗ owes (thr d L) O W')

abbrev Bt (n k : ℕ) : sProp 𝕄 := Transfers.Batch EC (thr d L) (.dma cc0_scratch3.sem) none NB (Dl d L tg htg X q) n (k * NB)

/-- `n` copies issued, `k` waits done. -/
def St (n k : ℕ) : sProp 𝕄 :=
  iprop(levAts (K (F := F)).L (K (F := F)).lev ∗ Ow d L O W ∗ (sLoc d L ↦{fullShare} Tv L tg)
    ∗ bigSep (Transfers.pending n) (Nd d L tg htg X q fc) ∗ Bt d L tg htg X q n k ∗ Rm)

/-- Every copy landed. -/
def Fin' : sProp 𝕄 :=
  iprop(levAts (K (F := F)).L (K (F := F)).lev ∗ Ow d L O W ∗ (sLoc d L ↦{fullShare} Tv L tg)
    ∗ bigSep Finset.univ (Dl d L tg htg X q) ∗ semVal (thr d L, .dma cc0_scratch3.sem) 0 ∗ Rm)

variable {α : Type} {Q : α → sProp (MT nD τ sig (HIx 1) (Elt F) ℕ UU ℕ)}

theorem step_issue {n : ℕ} (hn : n < 32) {off : Fin 2 → ℕ} {hin : ∀ a, off a + S8x128.size a ≤ S1024x100096.size a}
    {hc : ∀ a, (![n, 0, 0] : Fin 3 → ℕ) a + S1x8x128.size a ≤ S32x8x128.size a}
    {hsrc : (srcM off hin).view.WordExact} {hdst : (chunkM n hc).view.WordExact}
    {hsem : DmaTarget.Typed (nD := nD) (τ := τ) (p := .scVector (cV L) (jV L)) .hbm (.dma cc0_scratch3.sem) (.here (chunkM n hc))}
    {k : PUnit → Prog (TpuEff nD τ sig (Elt F) Λ₀ (.scVector (cV L) (jV L))) α}
    {v : BitVec 32} (hv : v.toNat = tN L tg ⟨n, hn⟩ / 128) (hoff : off = offG L (BitVec.ofNat 32 n) v)
    (h : St d L tg htg X q fc O W Rm (n + 1) 0 ⊢ wp frame (wpE (defs₀ (F := F)) 𝒱₀ (thr d L) none) Set.univ (k ⟨⟩) Q) :
    St d L tg htg X q fc O W Rm n 0
      ⊢ wp frame (wpE (defs₀ (F := F)) 𝒱₀ (thr d L) none) Set.univ
          (.op (.enqueueDma (srcM off hin) (.here (chunkM n hc)) (.dma cc0_scratch3.sem) hsrc hdst hsem) k) Q := by
  obtain rfl : off = offC L ⟨n, hn⟩ (tN L tg ⟨n, hn⟩) := hoff.trans (offG_eq L ⟨n, hn⟩ v _ hv (tN_lt L tg htg _))
  unfold St at h ⊢
  iintro ⟨#Hlv, HO, HT, HN, HB, HR⟩
  ihave HN' := (show bigSep (Transfers.pending n) (Nd d L tg htg X q fc)
      ⊢ iprop(((xLoc d ↦[srcSet L tg htg ⟨n, hn⟩]{Transfers.shareTok q 32 ⟨n, hn⟩} X) ∗ (cLoc d L ↦[chunkSet ⟨n, hn⟩]{fullShare} fc))
          ∗ bigSep (Transfers.pending (n + 1)) (Nd d L tg htg X q fc))
    from Entails.of_eq (by rw [Transfers.pending_succ hn, SparseCore.bigSep_insert' (Transfers.not_mem_pending_succ hn)]; rfl)) $$ HN
  icases HN' with ⟨⟨Hs, Hd⟩, HN⟩
  iapply (Transfers.wp_dmaBatch EC 𝒱₀ (thr d L) none (q := Transfers.shareTok q 32 ⟨n, hn⟩) (fs := X) (fd := fc)
    (D := Dl d L tg htg X q) none NB rfl (Finset.Subset.refl _) hn ((Nat.zero_mul NB).le.trans (Nat.zero_le _)) ?hD) $$ [Hs Hd HB]
  case hD =>
    unfold Dl
    iintro ⟨Hd, Hs⟩
    isplitl [Hd]
    · iapply (Entails.of_eq (pointsTo_congr fun x hx => lands L tg htg X ⟨n, hn⟩ fc x hx)) $$ Hd
    · iexact Hs
  · isplitl [Hs]; · iexact Hs
    isplitl [Hd]; · iexact Hd
    iexact HB
  iintro HB
  iapply h
  isplitr; · iexact Hlv
  isplitl [HO]; · iexact HO
  isplitl [HT]; · iexact HT
  isplitl [HN]; · iexact HN
  isplitl [HB]; · iexact HB
  iexact HR

theorem step_check {n k : ℕ} (hn : n < 32) {v : BitVec 32} {C : Prop} {dec : Decidable C} (hv : v.toNat = tN L tg ⟨n, hn⟩ / 128)
    (hC : (∀ a, offG L (BitVec.ofNat 32 n) v a + S8x128.size a ≤ S1024x100096.size a) → C)
    {kk : PLift C → Prog (TpuEff nD τ sig (Elt F) Λ₀ (.scVector (cV L) (jV L))) α}
    (h : ∀ hw, St d L tg htg X q fc O W Rm n k ⊢ wp frame (wpE (defs₀ (F := F)) 𝒱₀ (thr d L) none) Set.univ (kk hw) Q) :
    St d L tg htg X q fc O W Rm n k
      ⊢ wp frame (wpE (defs₀ (F := F)) 𝒱₀ (thr d L) none) Set.univ (.op (.assume C dec) kk) Q := by
  have hc : C := hC (offG_inb L ⟨n, hn⟩ v _ hv (tN_lt L tg htg _))
  rw [wp_assume_of _ _ _ _ hc]
  exact h _

/-- A load of half of the targets. -/
theorem step_load {n k : ℕ} {o : ℕ} (ho : o + 16 ≤ 32) {hr : ∀ a, (![o] : Fin 1 → ℕ) a + S16.size a ≤ S32.size a}
    {hl : (sT : Memref sig .scVector .vmem S32 .i32).view.LoadsAt (Rect.unit (s := S32) ![o] S16.size hr).toLoadRect}
    {kk : Vec F S16 .i32 → Prog (TpuEff nD τ sig (Elt F) Λ₀ (.scVector (cV L) (jV L))) α}
    (h : ∀ v : Vec F S16 .i32, (∀ x : S16.Idx, v x = tgt L tg ⟨o + (x 0).val, by have : (x 0).val < 16 := (x 0).isLt; omega⟩) →
      (St d L tg htg X q fc O W Rm n k ⊢ wp frame (wpE (defs₀ (F := F)) 𝒱₀ (thr d L) none) Set.univ (kk v) Q)) :
    St d L tg htg X q fc O W Rm n k
      ⊢ wp frame (wpE (defs₀ (F := F)) 𝒱₀ (thr d L) none) Set.univ
          (.op (.load sT (Rect.unit (s := S32) ![o] S16.size hr).toLoadRect hl) kk) Q := by
  unfold St at h ⊢
  iintro ⟨#Hlv, HO, HT, HN, HB, HR⟩
  iapply (wp_load 𝒱₀ (thr d L) none Set.univ (m := (sT : Memref sig .scVector .vmem S32 .i32)) (S := Finset.univ) (f := Tv L tg) (Finset.subset_univ _)) $$ HT
  iintro HT
  iapply (h _ ?hv)
  case hv =>
    intro x
    refine congrArg (tgt L tg) (Fin.ext ?_)
    show o + 1 * (x 0).val = o + (x 0).val
    omega
  isplitr; · iexact Hlv
  isplitl [HO]; · iexact HO
  isplitl [HT]; · iexact HT
  isplitl [HN]; · iexact HN
  isplitl [HB]; · iexact HB
  iexact HR

include hO

theorem step_wait {k : ℕ} (hk : k + 1 < 32) {srcw : Memref sig .scVector .hbm S8x128 .f32} {n : ℕ}
    {hc : ∀ a, (![n, 0, 0] : Fin 3 → ℕ) a + S1x8x128.size a ≤ S32x8x128.size a}
    {hsrc : srcw.view.WordExact} {hdst : (chunkM n hc).view.WordExact}
    {kk : PUnit → Prog (TpuEff nD τ sig (Elt F) Λ₀ (.scVector (cV L) (jV L))) α}
    (h : St d L tg htg X q fc O W Rm 32 (k + 1) ⊢ wp frame (wpE (defs₀ (F := F)) 𝒱₀ (thr d L) none) Set.univ (kk ⟨⟩) Q) :
    St d L tg htg X q fc O W Rm 32 k
      ⊢ wp frame (wpE (defs₀ (F := F)) 𝒱₀ (thr d L) none) Set.univ (.op (.waitDma2 cc0_scratch3.sem srcw (chunkM n hc) hsrc hdst) kk) Q := by
  have hpos := NB_pos
  unfold St Ow Bt at h ⊢
  rw [show (k + 1) * NB = k * NB + NB from Nat.succ_mul _ _] at h
  iintro ⟨#Hlv, ⟨%W', %hW', HO⟩, HT, HN, HB, HR⟩
  iapply (Transfers.wp_waitBatchO EC 𝒱₀ (thr d L) none (srcw := srcw) (dstw := chunkM n hc) (n := 32) (O := O) (W := W') none (N := NB) rfl
    (show k * NB + NB < NB * 32 by nlinarith)) $$ [HB HO]
  · isplitl [HB]; · iexact HB
    isplitl [HO]; · iexact HO
    iapply ((K (F := F)).mayWait_none (SemLoc.dma cc0_scratch3.sem) hO); iexact Hlv
  iintro ⟨HB, HO⟩
  iapply h
  isplitr; · iexact Hlv
  isplitl [HO]
  · iexists (insert (SemLoc.dma cc0_scratch3.sem, none) W'); isplitr
    · ipureintro; intro p hp
      rcases Finset.mem_insert.mp hp with rfl | hp
      · exact .inr rfl
      · exact hW' p hp
    · iexact HO
  isplitl [HT]; · iexact HT
  isplitl [HN]; · iexact HN
  isplitl [HB]; · iexact HB
  iexact HR

theorem step_waitLast {srcw : Memref sig .scVector .hbm S8x128 .f32} {n : ℕ}
    {hc : ∀ a, (![n, 0, 0] : Fin 3 → ℕ) a + S1x8x128.size a ≤ S32x8x128.size a}
    {hsrc : srcw.view.WordExact} {hdst : (chunkM n hc).view.WordExact}
    {kk : PUnit → Prog (TpuEff nD τ sig (Elt F) Λ₀ (.scVector (cV L) (jV L))) α}
    (h : Fin' d L tg htg X q O W Rm ⊢ wp frame (wpE (defs₀ (F := F)) 𝒱₀ (thr d L) none) Set.univ (kk ⟨⟩) Q) :
    St d L tg htg X q fc O W Rm 32 31
      ⊢ wp frame (wpE (defs₀ (F := F)) 𝒱₀ (thr d L) none) Set.univ (.op (.waitDma2 cc0_scratch3.sem srcw (chunkM n hc) hsrc hdst) kk) Q := by
  have hpos := NB_pos
  unfold Fin' Ow at h
  unfold St Ow Bt
  iintro ⟨#Hlv, ⟨%W', %hW', HO⟩, HT, HN, HB, HR⟩
  iapply (Transfers.wp_waitBatchLastO EC 𝒱₀ (thr d L) none (srcw := srcw) (dstw := chunkM n hc) (n := 32) (O := O) (W := W') none (N := NB) rfl NB_pos
    (show 31 * NB + NB = NB * 32 by ring)) $$ [HB HO]
  · isplitl [HB]; · iexact HB
    isplitl [HO]; · iexact HO
    iapply ((K (F := F)).mayWait_none (SemLoc.dma cc0_scratch3.sem) hO); iexact Hlv
  iintro ⟨HB, HV, HO⟩
  iclear HN
  iapply h
  isplitr; · iexact Hlv
  isplitl [HO]
  · iexists (insert (SemLoc.dma cc0_scratch3.sem, none) W'); isplitr
    · ipureintro; intro p hp
      rcases Finset.mem_insert.mp hp with rfl | hp
      · exact .inr rfl
      · exact hW' p hp
    · iexact HO
  isplitl [HT]; · iexact HT
  isplitl [HB]; · iexact HB
  isplitl [HV]; · iexact HV
  iexact HR

end

end Cert.Proof.SC

end
-- ==== Proof.Tile.lean ====
/-
  A tile's run, whole: it fetches its 32 targets, issues 32 block copies of the table on one semaphore, waits 32 times,
  picks one element of each block by two indexed loads, and writes its 32 results out. The claim carries the value:
  what it writes is the table at its rows and at the columns its targets name.
-/
module

public import proofs.«01_k».proof.Proof.Steps

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig (HIx 1) (Elt F) ℕ UU ℕ

section

variable (d : Dev nD) (L : grid0.Coords)
variable (tg : S1024.Idx → BitVec 32) (htg : ∀ x, (tg x).toNat < 100000)
variable (X : S1024x100096.Idx → F .f32) (q : PosShare TreeShare)

/-! ## Splitting the table's share and the scratch among the copies -/

theorem mem_chunkSet {t : Fin 32} {x : S32x8x128.Idx} : x ∈ chunkSet t ↔ x 0 = t := by
  constructor
  · intro hx
    obtain ⟨y, -, rfl⟩ := Finset.mem_map.mp hx
    rw [sC_emb]
  · obtain ⟨a, b, c, rfl⟩ : ∃ a b c, x = ix3 a b c := ⟨x 0, x 1, x 2, eq_ix3 x⟩
    intro h
    obtain rfl : a = t := h
    exact Finset.mem_map.mpr ⟨ix2 b c, Finset.mem_univ _, sC_emb a (ix2 b c)⟩

theorem chunks_disjoint : ∀ i ∈ (Finset.univ : Finset (Fin 32)), ∀ j ∈ (Finset.univ : Finset (Fin 32)), i ≠ j → Disjoint (chunkSet i) (chunkSet j) :=
  fun _ _ _ _ h => Finset.disjoint_left.mpr fun _ h₁ h₂ => h ((mem_chunkSet.mp h₁).symm.trans (mem_chunkSet.mp h₂))
theorem chunks_cover : (Finset.univ : Finset (Fin 32)).biUnion chunkSet = Finset.univ :=
  Finset.eq_univ_of_forall fun x => Finset.mem_biUnion.mpr ⟨x 0, Finset.mem_univ _, mem_chunkSet.mpr rfl⟩

theorem chunks_eq (f : S32x8x128.Idx → F .f32) :
    (cLoc d L ↦{fullShare} f : sProp 𝕄) = bigSep Finset.univ fun t : Fin 32 => cLoc d L ↦[chunkSet t]{fullShare} f := by
  rw [← pointsTo_biUnion Finset.univ (ℓ := cLoc d L) chunkSet chunks_disjoint, chunks_cover]

/-- The elements of the table that copy `t` does not read. -/
def restSet (t : Fin 32) : Finset (Idx (xLoc d)) := (Finset.univ : Finset (Idx (xLoc d))) \ (srcSet L tg htg t : Finset (Idx (xLoc d)))

/-- The part of the table's share that no copy reads through. -/
def Kept : sProp 𝕄 :=
  iprop((xLoc d ↦{Transfers.shareDrop q 32} X)
    ∗ bigSep Finset.univ fun t : Fin 32 => xLoc d ↦[restSet d L tg htg t]{Transfers.shareTok q 32 t} X)

omit [FloatOps F] [Named F] in
theorem split_eq {ℓ : Loc nD τ sig} {S I : Finset (Idx ℓ)} {q : PosShare TreeShare} {f : Buf (Elt F) ℓ} (h : I ⊆ S) :
    (ℓ ↦[S]{q} f : sProp 𝕄) = iprop((ℓ ↦[I]{q} f) ∗ ℓ ↦[S \ I]{q} f) :=
  have h := pointsTo_split_subset (ℓ := ℓ) (q := q) (f := f) h
  equiv_iff.mp ⟨h.1, h.2⟩

theorem table_eq :
    (bigSep Finset.univ fun t : Fin 32 => (xLoc d ↦{Transfers.shareTok q 32 t} X : sProp 𝕄))
      = iprop((bigSep Finset.univ fun t : Fin 32 => xLoc d ↦[srcSet L tg htg t]{Transfers.shareTok q 32 t} X)
          ∗ bigSep Finset.univ fun t : Fin 32 => xLoc d ↦[restSet d L tg htg t]{Transfers.shareTok q 32 t} X) := by
  rw [← bigSep_sep']
  exact bigSep_congr fun t _ => split_eq (Finset.subset_univ _)

theorem open_up (fc : S32x8x128.Idx → F .f32) :
    iprop((xLoc d ↦{q} X) ∗ (cLoc d L ↦{fullShare} fc))
      ⊢ (iprop(bigSep (Transfers.pending 0) (Nd d L tg htg X q fc) ∗ Kept d L tg htg X q) : sProp 𝕄) := by
  unfold Kept Nd
  rw [Transfers.pending_zero, bigSep_sep', chunks_eq]
  iintro ⟨HX, HC⟩
  ihave HX' := (Transfers.pointsTo_toks_split q 32) $$ HX
  icases HX' with ⟨HD, HT⟩
  ihave HT' := (Entails.of_eq (table_eq (F := F) d L tg htg X q)) $$ HT
  icases HT' with ⟨HA, HB⟩
  isplitl [HA HC]
  · isplitl [HA] <;> iassumption
  · isplitl [HD] <;> iassumption

theorem close_up :
    (iprop(bigSep Finset.univ (Dl d L tg htg X q) ∗ Kept d L tg htg X q) : sProp 𝕄)
      ⊢ iprop((xLoc d ↦{q} X) ∗ (cLoc d L ↦{fullShare} G L tg X)) := by
  unfold Kept Dl
  rw [bigSep_sep', ← chunks_eq]
  iintro ⟨⟨HC, HA⟩, HD, HB⟩
  isplitl [HA HB HD]
  · iapply (Transfers.pointsTo_toks_join q 32)
    isplitl [HD]; · iexact HD
    iapply (Entails.of_eq (table_eq (F := F) d L tg htg X q).symm)
    isplitl [HA] <;> iassumption
  · iexact HC

/-! ## The two ends of the run -/

abbrev tPc : Memref sig .scVector .hbm S32 .i32 :=
  (tV).slice (Rect.unit (s := S1024) (k0_off1 L) S32.size (k0_off1_inb L)) (fun _ => rfl)
abbrev oPc : Memref sig .scVector .hbm S32 .f32 :=
  (oV).slice (Rect.unit (s := S1024) (k0_off65 L) S32.size (k0_off65_inb L)) (fun _ => rfl)

theorem rect1_eq : Rect.unit (s := S1024) (k0_off1 L) S32.size (k0_off1_inb L) = piece (wIx L) := by
  unfold piece Rect.part Rect.block
  congr 1 <;> funext a
  · rw [k0_off1_eq]
    match a with
    | 0 => simp [Shape.partIx, Shape.partSize, wIx]; omega
  · match a with
    | 0 => simp [Shape.partSize]
theorem rect65_eq : Rect.unit (s := S1024) (k0_off65 L) S32.size (k0_off65_inb L) = piece (wIx L) := by
  unfold piece Rect.part Rect.block
  congr 1 <;> funext a
  · rw [k0_off65_eq]
    match a with
    | 0 => simp [Shape.partIx, Shape.partSize, wIx]; omega
  · match a with
    | 0 => simp [Shape.partSize]

theorem set_tPc : (tPc L).view.set = pieceSet (wIx L) := by
  show ((View.whole (main_arg1_scv : Ref sig .scVector)).slice (Rect.unit (s := S1024) (k0_off1 L) S32.size (k0_off1_inb L))).set = _
  rw [View.set_slice]; exact Finset.map_refl.trans (congrArg (fun r : Rect S1024 => r.set) (rect1_eq L))
theorem set_oPc : (oPc L).view.set = pieceSet (wIx L) := by
  show ((View.whole (main_v1_scv : Ref sig .scVector)).slice (Rect.unit (s := S1024) (k0_off65 L) S32.size (k0_off65_inb L))).set = _
  rw [View.set_slice]; exact Finset.map_refl.trans (congrArg (fun r : Rect S1024 => r.set) (rect65_eq L))

theorem row_lt (x : S32.Idx) : baseN L + (x 0).val < 1024 := by
  have := baseN_le L; have h0 : (x 0).val < 32 := (x 0).isLt; omega

theorem emb_tPc (x : S32.Idx) : (tPc L).view.emb x = ix1 ⟨baseN L + (x 0).val, row_lt L x⟩ := by
  funext a; apply Fin.ext
  match a with
  | 0 => show k0_off1 L 0 + 1 * (x 0).val = baseN L + (x 0).val; rw [k0_off1_eq]; show 64 * (L 1).val + 32 * (L 0).val + 1 * (x 0).val = 64 * (L 1).val + 32 * (L 0).val + _; omega
theorem emb_oPc (x : S32.Idx) : (oPc L).view.emb x = ix1 ⟨baseN L + (x 0).val, row_lt L x⟩ := by
  funext a; apply Fin.ext
  match a with
  | 0 => show k0_off65 L 0 + 1 * (x 0).val = baseN L + (x 0).val; rw [k0_off65_eq]; show 64 * (L 1).val + 32 * (L 0).val + 1 * (x 0).val = 64 * (L 1).val + 32 * (L 0).val + _; omega

theorem fetched (fs : S32.Idx → BitVec 32) :
    (sT : Memref sig .scVector .vmem S32 .i32).view.write (Elt F) fs ((tPc L).view.read (Elt F) tg) Finset.univ = Tv L tg := by
  refine (View.write_whole_univ _ _ _).trans (funext fun x => ?_)
  refine (View.read_apply _ _).trans ((cast_eq _ _).trans ?_)
  rw [emb_tPc]; rfl

/-- What the tile's scratch of results holds in the end. -/
def Rv (x : S32.Idx) : F .f32 := gath X tg (ix1 ⟨baseN L + (x 0).val, row_lt L x⟩)

theorem written (f0 : S1024.Idx → F .f32) (x : S1024.Idx) (hx : x ∈ pieceSet (wIx L)) :
    (oPc L).view.write (Elt F) f0 ((sO : Memref sig .scVector .vmem S32 .f32).view.read (Elt F) (Rv L tg X)) Finset.univ x = gath X tg x := by
  rw [← set_oPc] at hx
  obtain ⟨y, -, rfl⟩ := Finset.mem_map.mp hx
  rw [View.write_emb_of_mem _ _ (Finset.mem_univ _), emb_oPc]; rfl

/-! ## The indexed loads -/

theorem pick {ia ib ic : IVec S16 32} (h : ∀ a x, ((![ia, ib, ic] : Fin 3 → IVec S16 32) a x).toNat < S32x8x128.size a) (o : ℕ) (ho : o + 16 ≤ 32)
    (x : S16.Idx) (hx : o + (x 0).val < 32) (ha : (ia x).toNat = o + (x 0).val) (hb : (ib x).toNat = (baseN L + (o + (x 0).val)) % 8)
    (hc : (ic x).toNat = tN L tg ⟨o + (x 0).val, hx⟩ % 128) (htg : ∀ x, (tg x).toNat < 100000) :
    (loadIdx (F := F) (e := .f32) (G L tg X) ![ia, ib, ic] h x : F .f32) = Rv L tg X (ix1 ⟨o + (x 0).val, hx⟩) := by
  have hb' := baseN_le L
  have ht := tN_lt L tg htg ⟨o + (x 0).val, hx⟩
  unfold loadIdx G Rv gath
  refine congrArg X ?_
  have e0 : tN L tg ((idxAt (s := S32x8x128) ![ia, ib, ic] h x) 0) = tN L tg ⟨o + (x 0).val, hx⟩ := congrArg (tN L tg) (Fin.ext ha)
  funext a; apply Fin.ext
  match a with
  | 0 =>
    show (baseN L + (ia x).toNat) / 8 * 8 + (ib x).toNat = baseN L + (o + (x 0).val)
    rw [ha, hb]; omega
  | 1 =>
    show min (tN L tg ((idxAt (s := S32x8x128) ![ia, ib, ic] h x) 0) / 128 * 128 + (ic x).toNat) 100095 = min (tN L tg ⟨o + (x 0).val, hx⟩) 100095
    rw [e0, hc]; omega

/-- The two stores leave each half of the results in its half of the scratch. -/
theorem stored (fr : S32.Idx → F .f32) (w1 w2 : S16.Idx → F .f32)
    (h1 : ∀ (x : S16.Idx) (hx : 0 + (x 0).val < 32), w1 x = Rv L tg X (ix1 ⟨0 + (x 0).val, hx⟩))
    (h2 : ∀ (x : S16.Idx) (hx : 16 + (x 0).val < 32), w2 x = Rv L tg X (ix1 ⟨16 + (x 0).val, hx⟩)) :
    ((sO : Memref sig .scVector .vmem S32 .f32).access (Rect.unit (s := S32) ![16] S16.size inb_S32_S16_16)).write (Elt F)
      (((sO : Memref sig .scVector .vmem S32 .f32).access (Rect.unit (s := S32) ![0] S16.size inb_S32_S16_0)).write (Elt F) fr w1 Finset.univ) w2 Finset.univ
      = Rv L tg X := by
  funext x
  obtain ⟨k, rfl⟩ : ∃ k, x = ix1 k := ⟨x 0, eq_ix1 x⟩
  have hk : k.val < 32 := k.isLt
  by_cases h : k.val < 16
  · have e : (ix1 k : S32.Idx) = ((sO : Memref sig .scVector .vmem S32 .f32).access (Rect.unit (s := S32) ![0] S16.size inb_S32_S16_0)).emb (ix1 ⟨k.val, h⟩) := by
      funext a; apply Fin.ext
      match a with
      | 0 => show k.val = 0 + 1 * k.val; omega
    rw [View.write_of_not_mem]
    · rw [e, View.write_emb_of_mem _ _ (Finset.mem_univ _)]
      refine (cast_eq _ _).trans ((h1 _ (by show 0 + k.val < 32; omega)).trans ?_)
      rw [← e]
      exact congrArg (fun j => Rv L tg X (ix1 j)) (Fin.ext (Nat.zero_add _))
    · intro hm
      obtain ⟨y, -, hy⟩ := Finset.mem_map.mp hm
      have := congrArg (fun x : S32.Idx => (x 0).val) hy
      have h' : 16 + 1 * (y 0).val = k.val := this
      omega
  · have e : (ix1 k : S32.Idx) = ((sO : Memref sig .scVector .vmem S32 .f32).access (Rect.unit (s := S32) ![16] S16.size inb_S32_S16_16)).emb (ix1 ⟨k.val - 16, by omega⟩) := by
      funext a; apply Fin.ext
      match a with
      | 0 => show k.val = 16 + 1 * (k.val - 16); omega
    rw [e, View.write_emb_of_mem _ _ (Finset.mem_univ _)]
    refine (cast_eq _ _).trans ((h2 _ (by show 16 + (k.val - 16) < 32; omega)).trans ?_)
    rw [← e]
    exact congrArg (fun j => Rv L tg X (ix1 j)) (Fin.ext (by show 16 + (k.val - 16) = k.val; omega))

/-! ## The tile's own semaphores and buffers -/

abbrev cAcell : GSem nD τ sig := (thr d L, .dma cc0_scoped0.sem)
abbrev cXcell : GSem nD τ sig := (thr d L, .dma cc0_scratch3.sem)
abbrev cBcell : GSem nD τ sig := (thr d L, .dma cc0_scoped1.sem)

theorem cells_ne : cXcell d L ≠ cAcell d L ∧ cBcell d L ≠ cXcell d L ∧ cBcell d L ≠ cAcell d L := by
  refine ⟨?_, ?_, ?_⟩ <;> (intro h; exact absurd (Prod.mk.inj h).2 (by decide))

/-- The cells of the tile's own that the kernel does not use. -/
def restCells : Finset (GSem nD τ sig) :=
  (((ownCells (thr d L)).erase (cAcell d L)).erase (cXcell d L)).erase (cBcell d L)

theorem ownSems0_V :
    (ownSems0 (thr d L) : sProp 𝕄)
      = iprop(semVal (cAcell d L) 0 ∗ semVal (cXcell d L) 0 ∗ semVal (cBcell d L) 0 ∗ bigSep (restCells d L) fun g => semVal g 0) := by
  obtain ⟨h1, h2, h3⟩ := cells_ne d L
  unfold SparseCore.Cfg.ownSems0 restCells
  rw [SparseCore.bigSep_erase' ((mem_ownCells (g := cAcell d L)).mpr ⟨rfl, by
      show (SemLoc.dma cc0_scoped0.sem : SemLoc sig).isScoped .scVector = true; decide⟩),
    SparseCore.bigSep_erase' (Finset.mem_erase.mpr ⟨h1, (mem_ownCells (g := cXcell d L)).mpr ⟨rfl, by
      show (SemLoc.dma cc0_scratch3.sem : SemLoc sig).isScoped .scVector = true; decide⟩⟩),
    SparseCore.bigSep_erase' (Finset.mem_erase.mpr ⟨h2, Finset.mem_erase.mpr ⟨h3,
      (mem_ownCells (g := cBcell d L)).mpr ⟨rfl, by show (SemLoc.dma cc0_scoped1.sem : SemLoc sig).isScoped .scVector = true; decide⟩⟩⟩)]

/-- The buffers of the tile's own that the kernel does not use. -/
def restRefs : Finset (DevRef τ sig) :=
  (((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)

theorem ownBufs_V :
    (ownBufs (thr d L) : sProp 𝕄)
      = iprop((∃ f, sLoc d L ↦{fullShare} f) ∗ (∃ f, cLoc d L ↦{fullShare} f) ∗ (∃ f, rLoc d L ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The run -/

variable (f0 : S1024.Idx → F .f32)

/-- What the tile is given, and what it gives back at the value it computes. -/
def Go (f : S1024.Idx → F .f32) : sProp 𝕄 :=
  iprop((xLoc d ↦{q} X) ∗ (tLoc d ↦[pieceSet (wIx L)]{fullShare} tg) ∗ (oLoc d ↦[pieceSet (wIx L)]{fullShare} f))

/-- What the copies leave alone. -/
def Rm (fr : S32.Idx → F .f32) : sProp 𝕄 :=
  iprop(Kept d L tg htg X q ∗ (tLoc d ↦[pieceSet (wIx L)]{fullShare} tg) ∗ (oLoc d ↦[pieceSet (wIx L)]{fullShare} f0)
    ∗ (rLoc d L ↦{fullShare} fr) ∗ (bigSep (restRefs L) fun b => iprop(∃ f, ((d, b) : Loc nD τ sig) ↦{fullShare} f))
    ∗ semVal (cAcell d L) 0 ∗ semVal (cBcell d L) 0 ∗ bigSep (restCells d L) fun g => semVal g 0)

theorem pts_tPc :
    ((tPc L).view.loc (thr d L) ↦[(tPc L).view.set]{fullShare} tg : sProp 𝕄) = tLoc d ↦[pieceSet (wIx L)]{fullShare} tg := by
  rw [set_tPc]
theorem pts_oPc (f : S1024.Idx → F .f32) :
    ((oPc L).view.loc (thr d L) ↦[(oPc L).view.set]{fullShare} f : sProp 𝕄) = oLoc d ↦[pieceSet (wIx L)]{fullShare} f := by
  rw [set_oPc]
theorem pts_sT (f : S32.Idx → BitVec 32) :
    ((sT : Memref sig .scVector .vmem S32 .i32).view.loc (thr d L) ↦[(sT : Memref sig .scVector .vmem S32 .i32).view.set]{fullShare} f : sProp 𝕄)
      = sLoc d L ↦{fullShare} f := by
  simp only [Memref.view_whole, View.set_whole]
theorem pts_sO (f : S32.Idx → F .f32) :
    ((sO : Memref sig .scVector .vmem S32 .f32).view.loc (thr d L) ↦[(sO : Memref sig .scVector .vmem S32 .f32).view.set]{fullShare} f : sProp 𝕄)
      = rLoc d L ↦{fullShare} f := by
  simp only [Memref.view_whole, View.set_whole]

theorem read_chunks (f : S32x8x128.Idx → F .f32) :
    ((sC : Memref sig .scVector .vmem S32x8x128 .f32).access (Rect.whole S32x8x128)).read (Elt F) f = f := by
  funext y
  refine (View.read_apply _ _).trans ((cast_eq _ _).trans (congrArg f ?_))
  funext a; apply Fin.ext
  show 0 + 1 * (y a).val = (y a).val
  omega

theorem read_lanes {o : ℕ} (ho : o + 16 ≤ 32) {hr : ∀ a, (![o] : Fin 1 → ℕ) a + S16.size a ≤ S32.size a} (x : S16.Idx) :
    ((sT : Memref sig .scVector .vmem S32 .i32).view.readAt (Elt F) (Rect.unit (s := S32) ![o] S16.size hr).toLoadRect (Tv L tg) x : BitVec 32)
      = tgt L tg ⟨o + (x 0).val, by have : (x 0).val < 16 := (x 0).isLt; omega⟩ := by
  refine congrArg (tgt L tg) (Fin.ext ?_)
  show o + 1 * (x 0).val = o + (x 0).val
  omega

/-- Past a side condition that holds. -/
theorem assume_then {α : Type} {Φ : α → sProp (MT nD τ sig (HIx 1) (Elt F) ℕ UU ℕ)} {C : Prop} {dec : Decidable C}
    {k : PLift C → Prog (TpuEff nD τ sig (Elt F) Λ₀ (.scVector (cV L) (jV L))) α} (h : C) :
    wp frame (wpE (defs₀ (F := F)) 𝒱₀ (thr d L) none) Set.univ (k ⟨h⟩) Φ
      ⊢ wp frame (wpE (defs₀ (F := F)) 𝒱₀ (thr d L) none) Set.univ (.op (.assume C dec) k) Φ := by
  rw [wp_assume_of _ _ _ _ h]

include htg in
set_option maxHeartbeats 8000000 in
theorem tile_body (hF : (K (F := F)).Facts) (O : CellTallies nD τ sig (HIx 1)) (W : Waits sig (HIx 1)) (hO : ∀ g, O g none = 0) :
    iprop(levAts (K (F := F)).L (K (F := F)).lev ∗ emp ∗ Go d L tg X q f0
        ∗ scopedBufs (thr d L) ∗ scopedSems0 (thr d L) ∗ owes (thr d L) O W)
      ⊢ wp frame (wpE (defs₀ (F := F)) 𝒱₀ (thr d L) none) Set.univ
          (cc0__gather_body L xV (Memref.isWhole_whole _) tV (Memref.isWhole_whole _) oV (Memref.isWhole_whole _)
            sT (Memref.isWhole_whole _) sC (Memref.isWhole_whole _) sO (Memref.isWhole_whole _) cc0_scratch3 cc0_scoped0 cc0_scoped1)
          fun _ => iprop(Go d L tg X q (gath X tg) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  rw [cc0__gather_body_eq_skeleton]; unfold cc0__gather_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton]
  simp only [k0_part1_skel, k0_part2_skel, k0_part3_skel, k0_part4_skel, k0_part5_skel, k0_part6_skel, k0_part7_skel, k0_part8_skel, k0_part9_skel, k0_part10_skel,
    k0_part11_skel, k0_part12_skel, k0_part13_skel, k0_part14_skel, k0_part15_skel, k0_part16_skel, k0_part17_skel, k0_part18_skel, k0_part19_skel,
    k0_part20_skel, k0_part21_skel, k0_part22_skel, k0_part23_skel, k0_part24_skel, k0_part25_skel, k0_part26_skel, k0_part27_skel, k0_part28_skel,
    k0_part29_skel, k0_part30_skel, k0_part31_skel, k0_part32_skel,
    Prog.lift, Prog.bind_op, Prog.bind_ret, Prog.pure_eq_ret]
  unfold Go
  iintro ⟨#Hlv, -, ⟨HX, Ht, Ho⟩, ⟨⟨%fs, Hs⟩, ⟨%fc, Hc⟩, ⟨%fr, Hr⟩, Hbufs⟩, ⟨HsemA, HsemX, HsemB, Hsems⟩, HO⟩
  ihave Ht' := (Entails.of_eq (pts_tPc (F := F) d L tg).symm) $$ Ht
  ihave Hs' := (Entails.of_eq (pts_sT (F := F) d L fs).symm) $$ Hs
  iapply (Transfers.wp_dmaLocal EC 𝒱₀ (thr d L) none (q := fullShare) (src := tPc L) (dst := sT) (fs := tg) (fd := fs) none
    ((sT : Memref sig .scVector .vmem S32 .i32).view.dmaCredit) rfl (View.dmaCredit_pos _ (by decide)) (Finset.Subset.refl _)) $$ [Ht' Hs' HsemA]
  · isplitl [Ht']; · iexact Ht'
    isplitl [Hs']; · iexact Hs'
    iexact HsemA
  iintro Hfl
  iapply (Transfers.wp_waitLocalO EC 𝒱₀ (thr d L) none (srcw := tPc L) (dstw := sT) none rfl (O := O) (W := W)) $$ [Hfl HO]
  · isplitl [Hfl]; · iexact Hfl
    isplitl [HO]; · iexact HO
    iapply ((K (F := F)).mayWait_none (SemLoc.dma cc0_scoped0.sem) hO); iexact Hlv
  iintro ⟨⟨Hs', Ht'⟩, HsemA, HO⟩
  ihave Ht := (Entails.of_eq (pts_tPc (F := F) d L tg)) $$ Ht'
  ihave Hs := (Entails.of_eq ((congrArg (fun f => ((sT : Memref sig .scVector .vmem S32 .i32).view.loc (thr d L) ↦[(sT : Memref sig .scVector .vmem S32 .i32).view.set]{fullShare} f : sProp 𝕄)) (fetched (F := F) L tg fs)).trans (pts_sT (F := F) d L _))) $$ Hs'
  imod (Transfers.batch_alloc' EC (thr d L) (sm := .dma cc0_scratch3.sem) none NB (Dl d L tg htg X q)) $$ HsemX with HB
  ihave HNK := (open_up (F := F) d L tg htg X q fc) $$ [HX Hc]
  · isplitl [HX] <;> iassumption
  icases HNK with ⟨HN, HK⟩
  ihave HSt : St d L tg htg X q fc O W (Rm d L tg htg X q f0 fr) 0 0 $$ [HO Hs HN HB HK Ht Ho Hr Hbufs HsemA HsemB Hsems]
  · unfold St Ow Rm Bt
    isplitr; · iexact Hlv
    isplitl [HO]
    · iexists (insert (SemLoc.dma cc0_scoped0.sem, none) W); isplitr
      · ipureintro; intro p hp
        rcases Finset.mem_insert.mp hp with rfl | hp
        · exact .inr rfl
        · exact .inl hp
      · iexact HO
    isplitl [Hs]; · iexact Hs
    isplitl [HN]; · iexact HN
    isplitl [HB]; · rw [Nat.zero_mul]; iexact HB
    isplitl [HK]; · iexact HK
    isplitl [Ht]; · iexact Ht
    isplitl [Ho]; · iexact Ho
    isplitl [Hr]; · iexact Hr
    isplitl [Hbufs]; · iexact Hbufs
    isplitl [HsemA]; · iexact HsemA
    isplitl [HsemB] <;> iassumption
  iclear Hlv
  istop
  refine step_load d L tg htg X q fc O W _ (by decide) fun v3 hv3 => ?_
  refine step_check d L tg htg X q fc O W _ (by decide) (lane_lo L tg hv3 (by decide) _) (by exact fun h => And.intro h h) fun hw => ?_
  beta_reduce
  iterate 15
    refine step_issue d L tg htg X q fc O W _ (by decide) (lane_lo L tg hv3 (by decide) _) rfl ?_
    refine step_check d L tg htg X q fc O W _ (by decide) (lane_lo L tg hv3 (by decide) _) (by exact fun h => And.intro h h) fun hw => ?_
    beta_reduce
  refine step_issue d L tg htg X q fc O W _ (by decide) (lane_lo L tg hv3 (by decide) _) rfl ?_
  refine step_load d L tg htg X q fc O W _ (by decide) fun v4 hv4 => ?_
  beta_reduce
  iterate 15
    refine step_check d L tg htg X q fc O W _ (by decide) (lane_hi L tg hv4 (by decide) (by decide) _) (by exact fun h => And.intro h h) fun hw => ?_
    beta_reduce
    refine step_issue d L tg htg X q fc O W _ (by decide) (lane_hi L tg hv4 (by decide) (by decide) _) rfl ?_
  refine step_check d L tg htg X q fc O W _ (by decide) (lane_hi L tg hv4 (by decide) (by decide) _) (by exact fun h => h) fun hw => ?_
  beta_reduce
  refine step_issue d L tg htg X q fc O W _ (by decide) (lane_hi L tg hv4 (by decide) (by decide) _) rfl ?_
  iterate 31 refine step_wait d L tg htg X q fc O W hO _ (by decide) ?_
  refine step_waitLast d L tg htg X q fc O W hO _ ?_
  simp only [Prog.bind_assoc, Prog.bind_op, Prog.bind_ret]
  unfold Fin' Ow Rm
  iintro ⟨#Hlv, ⟨%W', %hW', HO⟩, HT, HD, HsemX, HK, Ht, Ho, Hr, Hbufs, HsemA, HsemB, Hsems⟩
  ihave HXC := (close_up (F := F) d L tg htg X q) $$ [HD HK]
  · isplitl [HD] <;> iassumption
  icases HXC with ⟨HX, Hc⟩
  iapply (wp_load 𝒱₀ (thr d L) none Set.univ (m := (sT : Memref sig .scVector .vmem S32 .i32)) (S := Finset.univ) (f := Tv L tg) (Finset.subset_univ _)) $$ HT
  iintro HT
  iapply (assume_then d L (chk33_of L _))
  iapply (SparseCore.wp_vectorLoadIdx 𝒱₀ (thr d L) none Set.univ (base := (sC : Memref sig .scVector .vmem S32x8x128 .f32)) (S := Finset.univ) (q := fullShare) (f := G L tg X) (Finset.subset_univ _)) $$ Hc
  iintro Hc
  iapply (wp_load 𝒱₀ (thr d L) none Set.univ (m := (sO : Memref sig .scVector .vmem S32 .f32)) (S := Finset.univ) (f := fr) (Finset.subset_univ _)) $$ Hr
  iintro Hr
  iapply (wp_store 𝒱₀ (thr d L) none Set.univ (m := (sO : Memref sig .scVector .vmem S32 .f32)) (r := Rect.unit (s := S32) ![0] S16.size inb_S32_S16_0) (Mk := Finset.univ) (S := Finset.univ) (f := fr) (Finset.subset_univ _)) $$ Hr
  iintro Hr
  iapply (wp_load 𝒱₀ (thr d L) none Set.univ (m := (sT : Memref sig .scVector .vmem S32 .i32)) (S := Finset.univ) (f := Tv L tg) (Finset.subset_univ _)) $$ HT
  iintro HT
  iapply (assume_then d L (chk34_of L _))
  iapply (SparseCore.wp_vectorLoadIdx 𝒱₀ (thr d L) none Set.univ (base := (sC : Memref sig .scVector .vmem S32x8x128 .f32)) (S := Finset.univ) (q := fullShare) (f := G L tg X) (Finset.subset_univ _)) $$ Hc
  iintro Hc
  iapply (wp_load 𝒱₀ (thr d L) none Set.univ (m := (sO : Memref sig .scVector .vmem S32 .f32)) (S := Finset.univ) (Finset.subset_univ _)) $$ Hr
  iintro Hr
  iapply (wp_store 𝒱₀ (thr d L) none Set.univ (m := (sO : Memref sig .scVector .vmem S32 .f32)) (r := Rect.unit (s := S32) ![16] S16.size inb_S32_S16_16) (Mk := Finset.univ) (S := Finset.univ) (Finset.subset_univ _)) $$ Hr
  iintro Hr
  ihave Ho' := (Entails.of_eq (pts_oPc (F := F) d L f0).symm) $$ Ho
  ihave Hr' := ((Entails.of_eq (congrArg (fun f => (rLoc d L ↦{fullShare} f : sProp 𝕄)) (stored (F := F) L tg X fr _ _ ?h1 ?h2))).trans
    (Entails.of_eq (pts_sO (F := F) d L (Rv L tg X)).symm)) $$ Hr
  case h1 =>
    intro x hx
    rw [read_chunks]
    refine pick L tg X _ 0 (by decide) x hx ?_ (by rw [Nat.zero_add]; exact pay38_toNat L x) ((pay36_toNat _ x).trans ?_) htg
    · rw [pay37_eq, BitVec.toNat_ofNat]; have := lane_lt x; omega
    · exact congrArg (fun w : BitVec 32 => w.toNat % 128) (read_lanes (F := F) L tg (by decide) x)
  case h2 =>
    intro x hx
    rw [read_chunks]
    refine pick L tg X _ 16 (by decide) x hx ?_ (pay1_toNat L x) ((pay39_toNat _ x).trans ?_) htg
    · rw [pay40_eq, BitVec.toNat_ofNat]; have := lane_lt x; omega
    · exact congrArg (fun w : BitVec 32 => w.toNat % 128) (read_lanes (F := F) L tg (by decide) x)
  iapply (Transfers.wp_dmaLocal EC 𝒱₀ (thr d L) none (q := fullShare) (src := sO) (dst := oPc L) (fs := Rv L tg X) (fd := f0) none
    ((oPc L).view.dmaCredit) rfl (View.dmaCredit_pos _ (by decide)) (Finset.Subset.refl _)) $$ [Hr' Ho' HsemB]
  · isplitl [Hr']; · iexact Hr'
    isplitl [Ho']; · iexact Ho'
    iexact HsemB
  iintro Hfl
  iapply (Transfers.wp_waitLocalO EC 𝒱₀ (thr d L) none (srcw := sO) (dstw := oPc L) none rfl (O := O) (W := W')) $$ [Hfl HO]
  · isplitl [Hfl]; · iexact Hfl
    isplitl [HO]; · iexact HO
    iapply ((K (F := F)).mayWait_none (SemLoc.dma cc0_scoped1.sem) hO); iexact Hlv
  iintro ⟨⟨Ho', Hr'⟩, HsemB, HO⟩
  ihave Hr := (Entails.of_eq (pts_sO (F := F) d L (Rv L tg X))) $$ Hr'
  ihave Ho := ((Entails.of_eq (pts_oPc (F := F) d L _)).trans (Entails.of_eq (pointsTo_congr fun x hx => written (F := F) L tg X f0 x hx))) $$ Ho'
  rw [wp_ret]; imodintro
  isplitl [HX Ht Ho]
  · isplitl [HX]; · iexact HX
    isplitl [Ht] <;> iassumption
  isplitl [HT Hc Hr Hbufs]
  · isplitl [HT]; · iexists _; iexact HT
    isplitl [Hc]; · iexists _; iexact Hc
    isplitl [Hr]; · iexists _; iexact Hr
    iexact Hbufs
  isplitl [HsemX HsemA HsemB Hsems]
  · isplitl [HsemA]; · iexact HsemA
    isplitl [HsemX]; · iexact HsemX
    isplitl [HsemB] <;> iassumption
  iexists (insert (SemLoc.dma cc0_scoped1.sem, none) W'); isplitr
  · ipureintro; intro p hp
    rcases Finset.mem_insert.mp hp with rfl | hp
    · exact .inr rfl
    · exact hW' p hp
  · iexact HO

end

end Cert.Proof.SC

end
-- ==== Proof.Launch.lean ====
/-
  The SparseCore call as the launch theorem takes it: what each tile is handed and hands back, the arrays dealt out over
  the tiles, and the tiles' obligation.
-/
module

public import proofs.«01_k».proof.Defs
public import proofs.«01_k».proof.Proof.Tile
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.ValueLayout
public import Idealize.ShloMosaic.Lib.Tactic

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig (HIx 1) (Elt F) ℕ UU ℕ

variable (m : (ℓ : Loc nD τ sig) → Buf (Elt F) ℓ)

/-- The prediction with its columns padded: the table. -/
def Xp (d : Dev nD) : S1024x100096.Idx → F .f32 :=
  pad S1024x100096 ![0, 0] ![0, 96] ![0, 0] (m ((SparseCore.T d).loc main_arg0)) (constant S_ .f32 0x00000000#32)
    pads_S1024x100000_S1024x100096_000_0960 h_S_

abbrev tg₀ (d : Dev nD) : S1024.Idx → BitVec 32 := m (tLoc d)
/-- Every target names a column. -/
def PreOK : Prop := ∀ (d : Dev nD) (x : S1024.Idx), (tg₀ m d x).toNat < 100000

/-- What the tile of piece `w` is handed, at what the results hold. -/
def GoW (d : Dev nD) (f : S1024.Idx → F .f32) (w : Fin 32) : sProp 𝕄 :=
  iprop((xLoc d ↦{Transfers.shareTok fullShare 32 w} Xp m d) ∗ (tLoc d ↦[pieceSet w]{fullShare} tg₀ m d) ∗ (oLoc d ↦[pieceSet w]{fullShare} f))

instance GoW_storable (d : Dev nD) (f : S1024.Idx → F .f32) (w : Fin 32) : BI.Storable (upEmb : UEmb _ 𝕄) (GoW m d f w) := by
  unfold GoW; infer_instance

/-- The piece of the tile on subcore `i` of core `c`. -/
def wOf (c : Fin 2) (i : Fin 16) : Fin 32 := ⟨2 * i.val + c.val, by omega⟩

def P : (K (F := F)).Pay (nD := nD) (Val := Elt F) (Name := ℕ) (U := UU) where
  st := fun q d c => match q with | 0 => bigSep Finset.univ fun i : Fin 16 => GoW m d (m (oLoc d)) (wOf (Fin.cast nCore_zero c) i)
  dn := fun q d c => match q with | 0 => bigSep Finset.univ fun i : Fin 16 => GoW m d (gath (Xp m d) (tg₀ m d)) (wOf (Fin.cast nCore_zero c) i)
  go := fun q d c i => match q with | 0 => GoW m d (m (oLoc d)) (wOf (Fin.cast nCore_zero c) (Fin.cast nSub_zero i))
  td := fun q d c i => match q with | 0 => GoW m d (gath (Xp m d) (tg₀ m d)) (wOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => GoW m d (m (oLoc d)) (wOf (Fin.cast nCore_zero c) i)))
  dn q d c := match q with
    | 0 => (inferInstance : BI.Storable (upEmb : UEmb _ 𝕄)
        (bigSep Finset.univ fun i : Fin 16 => GoW m d (gath (Xp m d) (tg₀ m d)) (wOf (Fin.cast nCore_zero c) i)))
  go q d c i := match q with | 0 => GoW_storable m d _ _
  td q d c i := match q with | 0 => GoW_storable m d _ _

/-! ## The tiles -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s) xV (Memref.isWhole_whole _) tV (Memref.isWhole_whole _)
          oV (Memref.isWhole_whole _) sT (Memref.isWhole_whole _) sC (Memref.isWhole_whole _) sO (Memref.isWhole_whole _)
          cc0_scratch3 cc0_scoped0 cc0_scoped1) ⟨⟩ c s := rfl

theorem obl_post {thr : Thread nD τ} {A B C : sProp (MT nD τ sig (HIx 1) (Elt F) ℕ UU ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 8000 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : wOf (Fin.cast nCore_zero c) (Fin.cast nSub_zero i) = wIx (coordsV ⟨_, hc.1⟩ ⟨_, hc.2⟩) := Fin.ext rfl
  show iprop(_ ∗ _ ∗ GoW m d (m (oLoc d)) (wOf (Fin.cast nCore_zero c) (Fin.cast nSub_zero i)) ∗ _) ⊢ wp _ _ _ _ fun _ =>
    iprop(GoW m d (gath (Xp m d) (tg₀ m d)) (wOf (Fin.cast nCore_zero c) (Fin.cast nSub_zero i)) ∗ _)
  rw [hw]
  exact (tile_body d (coordsV ⟨_, hc.1⟩ ⟨_, hc.2⟩) (tg₀ m d) (hpre d) (Xp m d) (Transfers.shareTok fullShare 32 (wIx (coordsV ⟨_, hc.1⟩ ⟨_, hc.2⟩)))
    (m (oLoc d)) hF O W hO).trans (wp_mono frame _ _ fun _ => obl_post)

/-! ## The arrays over the tiles -/

theorem bigSep_tasks (Φ : Fin 16 → sProp (MT nD τ sig (HIx 1) (Elt F) ℕ UU ℕ)) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp (MT nD τ sig (HIx 1) (Elt F) ℕ UU ℕ)) :
    (bigSep Finset.univ fun c : Fin ((K (F := F)).nCore 0) => Φ (Fin.cast nCore_zero c)) = bigSep Finset.univ Φ :=
  bigSep_congr fun _ _ => congrArg Φ (Fin.ext rfl)

def wEmb (c : Fin 2) : Fin 16 ↪ Fin 32 := ⟨wOf c, fun i j h => by
  have := congrArg Fin.val h
  apply Fin.ext
  simp only [wOf] at this
  omega⟩

theorem pieces_eq (Φ : Fin 32 → sProp (MT nD τ sig (HIx 1) (Elt F) ℕ UU ℕ)) :
    (bigSep Finset.univ fun c : Fin 2 => bigSep Finset.univ fun i : Fin 16 => Φ (wOf c i)) = bigSep Finset.univ Φ := by
  have hu : (Finset.univ : Finset (Fin 32)) = (Finset.univ : Finset (Fin 2)).biUnion fun c => Finset.univ.map (wEmb c) := by
    symm; rw [Finset.eq_univ_iff_forall]; intro w
    refine Finset.mem_biUnion.mpr ⟨(⟨w.val % 2, by omega⟩ : Fin 2), Finset.mem_univ _, Finset.mem_map.mpr ⟨(⟨w.val / 2, by omega⟩ : Fin 16), Finset.mem_univ _, ?_⟩⟩
    apply Fin.ext
    show 2 * (w.val / 2) + w.val % 2 = w.val
    omega
  rw [hu, bigSep_biUnion_eq _ _ _ fun c _ c' _ h => ?_]
  swap
  · refine Finset.disjoint_left.mpr fun w h1 h2 => h ?_
    obtain ⟨i, -, rfl⟩ := Finset.mem_map.mp h1
    obtain ⟨j, -, e⟩ := Finset.mem_map.mp h2
    have e' : 2 * j.val + c'.val = 2 * i.val + c.val := congrArg Fin.val e
    apply Fin.ext; omega
  exact bigSep_congr fun c _ => (BI.bigSep_map (wEmb c)).symm

theorem vecSplit : (K (F := F)).VecSplit' (P m) 0 := by
  intro d c
  show (bigSep Finset.univ fun i : Fin 16 => GoW m d (m (oLoc d)) (wOf (Fin.cast nCore_zero c) i)) ⊢ |={Set.univ}=> iprop(
      (bigSep Finset.univ fun i : Fin ((K (F := F)).nSub 0) => GoW m d (m (oLoc d)) (wOf (Fin.cast nCore_zero c) (Fin.cast nSub_zero i)))
      ∗ ((bigSep Finset.univ fun i : Fin ((K (F := F)).nSub 0) => GoW m d (gath (Xp m d) (tg₀ m d)) (wOf (Fin.cast nCore_zero c) (Fin.cast nSub_zero i)))
        -∗ bigSep Finset.univ fun i : Fin 16 => GoW m d (gath (Xp m d) (tg₀ m d)) (wOf (Fin.cast nCore_zero c) i)))
  rw [bigSep_tasks (F := F) (fun i => GoW m d (m (oLoc d)) (wOf (Fin.cast nCore_zero c) i)),
    bigSep_tasks (F := F) (fun i => GoW m d (gath (Xp m d) (tg₀ m d)) (wOf (Fin.cast nCore_zero c) i))]
  iintro H; imodintro
  isplitl [H]; · iexact H
  iintro H; iexact H

theorem tPts_eq (d : Dev nD) (f : S1024.Idx → BitVec 32) :
    (tLoc d ↦{fullShare} f : sProp 𝕄) = bigSep Finset.univ fun w : Fin 32 => tLoc d ↦[pieceSet w]{fullShare} f := by
  rw [← pointsTo_biUnion Finset.univ (ℓ := tLoc d) pieceSet pieces_disjoint, pieces_cover]; try rfl
theorem oPts_eq (d : Dev nD) (f : S1024.Idx → F .f32) :
    (oLoc d ↦{fullShare} f : sProp 𝕄) = bigSep Finset.univ fun w : Fin 32 => oLoc d ↦[pieceSet w]{fullShare} f := by
  rw [← pointsTo_biUnion Finset.univ (ℓ := oLoc d) pieceSet pieces_disjoint, pieces_cover]; try rfl

/-- The arrays at `f`, besides the part of the table's share no tile takes. -/
theorem goes_eq (d : Dev nD) (f : S1024.Idx → F .f32) :
    (bigSep Finset.univ (GoW m d f) : sProp 𝕄)
      = iprop((bigSep Finset.univ fun w : Fin 32 => xLoc d ↦{Transfers.shareTok fullShare 32 w} Xp m d) ∗ (tLoc d ↦{fullShare} tg₀ m d) ∗ (oLoc d ↦{fullShare} f)) := by
  unfold GoW
  rw [bigSep_sep', bigSep_sep', tPts_eq, oPts_eq]

theorem st0_eq (d : Dev nD) :
    (bigSep Finset.univ fun c : Fin ((K (F := F)).nCore 0) => (P m).st 0 d c)
      = iprop((bigSep Finset.univ fun w : Fin 32 => xLoc d ↦{Transfers.shareTok fullShare 32 w} Xp m d) ∗ (tLoc d ↦{fullShare} tg₀ m d) ∗ (oLoc d ↦{fullShare} m (oLoc d))) := by
  show (bigSep Finset.univ fun c : Fin ((K (F := F)).nCore 0) => bigSep Finset.univ fun i : Fin 16 => GoW m d (m (oLoc d)) (wOf (Fin.cast nCore_zero c) i)) = _
  rw [bigSep_cores (F := F) (fun c => bigSep Finset.univ fun i : Fin 16 => GoW m d (m (oLoc d)) (wOf c i)), pieces_eq, goes_eq]

theorem dn0_eq (d : Dev nD) :
    (bigSep Finset.univ fun c : Fin ((K (F := F)).nCore 0) => (P m).dn 0 d c)
      = iprop((bigSep Finset.univ fun w : Fin 32 => xLoc d ↦{Transfers.shareTok fullShare 32 w} Xp m d) ∗ (tLoc d ↦{fullShare} tg₀ m d)
        ∗ (oLoc d ↦{fullShare} gath (Xp m d) (tg₀ m d))) := by
  show (bigSep Finset.univ fun c : Fin ((K (F := F)).nCore 0) => bigSep Finset.univ fun i : Fin 16 => GoW m d (gath (Xp m d) (tg₀ m d)) (wOf (Fin.cast nCore_zero c) i)) = _
  rw [bigSep_cores (F := F) (fun c => bigSep Finset.univ fun i : Fin 16 => GoW m d (gath (Xp m d) (tg₀ m d)) (wOf c i)), pieces_eq, goes_eq]

end Cert.Proof.SC

end
-- ==== Proof.Body1.lean ====
/-
  The streaming pallas_call's body (`cc1__loss_body`), run at its three kinds of grid point: the first (which
  initialises the three running vectors), the ones between, and the last (the masked block, then the epilogue).
-/
module

public import proofs.«01_k».proof.Defs
public import proofs.«01_k».proof.Proof.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.ValueLayout
public import Idealize.ShloMosaic.Lib.Tactic

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig (HIx 1) (Elt F) ℕ UU ℕ

/-- The three conditions of the body on the column block's number. -/
theorem cond_first : ∀ j : Fin 28, (Scalar.cmpi .ne (Scalar.extui (Scalar.cmpi .eq (BitVec.ofNat 32 j.val) 0#32) : BitVec 32) 0#32 = 1#1) ↔ j.val = 0 := by decide
theorem cond_mid : ∀ j : Fin 28, (Scalar.cmpi .ne (Scalar.extui (Scalar.cmpi .slt (BitVec.ofNat 32 j.val) 27#32) : BitVec 32) 0#32 = 1#1) ↔ j.val < 27 := by decide
theorem cond_last : ∀ j : Fin 28, (Scalar.cmpi .ne (Scalar.extui (Scalar.cmpi .eq (BitVec.ofNat 32 j.val) 27#32) : BitVec 32) 0#32 = 1#1) ↔ j.val = 27 := by decide

/-- The running vectors: maximum, sum of exponentials, sum. -/
abbrev Run3 (F : FTy → Type) [FloatOps F] : Type := Vec F S1024x1 .f32 × Vec F S1024x1 .f32 × Vec F S1024x1 .f32

/-- Their start, -/
def run0 : Run3 F := (k1_pay1 (F := F), k1_pay2 (F := F), k1_pay3 (F := F))
/-- the update by a full block, -/
def runStep (v : Vec F S1024x3584 .f32) (r : Run3 F) : Run3 F := (k1_pay7 v r.1, k1_pay5 v r.1 r.1 r.2.1, k1_pay6 v r.2.2)
/-- the update by the last block, its columns past the array's end masked off, -/
def runLast (v : Vec F S1024x3584 .f32) (r : Run3 F) : Run3 F :=
  (k1_pay9 (k1_pay13 27#32 v r.1), k1_pay14 27#32 v r.1 r.1 r.2.1, k1_pay8 (k1_pay15 27#32 v r.2.2))
/-- and the epilogue's result. -/
def runOut (r : Run3 F) : FVec F S1x1x1 .f32 := k1_pay10 r.1 r.2.1 r.2.2

/-- The scratch vectors held at `r`. -/
def scr (d : Dev nD) (r : Run3 F) : sProp (MT nD τ sig (HIx 1) (Elt F) ℕ UU ℕ) :=
  iprop((((T d : Thread nD τ).loc cc1_scratch0) ↦{fullShare} r.1) ∗ (((T d : Thread nD τ).loc cc1_scratch1) ↦{fullShare} r.2.1)
    ∗ (((T d : Thread nD τ).loc cc1_scratch2) ↦{fullShare} r.2.2))

theorem z2 : (![0, 0] : Fin 2 → Nat) = fun _ => 0 := funext fun a => by fin_cases a <;> rfl
theorem z3 : (![0, 0, 0] : Fin 3 → Nat) = fun _ => 0 := funext fun a => by fin_cases a <;> rfl

abbrev r0 : Rect S1024x1 := Rect.unit (s := S1024x1) ![0, 0] ![1024, 1] inb_S1024x1_S1024x1_0_0
abbrev rX : Rect S1024x3584 := Rect.unit (s := S1024x3584) ![0, 0] ![1024, 3584] inb_S1024x3584_S1024x3584_0_0
abbrev rO : Rect S1x1x1 := Rect.unit (s := S1x1x1) ![0, 0, 0] ![1, 1, 1] inb_S1x1x1_S1x1x1_0_0_0

theorem rd0 (f) : (View.whole cc1_scratch0).readAt (Elt F) r0.toLoadRect f = f := Memref.readAt_unit_zero (Elt F) cc1_scratch0 z2 _ f
theorem rd1 (f) : (View.whole cc1_scratch1).readAt (Elt F) r0.toLoadRect f = f := Memref.readAt_unit_zero (Elt F) cc1_scratch1 z2 _ f
theorem rd2 (f) : (View.whole cc1_scratch2).readAt (Elt F) r0.toLoadRect f = f := Memref.readAt_unit_zero (Elt F) cc1_scratch2 z2 _ f
theorem wr0 (f w) : (((Memref.whole cc1_scratch0).access r0) : View sig .tc _ _ _).write (Elt F) f w Finset.univ = w := Memref.write_access_unit_zero_univ (Elt F) cc1_scratch0 z2 _ f w
theorem wr1 (f w) : (((Memref.whole cc1_scratch1).access r0) : View sig .tc _ _ _).write (Elt F) f w Finset.univ = w := Memref.write_access_unit_zero_univ (Elt F) cc1_scratch1 z2 _ f w
theorem wr2 (f w) : (((Memref.whole cc1_scratch2).access r0) : View sig .tc _ _ _).write (Elt F) f w Finset.univ = w := Memref.write_access_unit_zero_univ (Elt F) cc1_scratch2 z2 _ f w
theorem wrO (f w) : (((Memref.whole cc1_stg1_0).access rO) : View sig .tc _ _ _).write (Elt F) f w Finset.univ = w := Memref.write_access_unit_zero_univ (Elt F) cc1_stg1_0 z3 _ f w

theorem ws0 (f : (View.whole cc1_scratch0 : View sig .tc _ _ _).ty.Contents (Elt F)) (w L) : (View.whole cc1_scratch0).writes (Elt F) f (⟨r0, w⟩ :: L) = w := wr0 _ w
theorem ws1 (f : (View.whole cc1_scratch1 : View sig .tc _ _ _).ty.Contents (Elt F)) (w L) : (View.whole cc1_scratch1).writes (Elt F) f (⟨r0, w⟩ :: L) = w := wr1 _ w
theorem ws2 (f : (View.whole cc1_scratch2 : View sig .tc _ _ _).ty.Contents (Elt F)) (w L) : (View.whole cc1_scratch2).writes (Elt F) f (⟨r0, w⟩ :: L) = w := wr2 _ w

/-- The body on the two memrefs its windows stage, over the scratch vectors. -/
abbrev body1 (i : grid1.Coords) (M0 : Memref sig .tc .vmem S1024x3584 .f32) (h0 : M0.IsWhole) : Prog (TpuEff nD τ sig (Elt F) Λ₀ .tc) PUnit :=
  cc1__loss_body i M0 h0 (Memref.whole cc1_stg1_0) (Memref.isWhole_whole _) (Memref.whole cc1_scratch0) (Memref.isWhole_whole _)
    (Memref.whole cc1_scratch1) (Memref.isWhole_whole _) (Memref.whole cc1_scratch2) (Memref.isWhole_whole _)

variable (d : Dev nD) (i : grid1.Coords) (M0 : Memref sig .tc .vmem S1024x3584 .f32) (h0 : M0.IsWhole)
  (f0 : Buf (Elt F) (M0.view.loc (T d : Thread nD τ))) (X : Vec F S1024x3584 .f32) (hX : M0.view.readAt (Elt F) rX.toLoadRect f0 = X)
  (E : Set ℕ) (Q : PUnit → sProp (MT nD τ sig (HIx 1) (Elt F) ℕ UU ℕ))

include hX in
theorem body_mid (r : Run3 F) (hi : (i 1).val ≠ 0) (hl : (i 1).val < 27) :
    iprop((M0.view.loc (T d : Thread nD τ) ↦{fullShare} f0) ∗ scr d r
        ∗ (iprop((M0.view.loc (T d : Thread nD τ) ↦{fullShare} f0) ∗ scr d (runStep X r)) -∗ Q ⟨⟩))
      ⊢ wp frame (wpE (defs₀ (F := F)) Variants.none (T d) none) E (body1 i M0 h0) Q := by
  have c1 := mt (cond_first (i 1)).mp hi
  have c2 := (cond_mid (i 1)).mpr hl
  have c3 : ¬ k1_cond3 i = 1#1 := mt (cond_last (i 1)).mp (by omega)
  unfold body1; rw [cc1__loss_body_eq_skeleton]; unfold cc1__loss_body_skel scr
  simp only [dif_neg c1, dif_pos c2, dif_neg c3, Prog.lift, Prog.bind_op, Prog.bind_ret, pure_bind]
  iintro ⟨H0, ⟨Hm, Hs, Hu⟩, Hk⟩
  sl_steps
  rw [hX]; simp only [rd0, rd1, rd2]; rw [wr0, wr1, wr2]
  iapply Hk
  unfold runStep; dsimp only
  isplitl [H0]; · iexact H0
  isplitl [Hm]; · iexact Hm
  isplitl [Hs]; · iexact Hs
  iexact Hu

include hX in
theorem body_first (g : Run3 F) (hi : (i 1).val = 0) :
    iprop((M0.view.loc (T d : Thread nD τ) ↦{fullShare} f0) ∗ scr d g
        ∗ (iprop((M0.view.loc (T d : Thread nD τ) ↦{fullShare} f0) ∗ scr d (runStep X run0)) -∗ Q ⟨⟩))
      ⊢ wp frame (wpE (defs₀ (F := F)) Variants.none (T d) none) E (body1 i M0 h0) Q := by
  have c1 := (cond_first (i 1)).mpr hi
  have c2 := (cond_mid (i 1)).mpr (by omega)
  have c3 : ¬ k1_cond3 i = 1#1 := mt (cond_last (i 1)).mp (by omega)
  unfold body1; rw [cc1__loss_body_eq_skeleton]; unfold cc1__loss_body_skel scr
  simp only [dif_pos c1, dif_pos c2, dif_neg c3, Prog.lift, Prog.bind_op, Prog.bind_ret, pure_bind]
  iintro ⟨H0, ⟨Hm, Hs, Hu⟩, Hk⟩
  sl_steps
  rw [hX]
  iapply Hk
  unfold runStep run0; dsimp only
  repeat rw [wr0]
  repeat rw [wr1]
  repeat rw [wr2]
  simp only [rd0, rd1, rd2]
  rw [ws0, ws1, ws2]
  isplitl [H0]; · iexact H0
  isplitl [Hm]; · iexact Hm
  isplitl [Hs]; · iexact Hs
  iexact Hu

include hX in
theorem body_last (r : Run3 F) (g1 : Buf (Elt F) ((T d : Thread nD τ).loc cc1_stg1_0)) (hl : (i 1).val = 27) :
    iprop((M0.view.loc (T d : Thread nD τ) ↦{fullShare} f0) ∗ (((T d : Thread nD τ).loc cc1_stg1_0) ↦{fullShare} g1) ∗ scr d r
        ∗ (iprop((M0.view.loc (T d : Thread nD τ) ↦{fullShare} f0)
            ∗ (((T d : Thread nD τ).loc cc1_stg1_0) ↦{fullShare} runOut (runLast X r)) ∗ scr d (runLast X r)) -∗ Q ⟨⟩))
      ⊢ wp frame (wpE (defs₀ (F := F)) Variants.none (T d) none) E (body1 i M0 h0) Q := by
  have c1 := mt (cond_first (i 1)).mp (by omega)
  have c2 := mt (cond_mid (i 1)).mp (by omega)
  have c3 : k1_cond3 i = 1#1 := (cond_last (i 1)).mpr hl
  unfold body1; rw [cc1__loss_body_eq_skeleton]; unfold cc1__loss_body_skel scr
  simp only [dif_neg c1, dif_neg c2, dif_pos c3, k1_part1_eq_skeleton]
  unfold k1_part1_skel
  simp only [Prog.lift, Prog.bind_op, Prog.bind_ret, pure_bind]
  rw [hl]
  iintro ⟨H0, H1, ⟨Hm, Hs, Hu⟩, Hk⟩
  sl_steps
  rw [hX]
  iapply Hk
  unfold runOut runLast; dsimp only
  repeat rw [wr0]
  repeat rw [wr1]
  repeat rw [wr2]
  rw [wrO]
  simp only [rd0, rd1, rd2]
  isplitl [H0]; · iexact H0
  isplitl [H1]; · iexact H1
  isplitl [Hm]; · iexact Hm
  isplitl [Hs]; · iexact Hs
  iexact Hu

end Cert.Proof.SC
end
-- ==== Proof.Region1.lean ====
/-
  The streaming pallas_call (pipeline 0 of @main) as a region of @main: its proof data over the contents of the
  unscoped buffers at its entry, its body obligation at each of the 28 column blocks, and the region's record.
-/
module

public import proofs.«01_k».proof.Defs
public import proofs.«01_k».proof.Proof.Body1
public import proofs.«01_k».proof.Proof.Gen.KernelIdeal.Points
public import proofs.«01_k».proof.Proof.Gen.KernelIdeal.Launch
public import Idealize.ShloMosaic.Lib.Pipeline.RegionsLoop
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.ValueLayout
public import Idealize.ShloMosaic.Lib.Tactic

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

open Idealize.ShloMosaic.Pipeline (Dat Cfg Window BodyObligation BodyObligationLoose)

variable {F : FTy → Type} [FloatOps F] [Named F]

local notation "𝕄" => MT nD τ sig (HIx 1) (Elt F) ℕ UU ℕ

abbrev adm : (p : Fin 2) → (pcfgs (F := F) p).Adm := fun p => (cfgs p).toPCfg_adm

variable (V : (c : Dev nD) → (b : Ref sig .tc) → Buf (Elt F) ((T c : Thread nD τ).loc b))

/-! ## What the windows stage -/

/-- Column block `n` of the operand, past the array's end at zero. -/
def xb (c : Dev nD) (n : ℕ) : Vec F S1024x3584 .f32 := fun j =>
  if h : n * 3584 + (j 1).val < 100000 then V c main_arg0 (ix2 (n0 := 1024) (n1 := 100000) ⟨(j 0).val, (j 0).isLt⟩ ⟨n * 3584 + (j 1).val, h⟩)
  else Scalar.ofBits .f32 0#32

/-- The running vectors before column block `n`. -/
def runAt (c : Dev nD) : ℕ → Run3 F
  | 0 => run0
  | n + 1 => runStep (xb V c n) (runAt c n)

/-- What the region writes. -/
def out1 (c : Dev nD) : FVec F S1x1x1 .f32 := runOut (runLast (xb V c 27) (runAt V c 27))

/-- The staged part of the operand at point `t`, as the fetch reads it. -/
def xraw (c : Dev nD) (t : Fin cfg1.N) : (win1_0.xblock (grid1.coords t)).Idx → Elt F .f32 :=
  (win1_0.blk t).view.read (Elt F) (V c main_arg0)

/-! ## The proof data -/

/-- The scoped buffers the region does not use. -/
def rest1 (c : Dev nD) : sProp (MT nD τ sig (HIx 1) (Elt F) ℕ UU ℕ) :=
  iprop((∃ f : Buf (Elt F) ((T c : Thread nD τ).loc cc2_stg0_0), ((T c : Thread nD τ).loc cc2_stg0_0) ↦{fullShare} f)
    ∗ (∃ f : Buf (Elt F) ((T c : Thread nD τ).loc cc2_stg1_0), ((T c : Thread nD τ).loc cc2_stg1_0) ↦{fullShare} f)
    ∗ (∃ f : Buf (Elt F) ((T c : Thread nD τ).loc cc2_stg2_0), ((T c : Thread nD τ).loc cc2_stg2_0) ↦{fullShare} f))

/-- The invariant before column block `n`: the scratch vectors at the running values, once a block has been added. -/
def Phi1 (c : Dev nD) (n : ℕ) : sProp (MT nD τ sig (HIx 1) (Elt F) ℕ UU ℕ) :=
  iprop((∃ r : Run3 F, ⌜0 < n → n < 28 → r = runAt V c n⌝ ∗ scr c r) ∗ rest1 c)

variable (bd : ℕ)

def dat1 (c : Dev nD) : Dat τ (Elt F) (HIx 1) ℕ UU ℕ cfg1 c where
  A w := V c (Pipeline.arrRef spec1 w)
  after w t := match w with
    | ⟨0, _⟩ => win1_0.fill (grid1.coords t) (fun _ => Scalar.ofBits .f32 0#32) (xraw V c t)
    | ⟨1, _⟩ => out1 V c
  Φ t := Phi1 V c t.val
  q _ := fullShare
  owed _ := 0
  recorded _ := {p | (K (F := F)).lev ((T c : Thread nD τ), p.1) p.2 ≤ bd}

/-- Proof data for the pipeline a region does not run: anything. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

def pdats1 : (p : Fin 2) → (c : Dev nD) → Dat τ (Elt F) (HIx 1) ℕ UU ℕ (Pipeline.pin (pcfgs (F := F)) adm p) c
  | ⟨0, _⟩ => fun c => dat1 V bd c
  | ⟨1, _⟩ => fun c => junkDat c

/-! ## What the body finds -/

theorem coords1_1 : ∀ t : Fin grid1.N, (grid1.coords t 1).val = t.val := by decide +kernel

theorem before1_0 (c : Dev nD) (t : Fin cfg1.N) (d) :
    (dat1 V bd c).before (0 : Fin 2) t d = win1_0.fill (grid1.coords t) d (xraw V c t) := by
  unfold Dat.before; rw [if_pos (fetch1_0 t)]; rfl

theorem xsize1 : ∀ t : Fin grid1.N, win1_0.xsize (grid1.coords t) 0 = 1024 ∧ win1_0.xsize (grid1.coords t) 1 = min 3584 (100000 - t.val * 3584) := by decide +kernel
theorem off1 : ∀ t : Fin grid1.N, (win1_0.rect t).off 0 = 0 ∧ (win1_0.rect t).off 1 = t.val * 3584 := by decide +kernel

theorem fill1_apply (c : Dev nD) (t : Fin cfg1.N) (d : S1024x3584.Idx → Elt F .f32) (j : S1024x3584.Idx) :
    (win1_0.fill (grid1.coords t) d (xraw V c t) : S1024x3584.Idx → Elt F .f32) j
      = if h : t.val * 3584 + (j 1).val < 100000 then V c main_arg0 (ix2 (n0 := 1024) (n1 := 100000) ⟨(j 0).val, (j 0).isLt⟩ ⟨t.val * 3584 + (j 1).val, h⟩)
        else d j := by
  unfold Window.fill
  have hm : win1_0.moved (grid1.coords t) j = true ↔ t.val * 3584 + (j 1).val < 100000 := by
    rw [Window.moved_iff]
    have h0 : (j 0).val < 1024 := (j 0).isLt
    have h1 : (j 1).val < 3584 := (j 1).isLt
    constructor
    · intro h; have := h 1; rw [(xsize1 t).2] at this; omega
    · intro h a; fin_cases a
      · exact h0.trans_eq (xsize1 t).1.symm
      · refine Nat.lt_of_lt_of_eq ?_ (xsize1 t).2.symm
        show (j 1).val < _
        omega
  by_cases h : t.val * 3584 + (j 1).val < 100000
  · rw [dif_pos h, dif_pos (hm.mpr h)]
    unfold xraw
    rw [View.read_apply]
    show _root_.cast _ (V c main_arg0 ((Memref.whole main_arg0).view.emb ((win1_0.rect t).emb _))) = _
    refine (cast_eq _ _).trans (congrArg (V c main_arg0) (funext ?_))
    intro (a : Fin 2)
    refine Fin.ext ?_
    fin_cases a
    · show (win1_0.rect t).off 0 + 1 * (j 0).val = (j 0).val
      rw [(off1 t).1]; omega
    · show (win1_0.rect t).off 1 + 1 * (j 1).val = t.val * 3584 + (j 1).val
      rw [(off1 t).2]; omega
  · rw [dif_neg h, dif_neg (mt hm.mp h)]

/-- A block before the last is whole, -/
theorem fill1_full (c : Dev nD) (t : Fin cfg1.N) (ht : t.val < 27) (d : S1024x3584.Idx → Elt F .f32) :
    (win1_0.fill (grid1.coords t) d (xraw V c t) : S1024x3584.Idx → Elt F .f32) = xb V c t.val := by
  funext j
  have h1 : (j 1).val < 3584 := (j 1).isLt
  rw [fill1_apply]; unfold xb
  rw [dif_pos (by omega), dif_pos (by omega)]

/-- The last block's mask: the columns inside the array. -/
theorem mask_word : ∀ n : Fin 3584, IntOp.cmpi .slt (IntOp.addi (Scalar.muli 27#32 3584#32) (BitVec.ofNat 32 n.val)) 100000#32 = if n.val < 3232 then 1#1 else 0#1 := by
  decide +kernel

theorem mask_apply (j : S1024x3584.Idx) :
    broadcastTo S1024x3584 (shapeCast S1x3584 (k1_pay11 27#32) shapeCasts_S1x3584_S1x3584) broadcasts_S1x3584_S1024x3584 j
      = if (j 1).val < 3232 then 1#1 else 0#1 := by
  rw [shapeCast_self, broadcastTo_apply _ _ j (ix2 (n0 := 1) (n1 := 3584) 0 (j 1)) (fun a => by fin_cases a <;> rfl)]
  refine Eq.trans ?_ (mask_word (j 1))
  unfold k1_pay11
  show IntOp.cmpi .slt (IntOp.addi _ (BitVec.ofNat 32 (0 * 3584 + (j 1).val))) _ = _
  rw [Nat.zero_mul, Nat.zero_add]
  rfl

/-- and of the last block the masked update reads the columns inside the array only. -/
theorem mask27 (v v' : Vec F S1024x3584 .f32) (h : ∀ j : S1024x3584.Idx, (j 1).val < 3232 → v j = v' j) :
    k1_pay12 27#32 v = k1_pay12 27#32 v' ∧ (∀ u, k1_pay15 27#32 v u = k1_pay15 27#32 v' u) := by
  have hs : ∀ w : Vec F S1024x3584 .f32,
      select (broadcastTo S1024x3584 (shapeCast S1x3584 (k1_pay11 27#32) shapeCasts_S1x3584_S1x3584) broadcasts_S1x3584_S1024x3584) v w
        = select (broadcastTo S1024x3584 (shapeCast S1x3584 (k1_pay11 27#32) shapeCasts_S1x3584_S1x3584) broadcasts_S1x3584_S1024x3584) v' w := by
    intro w; funext j; unfold select
    rw [mask_apply]
    by_cases hj : (j 1).val < 3232
    · rw [h j hj]
    · rw [if_neg hj]; rfl
  constructor
  · unfold k1_pay12; exact hs _
  · intro u; unfold k1_pay15; dsimp only; rw [hs]

theorem runLast_congr (v v' : Vec F S1024x3584 .f32) (h : ∀ j : S1024x3584.Idx, (j 1).val < 3232 → v j = v' j) (r : Run3 F) :
    runLast v r = runLast v' r := by
  obtain ⟨h12, h15⟩ := mask27 v v' h
  unfold runLast k1_pay14 k1_pay13
  rw [h12, h15]

theorem fill1_last (c : Dev nD) (t : Fin cfg1.N) (ht : t.val = 27) (d : S1024x3584.Idx → Elt F .f32) (r : Run3 F) :
    runLast (win1_0.fill (grid1.coords t) d (xraw V c t) : S1024x3584.Idx → Elt F .f32) r = runLast (xb V c 27) r := by
  refine runLast_congr _ _ (fun j hj => ?_) r
  rw [fill1_apply]; unfold xb
  rw [dif_pos (by omega), dif_pos (by omega)]
  simp only [ht]

/-! ## The body's obligation -/

theorem idle1_1 : ∀ t : Fin cfg1.N, cfg1.idle 1 (cfg1.grid.coords t) = true ↔ t.val < 27 := by decide +kernel
theorem flush1_1' (t : Fin cfg1.N) : (cfg1.win 1).flush t = true ↔ t.val = 27 := by
  have h : t.val < 28 := t.isLt.trans_eq N_1
  rw [flush1_1]; omega

/-- The body at point `t` on whichever of the operand's two staging buffers is current. -/
theorem sound1 (c : Dev nD) (t : Fin cfg1.N) (s : Fin 2) (d : S1024x3584.Idx → Elt F .f32) (X1 : S1x1x1.Idx → Elt F .f32) (Q : PUnit → sProp (MT nD τ sig (HIx 1) (Elt F) ℕ UU ℕ)) :
    iprop(Phi1 V c t.val ∗ owns (T c : Thread nD τ) (stage1_0 s) fullShare (win1_0.fill (grid1.coords t) d (xraw V c t) : S1024x3584.Idx → Elt F .f32)
        ∗ owns (T c : Thread nD τ) (Memref.whole cc1_stg1_0) fullShare X1
        ∗ (iprop(Phi1 V c (t.val + 1) ∗ owns (T c : Thread nD τ) (stage1_0 s) fullShare (win1_0.fill (grid1.coords t) d (xraw V c t) : S1024x3584.Idx → Elt F .f32)
            ∗ owns (T c : Thread nD τ) (Memref.whole cc1_stg1_0) fullShare (if t.val = 27 then out1 V c else X1)) -∗ Q ⟨⟩))
      ⊢ wp frame (wpE (defs₀ (F := F)) 𝒱₀ (T c) none) Set.univ (body1 (grid1.coords t) (stage1_0 s) (hstage1_0 s)) Q := by
  have hc := coords1_1 t
  have hN : t.val < 28 := t.isLt.trans_eq N_1
  have hr0 : ∀ f, (Memref.whole cc1_stg0_0 : Memref sig .tc _ _ _).view.readAt (Elt F) rX.toLoadRect f = f := Memref.readAt_unit_zero (Elt F) cc1_stg0_0 z2 _
  have hr1 : ∀ f, (Memref.whole cc1_stg0_1 : Memref sig .tc _ _ _).view.readAt (Elt F) rX.toLoadRect f = f := Memref.readAt_unit_zero (Elt F) cc1_stg0_1 z2 _
  have key : ∀ (M0 : Memref sig .tc .vmem S1024x3584 .f32) (h0 : M0.IsWhole) (f0 : Buf (Elt F) (M0.view.loc (T c : Thread nD τ)))
      (hX : M0.view.readAt (Elt F) rX.toLoadRect f0 = (win1_0.fill (grid1.coords t) d (xraw V c t) : S1024x3584.Idx → Elt F .f32)),
      iprop(Phi1 V c t.val ∗ (M0.view.loc (T c : Thread nD τ) ↦{fullShare} f0)
        ∗ (((T c : Thread nD τ).loc cc1_stg1_0) ↦{fullShare} X1)
        ∗ (iprop(Phi1 V c (t.val + 1) ∗ (M0.view.loc (T c : Thread nD τ) ↦{fullShare} f0)
            ∗ (((T c : Thread nD τ).loc cc1_stg1_0) ↦{fullShare} (if t.val = 27 then out1 V c else X1))) -∗ Q ⟨⟩))
      ⊢ wp frame (wpE (defs₀ (F := F)) 𝒱₀ (T c) none) Set.univ (body1 (grid1.coords t) M0 h0) Q := by
    intro M0 h0 f0 hX
    unfold Phi1
    iintro ⟨⟨⟨%r, %hr, Hs⟩, Hrest⟩, H0, H1, Hk⟩
    rcases Nat.lt_or_ge t.val 27 with hl | hl
    · rw [fill1_full V c t hl] at hX
      rw [if_neg (by omega)]
      by_cases h00 : t.val = 0
      · iapply (body_first c (grid1.coords t) M0 h0 f0 _ hX Set.univ Q r (hc.trans h00))
        isplitl [H0]; · iexact H0
        isplitl [Hs]; · iexact Hs
        iintro ⟨H0, Hs⟩
        iapply Hk
        isplitl [Hs Hrest]
        · isplitl [Hs]
          · iexists _; isplitr; swap; (· iexact Hs)
            ipureintro; intro _ _; rw [h00]; rfl
          iexact Hrest
        isplitl [H0] <;> iassumption
      · iapply (body_mid c (grid1.coords t) M0 h0 f0 _ hX Set.univ Q r (hc.trans_ne h00) (hc.trans_lt hl))
        isplitl [H0]; · iexact H0
        isplitl [Hs]; · iexact Hs
        iintro ⟨H0, Hs⟩
        iapply Hk
        isplitl [Hs Hrest]
        · isplitl [Hs]
          · iexists _; isplitr; swap; (· iexact Hs)
            ipureintro; intro _ _; rw [hr (by omega) hN]; rfl
          iexact Hrest
        isplitl [H0] <;> iassumption
    · have h27 : t.val = 27 := by omega
      rw [if_pos h27]
      iapply (body_last c (grid1.coords t) M0 h0 f0 _ hX Set.univ Q r X1 (hc.trans h27))
      isplitl [H0]; · iexact H0
      isplitl [H1]; · iexact H1
      isplitl [Hs]; · iexact Hs
      iintro ⟨H0, H1, Hs⟩
      iapply Hk
      isplitl [Hs Hrest]
      · isplitl [Hs]
        · iexists _; isplitr; swap; (· iexact Hs)
          ipureintro; intro _ h; omega
        iexact Hrest
      isplitl [H0]; · iexact H0
      rw [fill1_last V c t h27, hr (by omega) hN, h27]
      iexact H1
  fin_cases s
  · simp only [owns_whole_eq]
    iintro ⟨HΦ, ⟨%f0, %hf0, H0⟩, ⟨%f1, %hf1, H1⟩, Hk⟩
    subst hf1
    iapply (key (Memref.whole cc1_stg0_0) (hstage1_0 0) f0 ((hr0 f0).trans hf0))
    isplitl [HΦ]; · iexact HΦ
    isplitl [H0]; · iexact H0
    isplitl [H1]; · iexact H1
    iintro ⟨HΦ, H0, H1⟩
    iapply Hk
    isplitl [HΦ]; · iexact HΦ
    isplitl [H0]
    · iexists f0; isplitr; · ipureintro; exact hf0
      iexact H0
    iexists _; isplitr; swap; (· iexact H1)
    ipureintro; rfl
  · simp only [owns_whole_eq]
    iintro ⟨HΦ, ⟨%f0, %hf0, H0⟩, ⟨%f1, %hf1, H1⟩, Hk⟩
    subst hf1
    iapply (key (Memref.whole cc1_stg0_1) (hstage1_0 1) f0 ((hr1 f0).trans hf0))
    isplitl [HΦ]; · iexact HΦ
    isplitl [H0]; · iexact H0
    isplitl [H1]; · iexact H1
    iintro ⟨HΦ, H0, H1⟩
    iapply Hk
    isplitl [HΦ]; · iexact HΦ
    isplitl [H0]
    · iexists f0; isplitr; · ipureintro; exact hf0
      iexact H0
    iexists _; isplitr; swap; (· iexact H1)
    ipureintro; rfl

theorem body1_obligation (c : Dev nD) : BodyObligationLoose (dat1 V bd c) (defs₀ (F := F)) 𝒱₀ none Set.univ := fun t => by
  have hN : t.val < 28 := t.isLt.trans_eq N_1
  rw [bigSep_W1, bigSep_W1]
  rw [show (dat1 V bd c).Φ t.succ = Phi1 V c (t.val + 1) from rfl, show (dat1 V bd c).Φ t.castSucc = Phi1 V c t.val from rfl,
    show (dat1 V bd c).owesAt none t.succ = (dat1 V bd c).owesAt none t.castSucc from rfl]
  have hx : win1_0.cut (grid1.coords t) ((dat1 V bd c).after (0 : Fin 2) t) = xraw V c t := win1_0.cut_fill _ _ _
  have hb : defs₀ (F := F) Proc.tc cfg1.body (cfg1.bodyArgs t (cfg1.slots t)) = body1 (F := F) (grid1.coords t) (stage1_0 (cfg1.slots t 0)) (hstage1_0 (cfg1.slots t 0)) := by
    have h : ∀ s1 : Fin 1, cc1__loss_body (F := F) (grid1.coords t) (stage1_0 (cfg1.slots t 0)) (hstage1_0 (cfg1.slots t 0)) (stage1_1 s1) (hstage1_1 s1)
        (Memref.whole cc1_scratch0) (Memref.isWhole_whole _) (Memref.whole cc1_scratch1) (Memref.isWhole_whole _) (Memref.whole cc1_scratch2) (Memref.isWhole_whole _)
          = body1 (F := F) (grid1.coords t) (stage1_0 (cfg1.slots t 0)) (hstage1_0 (cfg1.slots t 0)) := by
      intro s1
      obtain rfl : s1 = (0 : Fin 1) := Subsingleton.elim _ _
      rfl
    exact h (cfg1.slots t 1)
  have hs1 : (cfg1.win 1).stage (cfg1.slots t 1) = (Memref.whole cc1_stg1_0 : Memref sig .tc .vmem S1x1x1 .f32) := by
    generalize cfg1.slots t 1 = s1
    obtain rfl : s1 = (0 : Fin 1) := Subsingleton.elim _ _
    rfl
  rw [hb, hs1]
  have hsound := sound1 V c t (cfg1.slots t 0)
  rcases Nat.lt_or_ge t.val 27 with hl | hl
  · have hi : cfg1.idle 1 (cfg1.grid.coords t) = true := (idle1_1 t).mpr hl
    have hf : (cfg1.win 1).flush t = false := Bool.eq_false_iff.mpr fun h => by have := (flush1_1' t).mp h; omega
    rw [hi, hf]
    simp only
    iintro ⟨HΦ, Ho, ⟨%d0, H0⟩, ⟨%d1, H1⟩⟩
    rw [before1_0]
    iapply (hsound d0 ((dat1 V bd c).before (1 : Fin 2) t d1) _)
    isplitl [HΦ]; · iexact HΦ
    isplitl [H0]; · iexact H0
    isplitl [H1]; · iexact H1
    rw [if_neg (by omega)]
    iintro ⟨HΦ, H0, H1⟩
    isplitl [HΦ]; · iexact HΦ
    isplitl [Ho]; · iexact Ho
    isplitl [H0]
    · iexists d0
      change _ ⊢ owns (T c : Thread nD τ) (stage1_0 (cfg1.slots t 0)) fullShare (win1_0.fill (grid1.coords t) d0 (win1_0.cut (grid1.coords t) ((dat1 V bd c).after (0 : Fin 2) t)))
      rw [hx]; try iexact H0
    iexists d1
    iexact H1
  · have h27 : t.val = 27 := by omega
    have hi : cfg1.idle 1 (cfg1.grid.coords t) = false := Bool.eq_false_iff.mpr fun h => by have := (idle1_1 t).mp h; omega
    rw [hi]
    simp only
    iintro ⟨HΦ, Ho, ⟨%d0, H0⟩, ⟨%d1, H1⟩⟩
    rw [before1_0]
    iapply (hsound d0 ((dat1 V bd c).before (1 : Fin 2) t d1) _)
    isplitl [HΦ]; · iexact HΦ
    isplitl [H0]; · iexact H0
    isplitl [H1]; · iexact H1
    rw [if_pos h27]
    iintro ⟨HΦ, H0, H1⟩
    isplitl [HΦ]; · iexact HΦ
    isplitl [Ho]; · iexact Ho
    isplitl [H0]
    · iexists d0
      change _ ⊢ owns (T c : Thread nD τ) (stage1_0 (cfg1.slots t 0)) fullShare (win1_0.fill (grid1.coords t) d0 (win1_0.cut (grid1.coords t) ((dat1 V bd c).after (0 : Fin 2) t)))
      rw [hx]; try iexact H0
    iexact H1

/-! ## The region over the thread state -/

variable (Vp : (c : Dev nD) → (b : Ref sig .tc) → Buf (Elt F) ((T c : Thread nD τ).loc b))

/-- The region's result array, as the library computes it. -/
def res1 (c : Dev nD) : Buf (Elt F) ((T c : Thread nD τ).loc main_v2) := (dat1 V bd c).arrAt 1 cfg1.N

/-- What the core owes around a region: nothing, with every wait it recorded at or below the bound. -/
def owe0 (c : Dev nD) : sProp (MT nD τ sig (HIx 1) (Elt F) ℕ UU ℕ) :=
  iprop(∃ W, ⌜(K (F := F)).WBelow (T c : Thread nD τ) W bd⌝ ∗ owes (T c : Thread nD τ) (0 : CellTallies nD τ sig (HIx 1)) W)

set_option backward.isDefEq.respectTransparency.types false in
def reg1 (R : Dev nD → sProp (MT nD τ sig (HIx 1) (Elt F) ℕ UU ℕ)) (hVp_out : ∀ c, Vp c main_v2 = res1 V bd c)
    (hVp_ne : ∀ c (b : Ref sig .tc), b ≠ main_v2 → Vp c b = V c b) :
    Pipeline.RegionSeg (pcfgs (F := F)) adm (pdats1 V bd) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body1_obligation V bd c
  hwaits := Pipeline.hwaits_of_owed_zero _ _ _ _ (K (F := F)).L (K (F := F)).lev 0 fun _ _ => rfl
  pre c := iprop(unscopedBufs c (V c) ∗ R c ∗ owe0 bd c)
  post c := iprop(unscopedBufs c (Vp c) ∗ R c ∗ owe0 bd c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats1 V bd) launch1.win launch1.arr_whole c
      ((pdats1 V bd 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owe0 Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats1 V bd 0 c).Φ 0 = Phi1 V c 0 from rfl, show Pipeline.scopedRest (Ix := HIx 1) (Name := ℕ) (U := UU) (Lvl := ℕ) (Val := Elt F) (Pipeline.pin (pcfgs (F := F)) adm 0).spec c = _ from scopedRest1_eq c]
    unfold Phi1 rest1 scr
    iintro ⟨-, -, ⟨%f0, H0⟩, ⟨%f1, H1⟩, ⟨%f2, H2⟩, Hr⟩
    isplitr [Hr]
    · iexists (f0, f1, f2)
      isplitr; · ipureintro; intro h; omega
      isplitl [H0]; · iexact H0
      isplitl [H1] <;> iassumption
    iexact Hr
  hout c := by
    rw [Pipeline.ownSems0_none, show (pdats1 V bd 0 c).Φ (Fin.last _) = Phi1 V c 28 from rfl, show Pipeline.scopedRest (Ix := HIx 1) (Name := ℕ) (U := UU) (Lvl := ℕ) (Val := Elt F) (Pipeline.pin (pcfgs (F := F)) adm 0).spec c = _ from scopedRest1_eq c]
    unfold Phi1 rest1 scr
    iintro ⟨⟨%r, -, H0, H1, H2⟩, Hr⟩
    isplitr; · iempintro
    isplitr; · iempintro
    isplitl [H0]; · iexists r.1; iexact H0
    isplitl [H1]; · iexists r.2.1; iexact H1
    isplitl [H2]; · iexists r.2.2; iexact H2
    iexact Hr
  hexit c := by
    have hjoin := Pipeline.unscopedBufs_of_arrays (p := 0) (pcfgs (F := F)) adm (Ix := HIx 1) (Name := ℕ) (U := UU) (Lvl := ℕ) launch1.win launch1.arr_whole c
      (pdats1 V bd) ((pdats1 V bd 0 c).share_full fun _ => rfl) (V c) (Vp c) ((pdats1 V bd 0 c).arrAt · cfg1.N)
      (fun w => by
        fin_cases w
        · exact ((pdats1 V bd 0 c).arrAt_in 0 rfl _).trans (hVp_ne c main_arg0 (by decide)).symm
        · exact (hVp_out c).symm)
      (fun b hb => hVp_ne c b fun h => hb (h ▸ Finset.mem_image.mpr ⟨1, Finset.mem_univ _, rfl⟩))
    iintro ⟨Ha, HO, -, Hrest, HR⟩
    imodintro
    isplitl [Ha Hrest]
    · iapply hjoin; isplitl [Ha] <;> iassumption
    isplitl [HR]; · iexact HR
    unfold owe0 Pipeline.Dat.owesAt Pipeline.owesWithin
    icases HO with ⟨%W, %hW, HO⟩; iexists W; isplitr; swap; (· iexact HO)
    ipureintro
    intro p hp
    rcases hW hp with h | ⟨w, s, h⟩
    · exact h
    · subst h; exact Nat.zero_le _

end Cert.Proof.SC
end
-- ==== Proof.Region2.lean ====
/-
  The combining pallas_call as a pipeline of one point (`cc2__combine_body`): its body, its proof data, and the region
  over the thread's state.
-/
module

public import proofs.«01_k».proof.Defs
public import proofs.«01_k».proof.Proof.Region1
public import proofs.«01_k».proof.Proof.Gen.KernelIdeal.Points
public import proofs.«01_k».proof.Proof.Gen.KernelIdeal.Launch
public import Idealize.ShloMosaic.Lib.Pipeline.RegionsLoop
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.ValueLayout
public import Idealize.ShloMosaic.Lib.Tactic

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

open Idealize.ShloMosaic.Pipeline (Dat Cfg Window BodyObligation BodyObligationLoose)

variable {F : FTy → Type} [FloatOps F] [Named F]

local notation "𝕄" => MT nD τ sig (HIx 1) (Elt F) ℕ UU ℕ

variable (V : (c : Dev nD) → (b : Ref sig .tc) → Buf (Elt F) ((T c : Thread nD τ).loc b))

/-- The two operands as the fetches read them, -/
def x2_0 (c : Dev nD) (t : Fin cfg2.N) : Vec F S1x1x1 .f32 := ((cfg2.win 0).blk t).view.read (Elt F) (V c main_v2)
def x2_1 (c : Dev nD) (t : Fin cfg2.N) : Vec F S1024x1 .f32 := ((cfg2.win 1).blk t).view.read (Elt F) (V c main_v3)

/-- The invariant: the scoped buffers the region does not use. -/
abbrev Phi2 (c : Dev nD) : sProp (MT nD τ sig (HIx 1) (Elt F) ℕ UU ℕ) :=
  Pipeline.scopedRest (Ix := HIx 1) (Name := ℕ) (U := UU) (Lvl := ℕ) (Val := Elt F) spec2 c

variable (bd : ℕ)

def dat2 (c : Dev nD) : Dat τ (Elt F) (HIx 1) ℕ UU ℕ cfg2 c where
  A w := V c (Pipeline.arrRef spec2 w)
  after w t := match w with
    | ⟨0, _⟩ => x2_0 V c t
    | ⟨1, _⟩ => x2_1 V c t
    | ⟨2, _⟩ => k2_pay1 (x2_0 V c t) (x2_1 V c t)
  Φ _ := Phi2 c
  q _ := fullShare
  owed _ := 0
  recorded _ := {p | (K (F := F)).lev ((T c : Thread nD τ), p.1) p.2 ≤ bd}

def pdats2 : (p : Fin 2) → (c : Dev nD) → Dat τ (Elt F) (HIx 1) ℕ UU ℕ (Pipeline.pin (pcfgs (F := F)) adm p) c
  | ⟨0, _⟩ => fun c => junkDat c
  | ⟨1, _⟩ => fun c => dat2 V bd c

theorem before2_0 (c : Dev nD) (t : Fin cfg2.N) (d) : (dat2 V bd c).before (0 : Fin 3) t d = x2_0 V c t := by
  unfold Dat.before; rw [if_pos (fetch2_0 t)]; rfl
theorem before2_1 (c : Dev nD) (t : Fin cfg2.N) (d) : (dat2 V bd c).before (1 : Fin 3) t d = x2_1 V c t := by
  unfold Dat.before; rw [if_pos (fetch2_1 t)]; rfl

/-- The body: two whole loads, and a whole store of their combination. -/
theorem sound2 (c : Dev nD) (E : Set ℕ) (X0 : S1x1x1.Idx → Elt F .f32) (X1 : S1024x1.Idx → Elt F .f32) (X2 : S1x1.Idx → Elt F .f32)
    (Q : PUnit → sProp (MT nD τ sig (HIx 1) (Elt F) ℕ UU ℕ)) :
    iprop((((T c : Thread nD τ).loc cc2_stg0_0) ↦{fullShare} X0) ∗ (((T c : Thread nD τ).loc cc2_stg1_0) ↦{fullShare} X1) ∗ (((T c : Thread nD τ).loc cc2_stg2_0) ↦{fullShare} X2)
        ∗ (iprop((((T c : Thread nD τ).loc cc2_stg0_0) ↦{fullShare} X0) ∗ (((T c : Thread nD τ).loc cc2_stg1_0) ↦{fullShare} X1) ∗ (((T c : Thread nD τ).loc cc2_stg2_0) ↦{fullShare} k2_pay1 (F := F) X0 X1)) -∗ Q ⟨⟩))
      ⊢ wp frame (wpE (defs₀ (F := F)) 𝒱₀ (T c) none) E
          (cc2__combine_body (F := F) (Memref.whole cc2_stg0_0) (hstage2_0 0) (Memref.whole cc2_stg1_0) (hstage2_1 0) (Memref.whole cc2_stg2_0) (hstage2_2 0)) Q := by
  have hr0 : ∀ f, (Memref.whole cc2_stg0_0 : Memref sig .tc _ _ _).view.readAt (Elt F) (Rect.unit (s := S1x1x1) ![0, 0, 0] S1x1x1.size inb_S1x1x1_S1x1x1_0_0_0).toLoadRect f = f := Memref.readAt_unit_zero (Elt F) cc2_stg0_0 z3 _
  have hr1 : ∀ f, (Memref.whole cc2_stg1_0 : Memref sig .tc _ _ _).view.readAt (Elt F) (Rect.unit (s := S1024x1) ![0, 0] S1024x1.size inb_S1024x1_S1024x1_0_0).toLoadRect f = f := Memref.readAt_unit_zero (Elt F) cc2_stg1_0 z2 _
  have hw2 : ∀ f w, (((Memref.whole cc2_stg2_0).access (Rect.unit (s := S1x1) ![0, 0] S1x1.size inb_S1x1_S1x1_0_0)) :
        View sig .tc _ _ _).write (Elt F) f w Finset.univ = w := Memref.write_access_unit_zero_univ (Elt F) cc2_stg2_0 z2 _
  rw [cc2__combine_body_eq_skeleton]; unfold cc2__combine_body_skel
  simp only [Prog.lift, Prog.bind_op, Prog.bind_ret, pure_bind]
  iintro ⟨H0, H1, H2, Hk⟩
  sl_steps
  iapply Hk
  rw [hr0, hr1, hw2]
  isplitl [H0]; · iexact H0
  isplitl [H1] <;> iassumption

theorem body2_obligation (c : Dev nD) : BodyObligation (dat2 V bd c) (defs₀ (F := F)) 𝒱₀ none Set.univ := fun t => by
  rw [bigSep_W2, bigSep_W2]
  rw [show (dat2 V bd c).Φ t.succ = (dat2 V bd c).Φ t.castSucc from rfl,
    show (dat2 V bd c).owesAt none t.succ = (dat2 V bd c).owesAt none t.castSucc from rfl]
  have hs0 : (cfg2.win 0).stage (cfg2.slots t 0) = (Memref.whole cc2_stg0_0 : Memref sig .tc .vmem S1x1x1 .f32) := rfl
  have hs1 : (cfg2.win 1).stage (cfg2.slots t 1) = (Memref.whole cc2_stg1_0 : Memref sig .tc .vmem S1024x1 .f32) := rfl
  have hs2 : (cfg2.win 2).stage (cfg2.slots t 2) = (Memref.whole cc2_stg2_0 : Memref sig .tc .vmem S1x1 .f32) := rfl
  have hb : defs₀ (F := F) Proc.tc cfg2.body (cfg2.bodyArgs t (cfg2.slots t))
      = cc2__combine_body (F := F) (Memref.whole cc2_stg0_0) (hstage2_0 0) (Memref.whole cc2_stg1_0) (hstage2_1 0) (Memref.whole cc2_stg2_0) (hstage2_2 0) := rfl
  rw [hb, hs0, hs1, hs2]
  simp only [owns_whole_eq]
  iintro ⟨HΦ, Ho, ⟨%d0, %f0, %hf0, H0⟩, ⟨%d1, %f1, %hf1, H1⟩, ⟨%d2, %f2, -, H2⟩⟩
  rw [before2_0] at hf0
  rw [before2_1] at hf1
  subst hf0 hf1
  iapply (sound2 c Set.univ _ _ f2 _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexists _; isplitr; swap; (· iexact H0); ipureintro; rfl
  isplitl [H1]; · iexists _; isplitr; swap; (· iexact H1); ipureintro; rfl
  iexists _; isplitr; swap; (· iexact H2); ipureintro; rfl

/-! ## The region over the thread state -/

variable (Vp : (c : Dev nD) → (b : Ref sig .tc) → Buf (Elt F) ((T c : Thread nD τ).loc b))

/-- The region's result array, as the library computes it. -/
def res2 (c : Dev nD) : Buf (Elt F) ((T c : Thread nD τ).loc main_v4) := (dat2 V bd c).arrAt 2 cfg2.N

set_option backward.isDefEq.respectTransparency.types false in
def reg2 (R : Dev nD → sProp (MT nD τ sig (HIx 1) (Elt F) ℕ UU ℕ)) (hVp_out : ∀ c, Vp c main_v4 = res2 V bd c)
    (hVp_ne : ∀ c (b : Ref sig .tc), b ≠ main_v4 → Vp c b = V c b) :
    Pipeline.RegionSeg (pcfgs (F := F)) adm (pdats2 V bd) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2_obligation V bd c).loose
  hwaits := Pipeline.hwaits_of_owed_zero _ _ _ _ (K (F := F)).L (K (F := F)).lev 1 fun _ _ => rfl
  pre c := iprop(unscopedBufs c (V c) ∗ R c ∗ owe0 bd c)
  post c := iprop(unscopedBufs c (Vp c) ∗ R c ∗ owe0 bd c)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats2 V bd) launch2.win launch2.arr_whole c
      ((pdats2 V bd 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owe0 Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats2 V bd 1 c).Φ 0 = Phi2 c from rfl]
    iintro ⟨-, -, Hr⟩; iexact Hr
  hout c := by
    rw [Pipeline.ownSems0_none, show (pdats2 V bd 1 c).Φ (Fin.last _) = Phi2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats2 V bd) ((pdats2 V bd 1 c).share_full fun _ => rfl) (V c) (Vp c) ((pdats2 V bd 1 c).arrAt · cfg2.N)
      (fun w => by
        fin_cases w
        · exact ((pdats2 V bd 1 c).arrAt_in 0 rfl _).trans (hVp_ne c main_v2 (by decide)).symm
        · exact ((pdats2 V bd 1 c).arrAt_in 1 rfl _).trans (hVp_ne c main_v3 (by decide)).symm
        · exact (hVp_out c).symm)
      (fun b hb => hVp_ne c b fun h => hb (h ▸ Finset.mem_image.mpr ⟨2, Finset.mem_univ _, rfl⟩))
    iintro ⟨Ha, HO, -, Hrest, HR⟩
    imodintro
    isplitl [Ha Hrest]
    · iapply hjoin; isplitl [Ha] <;> iassumption
    isplitl [HR]; · iexact HR
    unfold owe0 Pipeline.Dat.owesAt Pipeline.owesWithin
    icases HO with ⟨%W, %hW, HO⟩; iexists W; isplitr; swap; (· iexact HO)
    ipureintro
    intro p hp
    rcases hW hp with h | ⟨w, s, h⟩
    · exact h
    · subst h; exact Nat.zero_le _

end Cert.Proof.SC
end
-- ==== Proof.Main.lean ====
/-
  @main on the TensorCore: the padding, the SparseCore call, the two pipelines and the reshapes between them; the whole
  program's run; what the precondition gives.
-/
module

public import proofs.«01_k».proof.Defs
public import proofs.«01_k».proof.Proof.Region2
public import proofs.«01_k».proof.Proof.Gen.KernelIdeal.Points
public import proofs.«01_k».proof.Proof.Gen.KernelIdeal.Launch
public import Idealize.ShloMosaic.Lib.Pipeline.RegionsLoop
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.ValueLayout
public import Idealize.ShloMosaic.Lib.Tactic

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_sub_split held_congr wp_hlo_within)

open Idealize.ShloMosaic.Pipeline (Dat Cfg Window BodyObligation BodyObligationLoose)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem ownU_split (a : UH) (b : UR sig nD τ) : (ownU ((a, (b, 1)) : UU) : sProp (MT nD τ sig (HIx 1) (Elt F) ℕ UU ℕ)) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- The two pipelines' ghost state on one device. -/
def GP (d : Dev nD) : sProp (MT nD τ sig (HIx 1) (Elt F) ℕ UU ℕ) :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

theorem Px (thr : Thread nD τ) : (bigSep Finset.univ fun q : Fin 1 => (P (F := F) m).x q thr) = iprop(emp) := bigSep_emp_const _

omit [FloatOps F] [Named F] in
theorem emp_all {I : Type} (s : Finset I) : (bigSep s fun _ => iprop(emp)) = (iprop(emp) : sProp (MT nD τ sig (HIx 1) (Elt F) ℕ UU ℕ)) := bigSep_emp_const s

theorem hu₀ : (ownU (u₀ (F := F)) : sProp (MT nD τ sig (HIx 1) (Elt F) ℕ UU ℕ))
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P m).x q thr) := by
  unfold u₀ GP
  simp only [Px, bigSep_emp_const, bigSep_sep']
  iintro Hu
  ihave H := (ownU_split _ _) $$ Hu
  icases H with ⟨HH, HK⟩
  imod (Pipeline.fund_ghost (Pipeline.pin (pcfgs (F := F)) adm) EP cellOf_inj) $$ HK with ⟨Hg, Ht⟩
  imodintro
  isplitl [HH]; · iexact HH
  isplitl [Hg Ht]; · isplitl [Hg] <;> iassumption
  rw [emp_all]; iempintro

/-! ## The valuations along @main -/

abbrev a0' : DevRef τ sig := Proc.devRef .tc (main_arg0 : Ref sig .tc)
abbrev a1' : DevRef τ sig := Proc.devRef .tc (main_arg1 : Ref sig .tc)
abbrev cst' : DevRef τ sig := Proc.devRef .tc (main_cst : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev opCst : HloOp τ sig (Elt F) := StableHlo.nullary main_cst (constant S_ .f32 0x00000000#32)
abbrev opPad : HloOp τ sig (Elt F) := StableHlo.binary main_arg0 main_cst main_v0 ((fun x v => pad S1024x100096 ![0, 0] ![0, 96] ![0, 0] x v pads_S1024x100000_S1024x100096_000_0960 h_S_) : (⟨S1024x100000, .f32⟩ : BufTy).Contents (Elt F) → (⟨S_, .f32⟩ : BufTy).Contents (Elt F) → (⟨S1024x100096, .f32⟩ : BufTy).Contents (Elt F))
abbrev opR1 : HloOp τ sig (Elt F) := StableHlo.reshape main_v1 main_v3 (rfl : (.f32 : EltTy) = .f32) shapeCasts_S1024_S1024x1
abbrev opR2 : HloOp τ sig (Elt F) := StableHlo.reshape main_v4 main_v5 (rfl : (.f32 : EltTy) = .f32) shapeCasts_S1x1_S_

/-- The TensorCore's arrays. -/
abbrev SA : Finset (DevRef τ sig) := {a0', a1', cst', v0', v1', v2', v3', v4', v5'}

theorem held_SA (d : Dev nD) (W : Valuation τ sig (Elt F)) : (unscopedBufs d (fun b => W (Proc.devRef .tc b)) : sProp (MT nD τ sig (HIx 1) (Elt F) ℕ UU ℕ)) = held (T d) SA W := by
  rw [show (SA : Finset (DevRef τ sig)) = (StableHlo.tcRefs τ sig).filter fun b => ¬ b.isScoped by decide]
  unfold unscopedBufs StableHlo.held StableHlo.tcRefs
  rw [Finset.filter_map, bigSep_map]
  rfl

/-- The bound on the recorded waits after the call. -/
abbrev bd0 : ℕ := 8 * SparseCore.Cfg.Blocks.fst (Q := 1) (N := 1) 1

def W0 (d : Dev nD) : Valuation τ sig (Elt F) := fun b => m (d, b)
def W2 (d : Dev nD) : Valuation τ sig (Elt F) := (opPad (F := F)).result ((opCst (F := F)).result (W0 m d))
def W3 (d : Dev nD) : Valuation τ sig (Elt F) := Function.update (W2 m d) v1' (gath (Xp m d) (tg₀ m d))
def W4 (d : Dev nD) : Valuation τ sig (Elt F) := Function.update (W3 m d) v2' (res1 (fun c b => W3 m c (Proc.devRef .tc b)) bd0 d)
def W5 (d : Dev nD) : Valuation τ sig (Elt F) := (opR1 (F := F)).result (W4 m d)
def W6 (d : Dev nD) : Valuation τ sig (Elt F) := Function.update (W5 m d) v4' (res2 (fun c b => W5 m c (Proc.devRef .tc b)) bd0 d)
def W7 (d : Dev nD) : Valuation τ sig (Elt F) := (opR2 (F := F)).result (W6 m d)
/-- What the program returns. -/
def RvM (d : Dev nD) : FVec F S_ .f32 := W7 m d v5'

theorem W2_a0 (d : Dev nD) : W2 m d a0' = m ((SparseCore.T d).loc main_arg0) := by
  unfold W2
  rw [(opPad (F := F)).result_of_not_mem _ (show a0' ∉ ({v0'} : Finset (DevRef τ sig)) by decide),
    (opCst (F := F)).result_of_not_mem _ (show a0' ∉ ({cst'} : Finset (DevRef τ sig)) by decide)]
  rfl
theorem W2_a1 (d : Dev nD) : W2 m d a1' = tg₀ m d := by
  unfold W2
  rw [(opPad (F := F)).result_of_not_mem _ (show a1' ∉ ({v0'} : Finset (DevRef τ sig)) by decide),
    (opCst (F := F)).result_of_not_mem _ (show a1' ∉ ({cst'} : Finset (DevRef τ sig)) by decide)]
  rfl
theorem W2_v1 (d : Dev nD) : W2 m d v1' = m (oLoc d) := by
  unfold W2
  rw [(opPad (F := F)).result_of_not_mem _ (show v1' ∉ ({v0'} : Finset (DevRef τ sig)) by decide),
    (opCst (F := F)).result_of_not_mem _ (show v1' ∉ ({cst'} : Finset (DevRef τ sig)) by decide)]
  rfl
theorem W2_v0 (d : Dev nD) : W2 m d v0' = Xp m d := by
  unfold W2
  refine (StableHlo.binary_result _ _ _ _ _ _ _ _).trans ?_
  rw [show (opCst (F := F)).result (W0 m d) cst' = constant S_ .f32 0x00000000#32 from StableHlo.nullary_result _ _ _ _,
    (opCst (F := F)).result_of_not_mem _ (show a0' ∉ ({cst'} : Finset (DevRef τ sig)) by decide)]
  rfl

/-- The buffers no step after the call writes keep what they held before it. -/
theorem W7_arg (d : Dev nD) (b : DevRef τ sig) (hb : b = a0' ∨ b = a1') : W7 m d b = W2 m d b := by
  unfold W7 W6 W5 W4 W3
  rcases hb with rfl | rfl
  · rw [(opR2 (F := F)).result_of_not_mem _ (show a0' ∉ ({v5'} : Finset (DevRef τ sig)) by decide), Function.update_of_ne (by decide),
      (opR1 (F := F)).result_of_not_mem _ (show a0' ∉ ({v3'} : Finset (DevRef τ sig)) by decide), Function.update_of_ne (by decide), Function.update_of_ne (by decide)]
  · rw [(opR2 (F := F)).result_of_not_mem _ (show a1' ∉ ({v5'} : Finset (DevRef τ sig)) by decide), Function.update_of_ne (by decide),
      (opR1 (F := F)).result_of_not_mem _ (show a1' ∉ ({v3'} : Finset (DevRef τ sig)) by decide), Function.update_of_ne (by decide), Function.update_of_ne (by decide)]

/-- The call's three arrays. -/
abbrev S3 : Finset (DevRef τ sig) := {v0', a1', v1'}
theorem held_S3 (d : Dev nD) (W : Valuation τ sig (Elt F)) :
    (held (T d) S3 W : sProp (MT nD τ sig (HIx 1) (Elt F) ℕ UU ℕ)) = iprop((xLoc d ↦{fullShare} W v0') ∗ (tLoc d ↦{fullShare} W a1') ∗ (oLoc d ↦{fullShare} W v1')) := by
  unfold held S3
  rw [SparseCore.bigSep_insert' (by decide), SparseCore.bigSep_insert' (by decide), bigSep_singleton]
/-- What @main leaves: the arguments and the result. -/
abbrev SF : Finset (DevRef τ sig) := {a0', a1', v5'}
theorem held_SF (d : Dev nD) (W : Valuation τ sig (Elt F)) :
    (held (T d) SF W : sProp (MT nD τ sig (HIx 1) (Elt F) ℕ UU ℕ))
      = iprop(((T d : Thread nD τ).loc main_arg0 ↦{fullShare} W a0') ∗ ((T d : Thread nD τ).loc main_arg1 ↦{fullShare} W a1') ∗ ((T d : Thread nD τ).loc main_v5 ↦{fullShare} W v5')) := by
  unfold held SF
  rw [SparseCore.bigSep_insert' (by decide), SparseCore.bigSep_insert' (by decide), bigSep_singleton]

/-! ## The regions under the program's definitions -/

theorem region_step (p : Fin 2) {pdats : (p : Fin 2) → (c : Dev nD) → Dat τ (Elt F) (HIx 1) ℕ UU ℕ (Pipeline.pin (pcfgs (F := F)) adm p) c}
    (R : Pipeline.RegionSeg (pcfgs (F := F)) adm pdats none defs₀ 𝒱₀ (K (F := F)).L (K (F := F)).lev p) (d : Dev nD)
    (Q : PUnit → sProp (MT nD τ sig (HIx 1) (Elt F) ℕ UU ℕ)) :
    iprop((iprop(boundary (T d : Thread nD τ) ∗ R.post d) -∗ Q ⟨⟩)
        ∗ boundary (T d : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (Prog.lift (.customCall (SparseCore.inner (Pipeline.entry p)) ())) Q := by
  have ht := (K (F := F)).wp_liftProg (D (F := F)) 𝒱 (T d) Set.univ none (Prog.lift (.customCall (Pipeline.entry p) ())) Q
  have hw := Pipeline.RegionSeg.wp pcfgs adm pdats none cellOf_inj EP defs₀ 𝒱₀ (K (F := F)).L (K (F := F)).lev R d none (fun _ h => nomatch h) (fun x => .ret x) Q
  iintro ⟨Hk, H⟩
  iapply ht
  iapply hw
  isplitl [Hk]
  · iintro Hp
    rw [wp_ret]; imodintro
    iapply Hk; iexact Hp
  iexact H

/-- The first pipeline: `main_v2` ends with the blocks' result. -/
def seg1 : Pipeline.RegionSeg (pcfgs (F := F)) adm (pdats1 (fun c b => W3 m c (Proc.devRef .tc b)) bd0) none defs₀ 𝒱₀ (K (F := F)).L (K (F := F)).lev 0 :=
  reg1 (fun c b => W3 m c (Proc.devRef .tc b)) bd0 (fun c b => W4 m c (Proc.devRef .tc b)) (fun _ => iprop(emp))
    (fun c => Function.update_self _ _ _)
    (fun c b hb => Function.update_of_ne (fun e => hb (Proc.devRef_injective _ e)) _ _)
/-- The second: `main_v4` ends with the combined sum. -/
def seg2 : Pipeline.RegionSeg (pcfgs (F := F)) adm (pdats2 (fun c b => W5 m c (Proc.devRef .tc b)) bd0) none defs₀ 𝒱₀ (K (F := F)).L (K (F := F)).lev 1 :=
  reg2 (fun c b => W5 m c (Proc.devRef .tc b)) bd0 (fun c b => W6 m c (Proc.devRef .tc b)) (fun _ => iprop(emp))
    (fun c => Function.update_self _ _ _)
    (fun c b hb => Function.update_of_ne (fun e => hb (Proc.devRef_injective _ e)) _ _)

theorem seg1_step (d : Dev nD) (Q : PUnit → sProp (MT nD τ sig (HIx 1) (Elt F) ℕ UU ℕ)) :
    iprop((iprop(boundary (T d : Thread nD τ) ∗ held (T d) SA (W4 m d) ∗ owe0 bd0 d) -∗ Q ⟨⟩)
        ∗ boundary (T d : Thread nD τ) ∗ held (T d) SA (W3 m d) ∗ owe0 bd0 d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ (Prog.lift (.customCall (SparseCore.inner (Pipeline.entry 0)) ())) Q := by
  have h := region_step 0 (seg1 m) d Q
  rw [show (seg1 m).pre d = iprop(unscopedBufs d (fun b => W3 m d (Proc.devRef .tc b)) ∗ emp ∗ owe0 bd0 d) from rfl, held_SA,
    show (seg1 m).post d = iprop(unscopedBufs d (fun b => W4 m d (Proc.devRef .tc b)) ∗ emp ∗ owe0 bd0 d) from rfl, held_SA] at h
  iintro ⟨Hk, Hb, Hh, Ho, Hl, Hg, Ht⟩
  iapply h
  isplitl [Hk]
  · iintro ⟨Hb, Hh, -, Ho⟩
    iapply Hk
    isplitl [Hb]; · iexact Hb
    isplitl [Hh] <;> iassumption
  isplitl [Hb]; · iexact Hb
  isplitl [Hh Ho]
  · isplitl [Hh]; · iexact Hh
    isplitr; · iempintro
    iexact Ho
  isplitl [Hl]; · iexact Hl
  isplitl [Hg] <;> iassumption

theorem seg2_step (d : Dev nD) (Q : PUnit → sProp (MT nD τ sig (HIx 1) (Elt F) ℕ UU ℕ)) :
    iprop((iprop(boundary (T d : Thread nD τ) ∗ held (T d) SA (W6 m d) ∗ owe0 bd0 d) -∗ Q ⟨⟩)
        ∗ boundary (T d : Thread nD τ) ∗ held (T d) SA (W5 m d) ∗ owe0 bd0 d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ (Prog.lift (.customCall (SparseCore.inner (Pipeline.entry 1)) ())) Q := by
  have h := region_step 1 (seg2 m) d Q
  rw [show (seg2 m).pre d = iprop(unscopedBufs d (fun b => W5 m d (Proc.devRef .tc b)) ∗ emp ∗ owe0 bd0 d) from rfl, held_SA,
    show (seg2 m).post d = iprop(unscopedBufs d (fun b => W6 m d (Proc.devRef .tc b)) ∗ emp ∗ owe0 bd0 d) from rfl, held_SA] at h
  iintro ⟨Hk, Hb, Hh, Ho, Hl, Hg, Ht⟩
  iapply h
  isplitl [Hk]
  · iintro ⟨Hb, Hh, -, Ho⟩
    iapply Hk
    isplitl [Hb]; · iexact Hb
    isplitl [Hh] <;> iassumption
  isplitl [Hb]; · iexact Hb
  isplitl [Hh Ho]
  · isplitl [Hh]; · iexact Hh
    isplitr; · iempintro
    iexact Ho
  isplitl [Hl]; · iexact Hl
  isplitl [Hg] <;> iassumption

/-! ## @main -/

theorem hCst : (opCst (F := F)).bufs ⊆ SA := show ({cst'} : Finset (DevRef τ sig)) ⊆ SA by decide
theorem hPad : (opPad (F := F)).bufs ⊆ SA := show ({a0', cst', v0'} : Finset (DevRef τ sig)) ⊆ SA by decide
theorem hR1 : (opR1 (F := F)).bufs ⊆ SA := show ({v1', v3'} : Finset (DevRef τ sig)) ⊆ SA by decide
theorem hR2 : (opR2 (F := F)).bufs ⊆ SA := show ({v4', v5'} : Finset (DevRef τ sig)) ⊆ SA by decide

/-- Around the call: the three arrays out of the held ones, the table's share dealt, -/
theorem call_entry (d : Dev nD) :
    (held (T d) SA (W2 m d) : sProp (MT nD τ sig (HIx 1) (Elt F) ℕ UU ℕ))
      ⊢ iprop((bigSep Finset.univ fun c : Fin ((K (F := F)).nCore 0) => (P m).st 0 d c)
          ∗ (xLoc d ↦{Transfers.shareDrop fullShare 32} Xp m d) ∗ held (T d) (SA \ S3) (W2 m d)) := by
  rw [held_sub_split (T d) (show S3 ⊆ SA by decide), held_S3, W2_v0, W2_a1, W2_v1, st0_eq]
  iintro ⟨⟨Hx, Ht, Ho⟩, Hr⟩
  ihave Hx' := (Transfers.pointsTo_toks_split fullShare 32) $$ Hx
  icases Hx' with ⟨Hd, Hx⟩
  isplitl [Hx Ht Ho]
  · isplitl [Hx]; · iexact Hx
    isplitl [Ht] <;> iassumption
  isplitl [Hd] <;> iassumption

/-- and put back with the gathered values in. -/
theorem call_exit (d : Dev nD) :
    iprop((bigSep Finset.univ fun c : Fin ((K (F := F)).nCore 0) => (P m).dn 0 d c)
          ∗ (xLoc d ↦{Transfers.shareDrop fullShare 32} Xp m d) ∗ held (T d) (SA \ S3) (W2 m d))
      ⊢ (held (T d) SA (W3 m d) : sProp (MT nD τ sig (HIx 1) (Elt F) ℕ UU ℕ)) := by
  have h0 : W3 m d v0' = Xp m d := (Function.update_of_ne (show v0' ≠ v1' by decide) _ _).trans (W2_v0 m d)
  have h1 : W3 m d a1' = tg₀ m d := (Function.update_of_ne (show a1' ≠ v1' by decide) _ _).trans (W2_a1 m d)
  have h2 : W3 m d v1' = gath (Xp m d) (tg₀ m d) := Function.update_self _ _ _
  rw [held_sub_split (T d) (show S3 ⊆ SA by decide) (W3 m d), held_S3, h0, h1, h2, dn0_eq,
    held_congr (T d) (V := W2 m d) (V' := W3 m d) (fun b hb => (Function.update_of_ne (fun e => (Finset.mem_sdiff.mp hb).2 (e ▸ by decide)) _ _).symm)]
  iintro ⟨⟨Hx, Ht, Ho⟩, Hd, Hr⟩
  isplitr [Hr]
  · isplitl [Hx Hd]
    · iapply (Transfers.pointsTo_toks_join fullShare 32)
      isplitl [Hd] <;> iassumption
    isplitl [Ht] <;> iassumption
  iexact Hr

/-- The TensorCore after the call owes nothing: what it holds of the handshake but its debts, -/
abbrev tcRest (d : Dev nD) : sProp (MT nD τ sig (HIx 1) (Elt F) ℕ UU ℕ) :=
  iprop(owe0 bd0 d -∗ (K (F := F)).tcSt EH d 1)

theorem tcSt_open (d : Dev nD) : ((K (F := F)).tcSt EH d 1 : sProp (MT nD τ sig (HIx 1) (Elt F) ℕ UU ℕ)) ⊢ iprop(owe0 bd0 d ∗ tcRest (F := F) d) := by
  unfold tcRest SparseCore.Cfg.tcSt owe0
  rw [(K (F := F)).Otc_end d (le_refl 1)]
  iintro ⟨Ho, Hr⟩
  isplitl [Ho]; · iexact Ho
  iintro Ho
  isplitl [Ho]; · iexact Ho
  iexact Hr
theorem tcSt_close (d : Dev nD) : iprop(owe0 bd0 d ∗ tcRest (F := F) d) ⊢ ((K (F := F)).tcSt EH d 1 : sProp (MT nD τ sig (HIx 1) (Elt F) ℕ UU ℕ)) := by
  unfold tcRest
  iintro ⟨Ho, Hr⟩
  iapply Hr; iexact Ho

/-- What @main leaves the claims. -/
abbrev FIN (d : Dev nD) : sProp (MT nD τ sig (HIx 1) (Elt F) ℕ UU ℕ) := held (T d) SF (W7 m d)

theorem pair (Φ : Fin 2 → sProp (MT nD τ sig (HIx 1) (Elt F) ℕ UU ℕ)) : bigSep Finset.univ Φ = iprop(Φ 0 ∗ Φ 1) :=
  bigSep_univ_eq_bigSepL [(0 : Fin 2), (1 : Fin 2)] (by decide) (by decide) Φ

theorem hmain (κ : GSem nD τ sig → ℕ) (d : Dev nD) :
    iprop((K (F := F)).ctx EH (P m) κ ∗ (K (F := F)).tcSt EH d 0 ∗ (K (F := F)).tcRes m ρ d ∗ GP (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd GP
  rw [show (unscopedBufs d fun b => m ((SparseCore.T d).loc b)) = held (T d) SA (W0 m d) from held_SA d (W0 m d)]
  rw [pair, pair]
  simp only [main, wp_bind, wp_pure]
  iintro ⟨#Hctx, Hst, ⟨Hb, Hheld, Hts, -⟩, ⟨Hg0, Hg1⟩, ⟨Ht0, Ht1⟩⟩
  ihave #Hlev := (SparseCore.Cfg.ctx_levAts κ) $$ Hctx
  iapply (wp_hlo_within 𝒱 (SparseCore.T d) none Set.univ (op := opCst) (S := SA) hCst (V := W0 m d)) $$ [Hb Hheld]
  · isplitl [Hb] <;> iassumption
  iintro ⟨Hb, Hheld⟩
  rw [wp_ret]; imodintro
  iapply (wp_hlo_within 𝒱 (SparseCore.T d) none Set.univ (op := opPad) (S := SA) hPad (V := (opCst (F := F)).result (W0 m d))) $$ [Hb Hheld]
  · isplitl [Hb] <;> iassumption
  iintro ⟨Hb, Hheld⟩
  rw [wp_ret]; imodintro
  ihave Hheld := (Entails.of_eq (show held (T d) SA ((opPad (F := F)).result ((opCst (F := F)).result (W0 m d))) = held (T d) SA (W2 m d) from rfl)) $$ Hheld
  ihave Hh := (call_entry (F := F) m d) $$ Hheld
  icases Hh with ⟨Hgo, Hd, Hr⟩
  iapply ((K (F := F)).wp_run (D (F := F)) 𝒱 (EH := EH) (P := P m) κ d 0) $$ [Hst Hgo Hd Hr Hb Hts Hg0 Hg1 Ht0 Ht1]
  isplitr; · iexact Hctx
  isplitl [Hst]; · iexact Hst
  isplitl [Hgo]; · iexact Hgo
  iintro ⟨Hst, Hdn⟩
  ihave Hheld := (call_exit (F := F) m d) $$ [Hdn Hd Hr]
  · isplitl [Hdn]; · iexact Hdn
    isplitl [Hd] <;> iassumption
  ihave Hst := (Entails.of_eq (show ((K (F := F)).tcSt EH d ((0 : Fin 1).val + 1) : sProp (MT nD τ sig (HIx 1) (Elt F) ℕ UU ℕ)) = (K (F := F)).tcSt EH d 1 from rfl)) $$ Hst
  ihave Hst' := (tcSt_open d) $$ Hst
  icases Hst' with ⟨Ho, Hrest⟩
  iapply (seg1_step m d)
  isplitr [Hb Hheld Ho Hg0 Ht0]; swap
  · isplitl [Hb]; · iexact Hb
    isplitl [Hheld]; · iexact Hheld
    isplitl [Ho]; · iexact Ho
    isplitr; · iexact Hlev
    isplitl [Hg0] <;> iassumption
  iintro ⟨Hb, Hheld, Ho⟩
  iapply (wp_hlo_within 𝒱 (SparseCore.T d) none Set.univ (op := opR1) (S := SA) hR1 (V := W4 m d)) $$ [Hb Hheld]
  · isplitl [Hb] <;> iassumption
  iintro ⟨Hb, Hheld⟩
  rw [wp_ret]; imodintro
  iapply (seg2_step m d)
  isplitr [Hb Hheld Ho Hg1 Ht1]; swap
  · isplitl [Hb]; · iexact Hb
    isplitl [Hheld]; · iexact Hheld
    isplitl [Ho]; · iexact Ho
    isplitr; · iexact Hlev
    isplitl [Hg1] <;> iassumption
  iintro ⟨Hb, Hheld, Ho⟩
  iapply (wp_hlo_within 𝒱 (SparseCore.T d) none Set.univ (op := opR2) (S := SA) hR2 (V := W6 m d)) $$ [Hb Hheld]
  · isplitl [Hb] <;> iassumption
  iintro ⟨Hb, Hheld⟩
  rw [wp_ret]; imodintro
  imodintro
  isplitl [Ho Hrest]
  · iapply (tcSt_close d)
    isplitl [Ho] <;> iassumption
  isplitl [Hheld]
  · ihave Hheld := (Entails.of_eq (show held (T d) SA ((opR2 (F := F)).result (W6 m d)) = held (T d) SA (W7 m d) from rfl)) $$ Hheld
    ihave H := (Entails.of_eq (held_sub_split (T d) (show SF ⊆ SA by decide) (W7 m d))) $$ Hheld
    icases H with ⟨H, -⟩
    iexact H
  isplitl [Hb] <;> iassumption

/-! ## The run -/

def fq (d : Dev nD) (s' : Phys nD τ sig (Elt F)) : Prop :=
  s'.mem.mem ((SparseCore.T d).loc main_v5) = RvM m d
    ∧ s'.mem.mem ((SparseCore.T d).loc main_arg0) = m ((SparseCore.T d).loc main_arg0)
    ∧ s'.mem.mem ((SparseCore.T d).loc main_arg1) = m ((SparseCore.T d).loc main_arg1)

theorem hfin (d : Dev nD) (s' : Phys nD τ sig (Elt F)) : iprop(FIN m d ∗ SI s') ⊢ (⌜fq m d s'⌝ : sProp (MT nD τ sig (HIx 1) (Elt F) ℕ UU ℕ)) := by
  unfold FIN
  rw [held_SF, W7_arg m d a0' (.inl rfl), W7_arg m d a1' (.inr rfl), W2_a0, W2_a1]
  iintro ⟨⟨H0, H1, H5⟩, HSI⟩
  ihave H := (persistent_entails_right (SI_pointsTo_agree (st := s') (I := Finset.univ) (q := fullShare))) $$ [HSI H0]
  · isplitl [HSI]; · iexact HSI
    iexact H0
  icases H with ⟨%h0, HSI, -⟩
  ihave H := (persistent_entails_right (SI_pointsTo_agree (st := s') (I := Finset.univ) (q := fullShare))) $$ [HSI H1]
  · isplitl [HSI]; · iexact HSI
    iexact H1
  icases H with ⟨%h1, HSI, -⟩
  ihave H := (SI_pointsTo_agree (st := s') (I := Finset.univ) (q := fullShare)) $$ [HSI H5]
  · isplitl [HSI]; · iexact HSI
    iexact H5
  icases H with %h5
  ipureintro; exact ⟨funext fun i => h5 i (Finset.mem_univ i), funext fun i => h0 i (Finset.mem_univ i), funext fun i => h1 i (Finset.mem_univ i)⟩

def QC : PUnit × MemSt nD τ sig (Elt F) → Prop := fun r =>
  (∀ c : Dev nD, r.2.mem ((SparseCore.T c).loc main_v5) = RvM m c
    ∧ r.2.mem ((SparseCore.T c).loc main_arg0) = m ((SparseCore.T c).loc main_arg0)
    ∧ r.2.mem ((SparseCore.T c).loc main_arg1) = m ((SparseCore.T c).loc main_arg1)) ∧ r.2.sem = fun _ => 0

/-- The program ends with `RvM` in its result, its arguments as they were and its semaphores at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => GP (F := F) d) (FIN m) (u₀ (F := F)) (sep_elim_left.trans (hu₀ m)) (hmain m ρ) (fq m) (hfin m) (QC m) (fun _ h hz => ⟨h, hz⟩)

/-- The precondition gives what the run asks of the launch memory: every target word, non-negative as a signed word, is
    its own value, below 100000. -/
theorem word_of_pre (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.Proof.SC
end
-- ==== Proof.Frames.lean ====
module

public import proofs.«01_k».proof.Defs
public import proofs.«01_k».proof.Proof.Main
public import proofs.«01_k».proof.Proof.Gen.Kernel
public import proofs.«01_k».proof.Proof.Gen.ReferenceIdeal.Run
public import proofs.«01_k».proof.Proof.Gen.Pre_in_range
public import Idealize.ShloMosaic.Lib.ReduceAll

/-! The frames: each program ends with its arguments as they were and every semaphore at zero. -/

@[expose] public section

noncomputable section

namespace Cert.Proof.SC

open Idealize Idealize.ShloMosaic Idealize.SL.Sem
open Cert.KernelIdeal (nD τ sig)

/-- A named constant read at the machine's own floats: the pattern that was printed. -/
@[reducible] def namedBits : Named Bits := ⟨fun _ _ _ b => Scalar.ofBits _ b⟩

theorem ok_of_range {F : FTy → Type} [FloatOps F] (x : FVec F Cert.Pre_in_range.S1024x100000 .f32) (t : IVec Cert.Pre_in_range.S1024 32)
    (h : Cert.Pre_in_range.fn x t = fun _ => 1#1) (i : Cert.Pre_in_range.S1024.Idx) : (t i).toNat < 100000 := by
  have e := congrFun h (fun a => a.elim0)
  simp only [Cert.Pre_in_range.fn] at e
  have e := Host.reduce_andi_all _ _ _ _ _ e i
  simp only [andi, cmpi, broadcastInDim, constantI] at e
  exact word_of_pre _ e

theorem frame_KernelIdeal : Cert.quiescent_KernelIdeal := fun m ρ hpre =>
  (θ_run Cert.KernelIdeal.defs _ _).mono (fun _ h => ⟨fun c => (h.1 c).2, h.2⟩)
    (run_main (F := Ideal) m ρ fun d x => ok_of_range _ _ (hpre d) x)

/-- The two printed programs are one text but for the constants' names: their bodies agree at the machine's floats, -/
theorem defs₀_eq : letI := namedBits; Cert.Kernel.defs₀ (F := Bits) = Cert.KernelIdeal.defs₀ (F := Bits) := by
  funext p ℓ a
  rcases p with c | ⟨c, s⟩ | _
  all_goals
    rcases ℓ with ⟨_ | _ | _ | n, h⟩
  all_goals first
    | rfl
    | exact absurd h (by omega)
/-- and with them the definitions, -/
theorem defs_eq : letI := namedBits; Cert.Kernel.defs (F := Bits) = Cert.KernelIdeal.defs (F := Bits) :=
  letI := namedBits
  congrArg (fun D => (Cert.KernelIdeal.sc (F := Bits)).defs (Pipeline.defs (Cert.KernelIdeal.pcfgs (F := Bits)) D)) defs₀_eq
/-- and the threads. -/
theorem threads_eq : letI := namedBits; Cert.Kernel.threads (F := Bits) = Cert.KernelIdeal.threads (F := Bits) := rfl

theorem frame_Kernel : Cert.quiescent_Kernel := by
  letI := namedBits
  intro m ρ hpre
  have h := (θ_run (Cert.KernelIdeal.defs (F := Bits)) (Cert.KernelIdeal.threads (F := Bits)) ⟨m, fun _ => 0, ρ⟩).mono
    (fun r (h : QC (F := Bits) m r) => (⟨fun c => (h.1 c).2, h.2⟩ :
      (∀ c : Dev nD, r.2.mem ((c.tc : Thread nD τ).loc Cert.KernelIdeal.main_arg0) = m ((c.tc : Thread nD τ).loc Cert.KernelIdeal.main_arg0)
        ∧ r.2.mem ((c.tc : Thread nD τ).loc Cert.KernelIdeal.main_arg1) = m ((c.tc : Thread nD τ).loc Cert.KernelIdeal.main_arg1)) ∧ r.2.sem = fun _ => 0))
    (run_main (F := Bits) m ρ fun d x => ok_of_range _ _ (hpre d) x)
  rw [← defs_eq] at h
  exact h

theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement _ _ _ _ _ rfl, IdealRules.named_const.statement _ _ _ _ _ rfl⟩

end Cert.Proof.SC
end
-- ==== Proof.FramesFinite.lean ====
module

public import proofs.«01_k».proof.Proof.Frames
public import proofs.«01_k».proof.Proof.Gen.Pre_finite_in_range

/-! The frames again, from the precondition of the value claim. -/

@[expose] public section

noncomputable section

namespace Cert.Proof.SC

open Idealize Idealize.ShloMosaic Idealize.SL.Sem

theorem range_of_finite {F : FTy → Type} [FloatOps F] (x : FVec F Cert.Pre_in_range.S1024x100000 .f32) (t : IVec Cert.Pre_in_range.S1024 32)
    (h : Cert.Pre_finite_in_range.fn x t = fun _ => 1#1) (i : Cert.Pre_in_range.S1024.Idx) : (t i).toNat < 100000 := by
  have e := congrFun h (fun a => a.elim0)
  simp only [Cert.Pre_finite_in_range.fn] at e
  have e := Host.reduce_andi_all _ _ _ _ _ (IntOp.andi_eq_one.1 e).2 i
  simp only [andi, cmpi, broadcastInDim, constantI] at e
  exact word_of_pre _ e

theorem frame_KernelIdeal_finite : Cert.quiescent_KernelIdeal_pre_finite_in_range := fun m ρ hpre =>
  (θ_run Cert.KernelIdeal.defs _ _).mono (fun _ h => ⟨fun c => (h.1 c).2, h.2⟩)
    (run_main (F := Ideal) m ρ fun d x => range_of_finite _ _ (hpre d) x)

theorem frame_ReferenceIdeal_finite : Cert.quiescent_ReferenceIdeal_pre_finite_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.SC
end
-- ==== Proof.Algebra.lean ====
/-
  The arithmetic of the loss over the extended reals, for one row of finite logits: the running maximum, rescaled
  sum of exponentials and plain sum of the streaming kernel; the log of the sum of exponentials, which does not
  depend on the shift it was computed with; and the identity between the two ways of writing the loss of a row.
-/
module

public import Idealize.ShloMosaic.PureOps.Ideal.Laws
public import Idealize.ShloMosaic.Lib.IdealHost

@[expose] public section

noncomputable section

namespace Cert.Proof.SC

open Idealize.ShloMosaic Finset

/-! ### Sums and maxima of finite values -/

/-- A sum of finite values is the finite sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of a start and a maximum of values, none of them `⊤` and one of them finite, is finite. -/
theorem max_fold_real {B : ℕ} (m : EReal) (v : Fin B → EReal) (hm : m ≠ ⊤) (hv : ∀ k, v k ≠ ⊤) (k₀ : Fin B) (h₀ : v k₀ ≠ ⊥) :
    ∃ M : ℝ, max m (univ.fold max ⊥ v) = (M : EReal) := by
  have ht : max m (univ.fold max ⊥ v) < ⊤ :=
    max_lt (lt_top_iff_ne_top.2 hm) ((fold_max_lt _).2 ⟨bot_lt_top, fun k _ => lt_top_iff_ne_top.2 (hv k)⟩)
  have hb : ⊥ < max m (univ.fold max ⊥ v) :=
    lt_max_of_lt_right ((lt_fold_max _).2 (.inr ⟨k₀, mem_univ _, bot_lt_iff_ne_bot.2 h₀⟩))
  exact ⟨_, (EReal.coe_toReal ht.ne hb.ne').symm⟩

/-- A sum over a block of which only the first `w` places count. -/
theorem sum_block {B w : ℕ} (hw : w ≤ B) (f : ℕ → ℝ) :
    ∑ k : Fin B, (if (k : ℕ) < w then f k else 0) = ∑ k ∈ range w, f k := by
  rw [Fin.sum_univ_eq_sum_range (fun k => if k < w then f k else 0) B, ← Finset.sum_filter]
  congr 1
  ext k
  simp only [mem_filter, mem_range]
  omega

/-! ### The running state of a row -/

/-- The running maximum, sum of exponentials and sum of a row `x` after its first `n` columns: at the start `⊥`,
    0 and 0; from then on some finite shift `M`, the sum of `exp (x k - M)`, and the sum of `x k`. -/
def RowAt (x : ℕ → ℝ) (n : ℕ) (m s u : EReal) : Prop :=
  (n = 0 ∧ m = ⊥ ∧ s = 0 ∧ u = 0) ∨
    ∃ M : ℝ, m = (M : EReal) ∧ s = ((∑ k ∈ range n, Real.exp (x k - M) : ℝ) : EReal) ∧
      u = ((∑ k ∈ range n, x k : ℝ) : EReal)

/-- One block of `B` columns, its first `w` of them columns of the row and the others masked, advances the running
    state of the row by `w` columns. -/
theorem RowAt.step {x : ℕ → ℝ} {n B w : ℕ} {m s u : EReal} (h : RowAt x n m s u) (hw : w ≤ B) (w0 : 0 < w)
    (v v' : Fin B → EReal) (hv : ∀ k, v k = if (k : ℕ) < w then ((x (n + k) : ℝ) : EReal) else ⊥)
    (hv' : ∀ k, v' k = if (k : ℕ) < w then ((x (n + k) : ℝ) : EReal) else 0) :
    RowAt x (n + w) (max m (univ.fold max ⊥ v))
      (s * Ideal.exp (m - max m (univ.fold max ⊥ v)) + ∑ k, Ideal.exp (v k - max m (univ.fold max ⊥ v)))
      (u + ∑ k, v' k) := by
  have hmt : m ≠ ⊤ := by
    rcases h with ⟨-, h, -⟩ | ⟨M, h, -⟩ <;> rw [h]
    · exact bot_ne_top
    · exact EReal.coe_ne_top M
  obtain ⟨M', hM'⟩ := max_fold_real m v hmt
    (fun k => by rw [hv]; split_ifs; exacts [EReal.coe_ne_top _, bot_ne_top]) ⟨0, by omega⟩
    (by rw [hv, if_pos w0]; exact EReal.coe_ne_bot _)
  have hS : ∑ k, Ideal.exp (v k - (M' : EReal)) = ((∑ k ∈ range w, Real.exp (x (n + k) - M') : ℝ) : EReal) := by
    rw [← sum_block hw (fun k => Real.exp (x (n + k) - M')), ← sum_coe]
    refine Finset.sum_congr rfl fun k _ => ?_
    rw [hv]
    split_ifs
    · rw [← EReal.coe_sub, Ideal.exp_coe]
    · rw [EReal.bot_sub, Ideal.exp_bot, EReal.coe_zero]
  have hU : ∑ k, v' k = ((∑ k ∈ range w, x (n + k) : ℝ) : EReal) := by
    rw [← sum_block hw (fun k => x (n + k)), ← sum_coe]
    refine Finset.sum_congr rfl fun k _ => ?_
    rw [hv']
    split_ifs
    · rfl
    · rw [EReal.coe_zero]
  rw [hM', hS, hU]
  refine .inr ⟨M', rfl, ?_, ?_⟩
  · rcases h with ⟨h0, hm, hs, -⟩ | ⟨M, hm, hs, -⟩
    · subst h0
      rw [hm, hs, EReal.bot_sub, Ideal.exp_bot, zero_mul, zero_add, Nat.zero_add]
      simp only [Nat.zero_add]
    · rw [hm, hs, ← EReal.coe_sub, Ideal.exp_coe, ← EReal.coe_mul, ← EReal.coe_add, Finset.sum_range_add, Finset.sum_mul]
      congr 2
      refine Finset.sum_congr rfl fun k _ => ?_
      rw [← Real.exp_add]
      congr 1
      ring
  · rcases h with ⟨h0, -, -, hu⟩ | ⟨M, -, -, hu⟩
    · subst h0
      rw [hu, zero_add, Nat.zero_add]
      simp only [Nat.zero_add]
    · rw [hu, ← EReal.coe_add, Finset.sum_range_add]

/-! ### The log of the sum of exponentials -/

/-- The log of the sum of exponentials of the first `n` columns of a row. -/
def lse (x : ℕ → ℝ) (n : ℕ) : ℝ := Real.log (∑ k ∈ range n, Real.exp (x k))

/-- The log of the sum of exponentials shifted by `M`, the shift put back, is the same whatever the shift. -/
theorem lse_shift (x : ℕ → ℝ) {n : ℕ} (n0 : 0 < n) (M : ℝ) :
    Real.log (∑ k ∈ range n, Real.exp (x k - M)) = lse x n - M := by
  have hp : 0 < ∑ k ∈ range n, Real.exp (x k) :=
    Finset.sum_pos (fun _ _ => Real.exp_pos _) ⟨0, mem_range.2 n0⟩
  simp only [Real.exp_sub]
  rw [← Finset.sum_div, Real.log_div hp.ne' (Real.exp_pos M).ne', Real.log_exp]
  rfl

theorem log_shift (x : ℕ → ℝ) {n : ℕ} (n0 : 0 < n) (M : ℝ) :
    Ideal.log ((∑ k ∈ range n, Real.exp (x k - M) : ℝ) : EReal) = ((lse x n - M : ℝ) : EReal) := by
  have hp : 0 < ∑ k ∈ range n, Real.exp (x k - M) :=
    Finset.sum_pos (fun _ _ => Real.exp_pos _) ⟨0, mem_range.2 n0⟩
  rw [Ideal.log_coe, if_neg (not_le.2 hp), lse_shift x n0]

/-- The kernel's epilogue on a row. -/
theorem RowAt.out {x : ℕ → ℝ} {n : ℕ} {m s u : EReal} (h : RowAt x n m s u) (n0 : 0 < n) (a : ℝ) :
    1 * (m + Ideal.log s) - (a : EReal) * u = ((lse x n - a * ∑ k ∈ range n, x k : ℝ) : EReal) := by
  rcases h with ⟨h0, -⟩ | ⟨M, hm, hs, hu⟩
  · omega
  · rw [hm, hs, hu, log_shift x n0, one_mul, ← EReal.coe_add, ← EReal.coe_mul, ← EReal.coe_sub]
    congr 2
    ring

/-! ### The loss of a row, written both ways -/

/-- The smoothed cross-entropy of a row whose target is `t`, summed class by class, is the log of the sum of
    exponentials less the two weighted sums of logits. -/
theorem row_loss (x : ℕ → ℝ) (t : Fin 100000) :
    ∑ k : Fin 100000, (-(if k = t then (9 / 10 : ℝ) else 1 / 999990)) * (x k - lse x 100000) =
      lse x 100000 - 1 / 999990 * (∑ k ∈ range 100000, x k) - 89999 / 99999 * x t := by
  have h1 : ∀ k : Fin 100000, (-(if k = t then (9 / 10 : ℝ) else 1 / 999990)) * (x k - lse x 100000) =
      -(1 / 999990) * (x k - lse x 100000) + if k = t then -(89999 / 99999) * (x k - lse x 100000) else 0 := by
    intro k
    split_ifs <;> ring
  rw [Finset.sum_congr rfl fun k _ => h1 k, Finset.sum_add_distrib, Finset.sum_ite_eq', if_pos (mem_univ _),
    ← Finset.mul_sum, Finset.sum_sub_distrib, Finset.sum_const, card_univ, Fintype.card_fin,
    Fin.sum_univ_eq_sum_range x 100000, nsmul_eq_mul]
  push_cast
  ring

end Cert.Proof.SC

end
-- ==== Proof.PayRow.lean ====
/-
  The payloads of the two TensorCore kernels read at an element, over the extended reals.
-/
module

public import proofs.«01_k».proof.Proof.Algebra
public import proofs.«01_k».proof.Proof.Region1
public import Idealize.ShloMosaic.Lib.Pointwise

@[expose] public section

noncomputable section

namespace Cert.Proof.SC

open Cert.KernelIdeal Cert.KernelIdeal.Gen
open Idealize.ShloMosaic Finset

theorem negInf : Ideal.ofBits .f32 0xFF800000#32 = ⊥ := by
  simp [Ideal.ofBits, Ideal.ieee]

theorem smooth_val : (Named.named κ "smooth" 0x35863815#32 : Ideal .f32) = ((1 / 999990 : ℝ) : EReal) :=
  IdealRules.named_const.ideal_named_scalar _ _ _ _ rfl

theorem peak_val : (Named.named κ "peak" 0x3F666656#32 : Ideal .f32) = ((89999 / 99999 : ℝ) : EReal) :=
  IdealRules.named_const.ideal_named_scalar _ _ _ _ rfl

theorem ofBits_1024 : Ideal.ofBits .f32 0x44800000#32 = ((1024 : ℝ) : EReal) := by
  simp [Ideal.ofBits, Ideal.ieee, -EReal.coe_mul]; norm_num

/-- The largest element of each row of a block, from the value the kernel folds from. -/
theorem rowMax_at (v : FVec Ideal S1024x3584 .f32) (r : Fin 1024) :
    shapeCast S1024x1 (multiReduction .maximumf [1] S1024 v 0xFF800000#32 reduces_S1024x3584_S1024 (.inl rfl) rfl) shapeCasts_S1024_S1024x1 (ix2 r 0) =
      univ.fold max ⊥ fun k : Fin 3584 => v (ix2 r k) := by
  pointwise [negInf]

theorem pay4_at (v : Vec Ideal S1024x3584 .f32) (m : Vec Ideal S1024x1 .f32) (r : Fin 1024) :
    k1_pay4 v m (ix2 r 0) = max (m (ix2 r 0)) (univ.fold max ⊥ fun k : Fin 3584 => v (ix2 r k)) := by
  exact congrArg (max (m (ix2 r 0))) (rowMax_at v r)

theorem pay5_at (v : Vec Ideal S1024x3584 .f32) (m m' s : Vec Ideal S1024x1 .f32) (r : Fin 1024) :
    k1_pay5 v m m' s (ix2 r 0) = s (ix2 r 0) * Ideal.exp (m' (ix2 r 0) - k1_pay4 v m (ix2 r 0)) + ∑ k : Fin 3584, Ideal.exp (v (ix2 r k) - k1_pay4 v m (ix2 r 0)) := by
  pointwise [k1_pay5]

theorem pay6_at (v : Vec Ideal S1024x3584 .f32) (u : Vec Ideal S1024x1 .f32) (r : Fin 1024) :
    k1_pay6 v u (ix2 r 0) = u (ix2 r 0) + ∑ k : Fin 3584, v (ix2 r k) := by
  pointwise [k1_pay6]

theorem pay10_at (m s u : Vec Ideal S1024x1 .f32) (j : S1x1x1.Idx) :
    k1_pay10 m s u j = ∑ r : Fin 1024, (1 * (m (ix2 r 0) + Ideal.log (s (ix2 r 0))) - ((1 / 999990 : ℝ) : EReal) * u (ix2 r 0)) := by
  pointwise [k1_pay10, smooth_val]
  simp only [Fin.sum_univ_one, Finset.univ_unique, Finset.sum_singleton, one_mul]

theorem pay12_at (v : Vec Ideal S1024x3584 .f32) (r : Fin 1024) (k : Fin 3584) :
    k1_pay12 27#32 v (ix2 r k) = if (k : ℕ) < 3232 then v (ix2 r k) else ⊥ := by
  unfold k1_pay12
  show Scalar.select (broadcastTo S1024x3584 (shapeCast S1x3584 (k1_pay11 27#32) shapeCasts_S1x3584_S1x3584) broadcasts_S1x3584_S1024x3584 (ix2 r k)) _ _ = _
  rw [mask_apply]
  show Scalar.select (if (k : ℕ) < 3232 then 1#1 else 0#1) _ _ = _
  split_ifs
  · rfl
  · exact negInf

theorem pay13_at (v : Vec Ideal S1024x3584 .f32) (m : Vec Ideal S1024x1 .f32) (r : Fin 1024) :
    k1_pay13 27#32 v m (ix2 r 0) = max (m (ix2 r 0)) (univ.fold max ⊥ fun k : Fin 3584 => k1_pay12 27#32 v (ix2 r k)) :=
  congrArg (max (m (ix2 r 0))) (rowMax_at _ r)

theorem pay14_at (v : Vec Ideal S1024x3584 .f32) (m m' s : Vec Ideal S1024x1 .f32) (r : Fin 1024) :
    k1_pay14 27#32 v m m' s (ix2 r 0) = s (ix2 r 0) * Ideal.exp (m' (ix2 r 0) - k1_pay13 27#32 v m (ix2 r 0)) +
      ∑ k : Fin 3584, Ideal.exp (k1_pay12 27#32 v (ix2 r k) - k1_pay13 27#32 v m (ix2 r 0)) := by
  pointwise [k1_pay14]

theorem pay15_at (v : Vec Ideal S1024x3584 .f32) (u : Vec Ideal S1024x1 .f32) (r : Fin 1024) :
    k1_pay15 27#32 v u (ix2 r 0) = u (ix2 r 0) + ∑ k : Fin 3584, if (k : ℕ) < 3232 then v (ix2 r k) else 0 := by
  have hs : select (broadcastTo S1024x3584 (shapeCast S1x3584 (k1_pay11 27#32) shapeCasts_S1x3584_S1x3584) broadcasts_S1x3584_S1024x3584) v
      (broadcast S1024x3584 (Scalar.ofBits .f32 0x00000000#32 : Ideal .f32)) =
      (fun j : S1024x3584.Idx => if (j 1).val < 3232 then v j else (0 : EReal) : Vec Ideal S1024x3584 .f32) := by
    funext j
    show Scalar.select _ _ _ = _
    rw [mask_apply]
    split_ifs
    · rfl
    · exact Ideal.ofBits_zero_f32
  unfold k1_pay15
  dsimp only
  rw [hs]
  pointwise []

theorem k2_at (x : Vec Ideal S1x1x1 .f32) (p : Vec Ideal S1024x1 .f32) (j : S1x1.Idx) :
    k2_pay1 x p j = Ideal.div (x (ix3 0 0 0) - ((89999 / 99999 : ℝ) : EReal) * ∑ r : Fin 1024, p (ix2 r 0)) ((1024 : ℝ) : EReal) := by
  pointwise [k2_pay1, peak_val, ofBits_1024]
  rw [Ideal.reduceAdd_total reduces_S1x1x1x1_S1 (fun b => by fin_cases b; rfl),
    Finset.sum_congr rfl fun (i : S1x1x1x1.Idx) _ => show shapeCast S1x1x1x1 x _ i = x (ix3 0 0 0) from
      congrArg x (funext fun b => by fin_cases b <;> exact Subsingleton.elim (α := Fin 1) _ _)]
  have hu : (univ : Finset S1x1x1x1.Idx).card = 1 :=
    Fintype.card_eq_one_iff.2 ⟨fun b => ⟨0, by fin_cases b <;> decide⟩, fun i => funext fun b => by
      fin_cases b <;> exact Subsingleton.elim (α := Fin 1) _ _⟩
  rw [Finset.sum_const, hu, one_nsmul]
  simp only [Finset.univ_unique, Finset.sum_singleton]

end Cert.Proof.SC

end
-- ==== Proof.KernelValue.lean ====
/-
  What the kernel's two TensorCore calls compute over the extended reals, for finite logits: the streaming call the
  sum over the rows of the log of the sum of exponentials less the weighted sum of the logits, and the combining call
  the mean loss.
-/
module

public import proofs.«01_k».proof.Proof.PayRow

@[expose] public section

noncomputable section

namespace Cert.Proof.SC

open Cert.KernelIdeal Cert.KernelIdeal.Gen
open Idealize.ShloMosaic Finset

variable (V : (c : Dev nD) → (b : Ref sig .tc) → Buf (Elt Ideal) ((SparseCore.T c : Thread nD τ).loc b)) (c : Dev nD)
variable (X : Fin 1024 → ℕ → ℝ)

/-- The buffer of the logits holds the finite values `X`. -/
def Holds : Prop := ∀ (r : Fin 1024) (k : Fin 100000),
  (V c main_arg0 : S1024x100000.Idx → EReal) (ix2 r k) = ((X r k : ℝ) : EReal)

variable {V c X}

theorem Holds.xb (h : Holds V c X) (n : ℕ) (r : Fin 1024) (k : Fin 3584) (hk : n * 3584 + k.val < 100000) :
    xb V c n (ix2 r k) = ((X r (n * 3584 + k) : ℝ) : EReal) := by
  unfold SC.xb
  refine (dif_pos hk).trans ?_
  rw [← ix2_eq_valueIdx]
  exact h r ⟨n * 3584 + k, hk⟩

/-- The running vectors' rows before column block `n`. -/
theorem Holds.runAt (h : Holds V c X) (r : Fin 1024) : ∀ n : ℕ, n ≤ 27 →
    RowAt (X r) (n * 3584) ((runAt V c n).1 (ix2 r 0)) ((runAt V c n).2.1 (ix2 r 0)) ((runAt V c n).2.2 (ix2 r 0))
  | 0, _ => .inl ⟨by omega, negInf, Ideal.ofBits_zero_f32, Ideal.ofBits_zero_f32⟩
  | n + 1, hn => by
    have ih := Holds.runAt h r n (by omega)
    have hx : ∀ k : Fin 3584, SC.xb V c n (ix2 r k) = ((X r (n * 3584 + k) : ℝ) : EReal) :=
      fun k => h.xb n r k (by have := k.isLt; omega)
    have hs := ih.step (le_refl 3584) (by omega) (fun k : Fin 3584 => SC.xb V c n (ix2 r k))
      (fun k : Fin 3584 => SC.xb V c n (ix2 r k)) (fun k => by rw [if_pos k.isLt, hx]) (fun k => by rw [if_pos k.isLt, hx])
    have e : (n + 1) * 3584 = n * 3584 + 3584 := by omega
    rw [e]
    have h7 : k1_pay7 (SC.xb V c n) (SC.runAt V c n).1 = k1_pay4 (SC.xb V c n) (SC.runAt V c n).1 := shapeCast_self _ _
    show RowAt (X r) _ (k1_pay7 (SC.xb V c n) (SC.runAt V c n).1 (ix2 r 0))
      (k1_pay5 (SC.xb V c n) (SC.runAt V c n).1 (SC.runAt V c n).1 (SC.runAt V c n).2.1 (ix2 r 0))
      (k1_pay6 (SC.xb V c n) (SC.runAt V c n).2.2 (ix2 r 0))
    rw [h7, pay5_at, pay6_at, pay4_at]
    exact hs

/-- The rows after the last, masked, block. -/
theorem Holds.runLast (h : Holds V c X) (r : Fin 1024) :
    RowAt (X r) 100000 ((runLast (SC.xb V c 27) (SC.runAt V c 27)).1 (ix2 r 0))
      ((runLast (SC.xb V c 27) (SC.runAt V c 27)).2.1 (ix2 r 0)) ((runLast (SC.xb V c 27) (SC.runAt V c 27)).2.2 (ix2 r 0)) := by
  have ih := h.runAt r 27 (le_refl _)
  have hs := ih.step (B := 3584) (w := 3232) (by omega) (by omega) (fun k : Fin 3584 => k1_pay12 27#32 (SC.xb V c 27) (ix2 r k))
    (fun k : Fin 3584 => if (k : ℕ) < 3232 then SC.xb V c 27 (ix2 r k) else 0)
    (fun k => by
      rw [pay12_at]
      split_ifs with hk
      · exact h.xb 27 r k (by omega)
      · rfl)
    (fun k => by
      split_ifs with hk
      · exact h.xb 27 r k (by omega)
      · rfl)
  have h9 : ∀ v : FVec Ideal S1024x1 .f32, k1_pay9 v = v := fun v => shapeCast_self _ _
  have h8 : ∀ v : FVec Ideal S1024x1 .f32, k1_pay8 v = v := fun v => shapeCast_self _ _
  show RowAt (X r) 100000 (k1_pay9 (k1_pay13 27#32 (SC.xb V c 27) (SC.runAt V c 27).1) (ix2 r 0))
    (k1_pay14 27#32 (SC.xb V c 27) (SC.runAt V c 27).1 (SC.runAt V c 27).1 (SC.runAt V c 27).2.1 (ix2 r 0))
    (k1_pay8 (k1_pay15 27#32 (SC.xb V c 27) (SC.runAt V c 27).2.2) (ix2 r 0))
  rw [h9, h8, pay14_at, pay15_at, pay13_at]
  exact hs

/-- What the streaming call writes. -/
theorem Holds.out1 (h : Holds V c X) (j : S1x1x1.Idx) :
    out1 V c j = ((∑ r : Fin 1024, (lse (X r) 100000 - 1 / 999990 * ∑ k ∈ range 100000, X r k) : ℝ) : EReal) := by
  rw [← sum_coe]
  unfold SC.out1 runOut
  rw [pay10_at]
  exact Finset.sum_congr rfl fun r _ => (h.runLast r).out (by omega) _

/-- What the combining call computes of a finite sum and finite gathered logits. -/
theorem k2_real (x : Vec Ideal S1x1x1 .f32) (p : Vec Ideal S1024x1 .f32) (b : ℝ) (q : Fin 1024 → ℝ)
    (hx : x (ix3 0 0 0) = (b : EReal)) (hp : ∀ r : Fin 1024, p (ix2 r 0) = ((q r : ℝ) : EReal)) (j : S1x1.Idx) :
    k2_pay1 x p j = (((b - 89999 / 99999 * ∑ r, q r) / 1024 : ℝ) : EReal) := by
  rw [k2_at, hx, Finset.sum_congr rfl fun r _ => hp r, sum_coe, ← EReal.coe_mul, ← EReal.coe_sub, Ideal.div_coe (by norm_num), ← EReal.coe_mul]
  congr 1
  ring

end Cert.Proof.SC

end
-- ==== Proof.ResValue.lean ====
/-
  What the kernel program returns over the extended reals, for finite logits and targets naming columns: the mean over
  the rows of the log of the sum of exponentials, less the two weighted sums of logits.
-/
module

public import proofs.«01_k».proof.Proof.KernelValue
public import proofs.«01_k».proof.Proof.Main
public import Idealize.ShloMosaic.Lib.Pipeline.Value
public import Idealize.ShloMosaic.Lib.KernelVsHost

@[expose] public section

noncomputable section

namespace Cert.Proof.SC

open Cert.KernelIdeal Cert.KernelIdeal.Gen
open Idealize.ShloMosaic Finset
open Idealize.ShloMosaic.Pipeline (Dat Cfg Window)

section Regions

variable {V : (c : Dev nD) → (b : Ref sig .tc) → Buf (Elt Ideal) ((SparseCore.T c : Thread nD τ).loc b)} {c : Dev nD}

/-- The streaming call's result array, when everything it writes there is one value. -/
theorem res1_const (bd : ℕ) (b : EReal) (h : ∀ j, out1 V c j = b) (i : S1x1x1.Idx) : res1 V bd c i = b := by
  have hmem : ∀ (t : Fin cfg1.N) (i : ((cfg1.win 1).blk t).view.ty.Idx), i ∈ ((cfg1.win 1).blk t).view.set := fun t i => by
    have hz : ∀ (t : Fin grid1.N) a, 0 < ((win1_1).xblock (grid1.coords t)).size a := by decide +kernel
    have y : ((cfg1.win 1).xblock (cfg1.grid.coords t)).Idx := fun a => ⟨0, hz t a⟩
    have hu : ∀ i i' : S1x1x1.Idx, i = i' := fun i i' => funext fun a => by fin_cases a <;> exact Subsingleton.elim (α := Fin 1) _ _
    rw [show i = ((cfg1.win 1).blk t).view.emb y from hu _ _]
    exact View.emb_mem_set _ y
  have hcov : ∀ i : S1x1x1.Idx, ∃ t : Fin cfg1.N, (cfg1.win 1).flush t = true ∧ i ∈ ((cfg1.win 1).blk t).view.set :=
    fun i => ⟨⟨27, by decide⟩, (flush1_1 _).2 rfl, hmem _ _⟩
  exact (dat1 V bd c).arrAt_forall_of_cover 1 (fun _ v => v = b) (fun t _ y => (cast_eq _ _).trans (h (win1_1.xinj (grid1.coords t) y))) hcov i

/-- The combining call's likewise. -/
theorem res2_const (bd : ℕ) (b : EReal) (h : ∀ t j, k2_pay1 (x2_0 V c t) (x2_1 V c t) j = b) (i : S1x1.Idx) : res2 V bd c i = b := by
  have hmem : ∀ (t : Fin cfg2.N) (i : ((cfg2.win 2).blk t).view.ty.Idx), i ∈ ((cfg2.win 2).blk t).view.set := fun t i => by
    have hz : ∀ (t : Fin grid2.N) a, 0 < ((win2_2).xblock (grid2.coords t)).size a := by decide +kernel
    have y : ((cfg2.win 2).xblock (cfg2.grid.coords t)).Idx := fun a => ⟨0, hz t a⟩
    have hu : ∀ i i' : S1x1.Idx, i = i' := fun i i' => funext fun a => by fin_cases a <;> exact Subsingleton.elim (α := Fin 1) _ _
    rw [show i = ((cfg2.win 2).blk t).view.emb y from hu _ _]
    exact View.emb_mem_set _ y
  have hcov : ∀ i : S1x1.Idx, ∃ t : Fin cfg2.N, (cfg2.win 2).flush t = true ∧ i ∈ ((cfg2.win 2).blk t).view.set :=
    fun i => ⟨⟨0, by decide⟩, flush2_2 _, hmem _ _⟩
  exact (dat2 V bd c).arrAt_forall_of_cover 2 (fun _ v => v = b) (fun t _ y => (cast_eq _ _).trans (h t (win2_2.xinj (grid2.coords t) y))) hcov i

/-- The combining call's operands are the two arrays. -/
theorem x2_0_const (b : EReal) (h : ∀ i : S1x1x1.Idx, (V c main_v2 : S1x1x1.Idx → EReal) i = b) (t : Fin cfg2.N) (j : S1x1x1.Idx) :
    x2_0 V c t j = b := by
  unfold x2_0
  rw [View.read_apply]
  exact (cast_eq _ _).trans (h _)

theorem off2 : ∀ t : Fin grid2.N, (win2_1.rect t).off 0 = 0 ∧ (win2_1.rect t).off 1 = 0 := by decide +kernel

theorem x2_1_at (t : Fin cfg2.N) (r : Fin 1024) : x2_1 V c t (ix2 r 0) = (V c main_v3 : S1024x1.Idx → EReal) (ix2 r 0) := by
  unfold x2_1
  rw [View.read_apply]
  show _root_.cast _ (V c main_v3 ((Memref.whole main_v3).view.emb ((win2_1.rect t).emb _))) = _
  refine (cast_eq _ _).trans (congrArg (V c main_v3) (funext ?_))
  intro (a : Fin 2)
  refine Fin.ext ?_
  fin_cases a
  · show (win2_1.rect t).off 0 + 1 * r.val = r.val
    rw [(off2 t).1]; omega
  · show (win2_1.rect t).off 1 + 1 * 0 = 0
    rw [(off2 t).2]

end Regions

variable {m : (ℓ : Loc nD τ sig) → Buf (Elt Ideal) ℓ} {d : Dev nD} {X : Fin 1024 → ℕ → ℝ}

/-- The gathered logit of row `r`. -/
theorem gath_at (hX : ∀ (r : Fin 1024) (k : Fin 100000), (m ((SparseCore.T d).loc main_arg0) : S1024x100000.Idx → EReal) (ix2 r k) = ((X r k : ℝ) : EReal))
    (ht : ∀ x, (tg₀ m d x).toNat < 100000) (r : Fin 1024) :
    (gath (Xp m d) (tg₀ m d) (ix1 r) : EReal) = ((X r (tg₀ m d (ix1 r)).toNat : ℝ) : EReal) := by
  have h := ht (ix1 r)
  unfold gath Xp
  refine (pad_apply_of_inside _ _ _ _ _ _ _ _ (ix2 r ⟨(tg₀ m d (ix1 r)).toNat, h⟩) ?_).trans (hX r ⟨_, h⟩)
  intro (a : Fin 2)
  fin_cases a
  · show r.val = 0 + r.val * 1
    omega
  · show min (tg₀ m d (ix1 r)).toNat 100095 = 0 + (tg₀ m d (ix1 r)).toNat * 1
    omega

/-- What the program returns. -/
theorem RvM_real (hX : ∀ (r : Fin 1024) (k : Fin 100000), (m ((SparseCore.T d).loc main_arg0) : S1024x100000.Idx → EReal) (ix2 r k) = ((X r k : ℝ) : EReal))
    (ht : ∀ x, (tg₀ m d x).toNat < 100000) (j : S_.Idx) :
    RvM m d j = (((∑ r : Fin 1024, (lse (X r) 100000 - 1 / 999990 * ∑ k ∈ range 100000, X r k) -
      89999 / 99999 * ∑ r : Fin 1024, X r (tg₀ m d (ix1 r)).toNat) / 1024 : ℝ) : EReal) := by
  -- the streaming call's operand
  have h3 : Holds (fun c b => W3 m c (Proc.devRef .tc b)) d X := fun r k => by
    show (W3 m d a0' : S1024x100000.Idx → EReal) (ix2 r k) = _
    rw [show W3 m d a0' = m ((SparseCore.T d).loc main_arg0) from
      (Function.update_of_ne (show a0' ≠ v1' by decide) _ _).trans (W2_a0 m d)]
    exact hX r k
  -- the combining call's operands
  have h2 : ∀ i : S1x1x1.Idx, (W5 m d v2' : S1x1x1.Idx → EReal) i =
      ((∑ r : Fin 1024, (lse (X r) 100000 - 1 / 999990 * ∑ k ∈ range 100000, X r k) : ℝ) : EReal) := fun i => by
    unfold W5
    rw [(opR1 (F := Ideal)).result_of_not_mem _ (show v2' ∉ ({v3'} : Finset (DevRef τ sig)) by decide),
      show W4 m d v2' = res1 (fun c b => W3 m c (Proc.devRef .tc b)) bd0 d from Function.update_self _ _ _]
    exact res1_const bd0 _ h3.out1 i
  have hv3 : ∀ r : Fin 1024, (W5 m d v3' : S1024x1.Idx → EReal) (ix2 r 0) = ((X r (tg₀ m d (ix1 r)).toNat : ℝ) : EReal) := fun r => by
    have e : W4 m d v1' = gath (Xp m d) (tg₀ m d) :=
      (Function.update_of_ne (show v1' ≠ v2' by decide) _ _).trans (Function.update_self _ _ _)
    have e' : (W5 m d v3' : S1024x1.Idx → EReal) = shapeCast S1024x1 (W4 m d v1' : S1024.Idx → EReal) shapeCasts_S1024_S1024x1 :=
      StableHlo.reshape_result _ _ _ _ _ _ _
    rw [e', e, ← gath_at hX ht r]
    pointwise []
  unfold RvM W7
  have e7 : ((opR2 (F := Ideal)).result (W6 m d) v5' : S_.Idx → EReal) = shapeCast S_ (W6 m d v4' : S1x1.Idx → EReal) shapeCasts_S1x1_S_ :=
    StableHlo.reshape_result _ _ _ _ _ _ _
  have e6 : W6 m d v4' = res2 (fun c b => W5 m c (Proc.devRef .tc b)) bd0 d := Function.update_self _ _ _
  rw [e7, e6]
  exact res2_const bd0 _ (fun t j => k2_real _ _ _ _ (x2_0_const _ h2 t _) (fun r => (x2_1_at t r).trans (hv3 r)) j) _

end Cert.Proof.SC

end
-- ==== Proof.RefValue.lean ====
/-
  What the reference program returns over the extended reals, for finite logits and targets naming columns: the mean
  over the rows of the smoothed cross-entropy.
-/
module

public import proofs.«01_k».proof.Defs
public import proofs.«01_k».proof.Proof.Algebra
public import proofs.«01_k».proof.Proof.Gen.ReferenceIdeal.Run
public import Idealize.ShloMosaic.Lib.Pointwise
public import Idealize.ShloMosaic.Lib.Routing.OpsSet
public import Idealize.ShloMosaic.Lib.Routing.OpsPair

@[expose] public section

noncomputable section

namespace Cert.Proof.Ref

open Cert.ReferenceIdeal Cert.ReferenceIdeal.Gen
open Idealize.ShloMosaic Finset
open Cert.Proof.SC (lse sum_coe log_shift row_loss max_fold_real)

/-! ## The reference, part by part -/

/-- The two index words of each row: the row and its target, each wrapped when negative. -/
def idxs (t : IVec S1024 32) : IVec S1024x2 32 :=
  concatenate S1024x2 1 [⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩, ⟨S1024x1, (broadcastInDim S1024x1 ![0] bcast_S1024_S1024x1_0 (select (cmpi .slt t (broadcastInDim S1024 ![] bcast_S_S1024 (constantI S_ 32 0#32))) (addi t (broadcastInDim S1024 ![] bcast_S_S1024 (constantI S_ 32 100000#32))) t))⟩] concatenates_S1024x1_S1024x1_S1024x2_d1

/-- The smoothed distribution of each row. -/
def dist (t : IVec S1024 32) : FVec Ideal S1024x100000 .f32 :=
  Host.scatter scatter_S1024x100000_S1024x2_S1024_n_01_01_1 (fun _ b => b) (broadcastInDim S1024x100000 ![] bcast_S_S1024x100000 (Host.divf (Host.divf (constant S_ .f32 0x3F800000#32) (constant S_ .f32 0x41200000#32)) (constant S_ .f32 0x47C34F80#32))) (idxs t) (broadcastInDim S1024 ![] bcast_S_S1024 (subf (constant S_ .f32 0x3F800000#32) (Host.divf (constant S_ .f32 0x3F800000#32) (constant S_ .f32 0x41200000#32))))

/-- The largest logit of each row. -/
def rowMax (x : FVec Ideal S1024x100000 .f32) : FVec Ideal S1024 .f32 :=
  maximumf (broadcastInDim S1024 ![] bcast_S_S1024 (constant S_ .f32 0xFF800000#32)) (Host.reduce FloatOps.maximumf x (constant S_ .f32 0xFF800000#32) reducesTo_S1024x100000_S1024_d1 h_S_)

/-- The logits less their row's largest. -/
def shifted (x : FVec Ideal S1024x100000 .f32) : FVec Ideal S1024x100000 .f32 :=
  subf x (broadcastInDim S1024x100000 ![0, 1] bcast_S1024x1_S1024x100000_0_1 (broadcastInDim S1024x1 ![0] bcast_S1024_S1024x1_0 (rowMax x)))

/-- The log-probabilities. -/
def logp (x : FVec Ideal S1024x100000 .f32) : FVec Ideal S1024x100000 .f32 :=
  subf (shifted x) (broadcastInDim S1024x100000 ![0, 1] bcast_S1024x1_S1024x100000_0_1 (Host.log (broadcastInDim S1024x1 ![0] bcast_S1024_S1024x1_0 (Host.reduceAdd (Host.exp (shifted x)) (constant S_ .f32 0x00000000#32) reducesTo_S1024x100000_S1024_d1 h_S_))))

/-- The mean loss. -/
def out (x : FVec Ideal S1024x100000 .f32) (t : IVec S1024 32) : FVec Ideal S_ .f32 :=
  Host.divf (Host.reduceAdd (Host.reduceAdd (mulf (Host.negf (dist t)) (logp x)) (constant S_ .f32 0x00000000#32) reducesTo_S1024x100000_S1024_d1 h_S_) (constant S_ .f32 0x00000000#32) reducesTo_S1024_S_d0 h_S_) (constant S_ .f32 0x44800000#32)

/-! ## The constants -/

theorem negInf : Ideal.ofBits .f32 0xFF800000#32 = ⊥ := by simp [Ideal.ofBits, Ideal.ieee]
theorem ofBits_10 : Ideal.ofBits .f32 0x41200000#32 = ((10 : ℝ) : EReal) := by simp [Ideal.ofBits, Ideal.ieee, -EReal.coe_mul]; norm_num
theorem ofBits_99999 : Ideal.ofBits .f32 0x47C34F80#32 = ((99999 : ℝ) : EReal) := by simp [Ideal.ofBits, Ideal.ieee, -EReal.coe_mul]; norm_num
theorem ofBits_1024 : Ideal.ofBits .f32 0x44800000#32 = ((1024 : ℝ) : EReal) := by simp [Ideal.ofBits, Ideal.ieee, -EReal.coe_mul]; norm_num

theorem eps_val : Ideal.div 1 ((10 : ℝ) : EReal) = ((1 / 10 : ℝ) : EReal) := by
  rw [Ideal.div_coe (by norm_num), one_mul]

/-! ## The smoothed distribution at an element -/

theorem idxs_row (t : IVec S1024 32) (r : Fin 1024) : idxs t (ix2 r 0) = BitVec.ofNat 32 r := by
  have hw : Scalar.select (IntOp.cmpi .slt (BitVec.ofNat 32 r) 0#32) (IntOp.addi (BitVec.ofNat 32 r) 1024#32) (BitVec.ofNat 32 r) = BitVec.ofNat 32 r :=
    Routing.wrap_of_lt _ _ (by have := r.isLt; rw [BitVec.toNat_ofNat]; omega)
  refine Eq.trans ?_ hw
  pointwise [idxs]

theorem idxs_col (t : IVec S1024 32) (r : Fin 1024) (h : (t (ix1 r)).toNat < 100000) : idxs t (ix2 r 1) = t (ix1 r) := by
  have hw : Scalar.select (IntOp.cmpi .slt (t (ix1 r)) 0#32) (IntOp.addi (t (ix1 r)) 100000#32) (t (ix1 r)) = t (ix1 r) :=
    Routing.wrap_of_lt _ _ (by omega)
  refine Eq.trans ?_ hw
  pointwise [idxs]

theorem lands (i : IVec S1024x2 32) (r' : Fin 1024) (r : Fin 1024) (k : Fin 100000) :
    scatter_S1024x100000_S1024x2_S1024_n_01_01_1.resultIdx? (ix1 r' : S1024.Idx) i = some (ix2 r k) ↔
      (i (ix2 r' 0)).toInt = r.val ∧ (i (ix2 r' 1)).toInt = k.val := by
  have h0 : scatter_S1024x100000_S1024x2_S1024_n_01_01_1.start (ix1 r' : S1024.Idx) i 0 = (i (ix2 r' 0)).toInt := by
    refine congrArg (fun j => (i j).toInt) (funext fun (a : Fin 2) => ?_)
    fin_cases a <;> rfl
  have h1 : scatter_S1024x100000_S1024x2_S1024_n_01_01_1.start (ix1 r' : S1024.Idx) i 1 = (i (ix2 r' 1)).toInt := by
    refine congrArg (fun j => (i j).toInt) (funext fun (a : Fin 2) => ?_)
    fin_cases a <;> rfl
  rw [ix2_eq_valueIdx, Routing.resultIdx?_ix2, h0, h1]
  show _ + ((0 : ℕ) : Int) = _ ∧ _ + ((0 : ℕ) : Int) = _ ↔ _
  simp only [Nat.cast_zero, add_zero]

theorem dist_at (t : IVec S1024 32) (ht : ∀ r, (t (ix1 r)).toNat < 100000) (r : Fin 1024) (k : Fin 100000) :
    dist t (ix2 r k) = (((if k = ⟨(t (ix1 r)).toNat, ht r⟩ then (9 / 10 : ℝ) else 1 / 999990) : ℝ) : EReal) := by
  have hl : ∀ r', scatter_S1024x100000_S1024x2_S1024_n_01_01_1.resultIdx? (ix1 r' : S1024.Idx) (idxs t) = some (ix2 r k) ↔
      r' = r ∧ (t (ix1 r')).toNat = k := fun r' => by
    rw [lands, idxs_row, idxs_col t r' (ht r')]
    have h1 : (BitVec.ofNat 32 r').toInt = (r'.val : Int) := by
      rw [BitVec.toInt_eq_toNat_of_lt (by rw [BitVec.toNat_ofNat]; omega), BitVec.toNat_ofNat, Nat.mod_eq_of_lt (by omega)]
    have h2 : (t (ix1 r')).toInt = ((t (ix1 r')).toNat : Int) :=
      BitVec.toInt_eq_toNat_of_lt (by have := ht r'; omega)
    rw [h1, h2, Fin.ext_iff]
    omega
  unfold dist
  split_ifs with hk
  · refine Routing.scatter_set_hit _ _ _ _ _ _ (fun q _ => ?_) (ix1 r) ((hl r).2 ⟨rfl, (congrArg Fin.val hk).symm⟩)
    show Ideal.ofBits .f32 0x3F800000#32 - Ideal.div (Ideal.ofBits .f32 0x3F800000#32) (Ideal.ofBits .f32 0x41200000#32) = _
    rw [Ideal.ofBits_one_f32, ofBits_10, eps_val, ← EReal.coe_one, ← EReal.coe_sub]
    norm_num
  · refine (Routing.scatter_set_miss _ _ _ _ _ (fun q hq => ?_)).trans ?_
    · obtain ⟨r', rfl⟩ : ∃ r', q = ix1 r' := ⟨q 0, funext fun a => by fin_cases a; rfl⟩
      obtain ⟨e, e'⟩ := (hl r').1 hq
      exact hk (Fin.ext (by rw [← e', e]))
    · show Ideal.div (Ideal.div (Ideal.ofBits .f32 0x3F800000#32) (Ideal.ofBits .f32 0x41200000#32)) (Ideal.ofBits .f32 0x47C34F80#32) = _
      rw [Ideal.ofBits_one_f32, ofBits_10, eps_val, ofBits_99999, Ideal.div_coe (by norm_num), ← EReal.coe_mul]
      norm_num

/-! ## The log-probabilities at an element -/

/-- The largest element of each row, from -∞, of a matrix of any extents. -/
theorem hostMax_at {R C : ℕ} (x : FVec Ideal ⟨2, ![R, C]⟩ .f32) (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (r : Fin R) :
    Host.reduce FloatOps.maximumf x (constant (⟨0, ![]⟩ : Shape) .f32 0xFF800000#32) h' hu (ix1 r) =
      (univ.fold max (⊥ : EReal) (fun k : Fin C => (x (ix2 r k) : EReal)) : EReal) := by
  rw [Host.reduce_eq_fold_single FloatOps.maximumf x _ h' h hu]
  have hf : (x ∘ h.lift (ix1 r)) = fun k : Fin C => x (ix2 r k) := funext fun k =>
    congrArg x (funext fun c => Fin.ext (by fin_cases c <;> rfl))
  rw [← negInf]
  exact congrArg (fun f => Finset.fold max (Ideal.ofBits .f32 0xFF800000#32) f (univ : Finset (Fin C))) hf

theorem max_negInf (y : FVec Ideal S1024 .f32) (r : Fin 1024) :
    maximumf (broadcastInDim S1024 ![] bcast_S_S1024 (constant S_ .f32 0xFF800000#32)) y (ix1 r) = (max (⊥ : EReal) (y (ix1 r) : EReal) : EReal) :=
  congrArg (fun a : EReal => max a (y (ix1 r))) negInf

theorem rowMax_at (x : FVec Ideal S1024x100000 .f32) (r : Fin 1024) :
    rowMax x (ix1 r) = (max (⊥ : EReal) (univ.fold max (⊥ : EReal) (fun k : Fin 100000 => (x (ix2 r k) : EReal))) : EReal) := by
  have h : (⟨2, ![1024, 100000]⟩ : Shape).Reduces [1] (⟨1, ![1024]⟩ : Shape) := by decide
  have e : Host.reduce FloatOps.maximumf x (constant S_ .f32 0xFF800000#32) reducesTo_S1024x100000_S1024_d1 h_S_ (ix1 r) =
      (univ.fold max (⊥ : EReal) (fun k : Fin 100000 => (x (ix2 r k) : EReal)) : EReal) :=
    hostMax_at x reducesTo_S1024x100000_S1024_d1 h h_S_ r
  unfold rowMax
  generalize Host.reduce FloatOps.maximumf x (constant S_ .f32 0xFF800000#32) reducesTo_S1024x100000_S1024_d1 h_S_ = y at e ⊢
  exact (max_negInf y r).trans (congrArg (fun a : EReal => max ⊥ a) e)

theorem shifted_at (x : FVec Ideal S1024x100000 .f32) (r : Fin 1024) (k : Fin 100000) :
    shifted x (ix2 r k) = x (ix2 r k) - rowMax x (ix1 r) := by
  pointwise [shifted]

theorem logp_at (x : FVec Ideal S1024x100000 .f32) (r : Fin 1024) (k : Fin 100000) :
    logp x (ix2 r k) = shifted x (ix2 r k) - Ideal.log (0 + ∑ j : Fin 100000, Ideal.exp (shifted x (ix2 r j))) := by
  pointwise [logp]

theorem out_at (x : FVec Ideal S1024x100000 .f32) (t : IVec S1024 32) (j : S_.Idx) :
    out x t j = Ideal.div (0 + ∑ r : Fin 1024, (0 + ∑ k : Fin 100000, -(dist t (ix2 r k)) * logp x (ix2 r k))) ((1024 : ℝ) : EReal) := by
  pointwise [out, ofBits_1024]

/-- A mean of differences is the difference of the sums, divided. -/
theorem mean_split (A B : Fin 1024 → ℝ) (c : ℝ) : (∑ r, (A r - c * B r)) * (1 / 1024) = (∑ r, A r - c * ∑ r, B r) / 1024 := by
  rw [Finset.sum_sub_distrib, ← Finset.mul_sum]
  ring

/-- What the reference returns. -/
theorem out_real (x : FVec Ideal S1024x100000 .f32) (t : IVec S1024 32) (X : Fin 1024 → ℕ → ℝ)
    (hX : ∀ r (k : Fin 100000), x (ix2 r k) = ((X r k : ℝ) : EReal)) (ht : ∀ r, (t (ix1 r)).toNat < 100000) (j : S_.Idx) :
    out x t j = (((∑ r : Fin 1024, (lse (X r) 100000 - 1 / 999990 * ∑ k ∈ range 100000, X r k) -
      89999 / 99999 * ∑ r : Fin 1024, X r (t (ix1 r)).toNat) / 1024 : ℝ) : EReal) := by
  have hlp : ∀ r (k : Fin 100000), logp x (ix2 r k) = ((X r k - lse (X r) 100000 : ℝ) : EReal) := fun r k => by
    obtain ⟨M, hM⟩ := max_fold_real ⊥ (fun k : Fin 100000 => x (ix2 r k)) bot_ne_top
      (fun k => by rw [hX]; exact EReal.coe_ne_top _) 0 (by rw [hX]; exact EReal.coe_ne_bot _)
    have hm : rowMax x (ix1 r) = (M : EReal) := (rowMax_at x r).trans hM
    have hs : ∀ j : Fin 100000, shifted x (ix2 r j) = ((X r j - M : ℝ) : EReal) := fun j => by
      rw [shifted_at, hm, hX]
      exact (EReal.coe_sub _ _).symm
    rw [logp_at]
    simp only [hs, Ideal.exp_coe]
    rw [sum_coe, zero_add, Fin.sum_univ_eq_sum_range (fun j => Real.exp (X r j - M)) 100000, log_shift (X r) (by norm_num)]
    refine (EReal.coe_sub _ _).symm.trans (congrArg Real.toEReal ?_)
    ring
  have hrow : ∀ r, 0 + ∑ k : Fin 100000, -(dist t (ix2 r k)) * logp x (ix2 r k) =
      ((lse (X r) 100000 - 1 / 999990 * (∑ k ∈ range 100000, X r k) - 89999 / 99999 * X r (t (ix1 r)).toNat : ℝ) : EReal) := fun r => by
    rw [← row_loss (X r) ⟨(t (ix1 r)).toNat, ht r⟩, ← sum_coe, zero_add]
    refine Finset.sum_congr rfl fun k _ => ?_
    rw [dist_at t ht, hlp, ← EReal.coe_neg, ← EReal.coe_mul]
  rw [out_at]
  simp only [hrow]
  rw [sum_coe, zero_add, Ideal.div_coe (by norm_num)]
  exact (EReal.coe_mul _ _).symm.trans (congrArg Real.toEReal (mean_split _ _ _))

end Cert.Proof.Ref

end
-- ==== Proof.Algebraic.lean ====
/-
  The value claim: from finite logits and targets naming columns, the idealised kernel and the reference return the
  same extended real.
-/
module

public import proofs.«01_k».proof.Proof.FramesFinite
public import proofs.«01_k».proof.Proof.ResValue
public import proofs.«01_k».proof.Proof.RefValue

@[expose] public section

noncomputable section

namespace Cert.Proof.SC

open Idealize Idealize.ShloMosaic Idealize.SL.Sem

/-- An extended real whose absolute value is below infinity is a real number. -/
theorem real_of_abs_lt (a : EReal) (h : Ideal.cmp .olt (max a (-a)) (Ideal.ofBits .f32 0x7F800000#32) = 1#1) : ∃ r : ℝ, a = (r : EReal) := by
  have ht : Ideal.ofBits .f32 0x7F800000#32 = ⊤ := by simp [Ideal.ofBits, Ideal.ieee]
  rw [ht] at h
  have hlt : max a (-a) < ⊤ := by
    by_contra hc
    simp [Ideal.cmp, hc] at h
  have h1 : a ≠ ⊤ := (lt_of_le_of_lt (le_max_left _ _) hlt).ne
  have h2 : a ≠ ⊥ := fun e => by
    rw [e, EReal.neg_bot] at hlt
    exact absurd hlt (by simp)
  exact ⟨a.toReal, (EReal.coe_toReal h1 h2).symm⟩

theorem real_of_finite (x : FVec Ideal Cert.Pre_finite_in_range.S1024x100000 .f32) (t : IVec Cert.Pre_finite_in_range.S1024 32)
    (h : Cert.Pre_finite_in_range.fn x t = fun _ => 1#1) (i : Cert.Pre_finite_in_range.S1024x100000.Idx) : ∃ r : ℝ, (x i : EReal) = (r : EReal) := by
  have e := congrFun h (fun a => a.elim0)
  simp only [Cert.Pre_finite_in_range.fn] at e
  exact real_of_abs_lt _ (Host.reduce_andi_all _ _ _ _ _ (IntOp.andi_eq_one.1 e).1 i)

theorem algebraic : Cert.algebraic_KernelIdeal_ReferenceIdeal_pre_finite_in_range := by
  intro m g m' g' hpre harg
  have ht : ∀ (d : Dev Cert.KernelIdeal.nD) x, (tg₀ m d x).toNat < 100000 := fun d x => range_of_finite _ _ (hpre d) x
  refine ⟨fun c => RvM m c, (θ_run Cert.KernelIdeal.defs _ _).mono (fun r h => h.1) (run_main (F := Ideal) m g ht), ?_⟩
  refine (θ_run Cert.ReferenceIdeal.defs _ _).mono (fun r h c => ⟨(h c).1.trans ?_, (h c).2⟩) (Cert.ReferenceIdeal.Value.run (F := Ideal) m' g')
  rw [(harg c).1, (harg c).2]
  choose Y hY using fun i => real_of_finite _ _ (hpre c) i
  obtain ⟨X, hX⟩ : ∃ X : Fin 1024 → ℕ → ℝ, ∀ (r : Fin 1024) (k : Fin 100000),
      (m ((SparseCore.T c).loc Cert.KernelIdeal.main_arg0) : Cert.KernelIdeal.S1024x100000.Idx → EReal) (ix2 r k) = ((X r k : ℝ) : EReal) := by
    refine ⟨fun r n => if h : n < 100000 then Y (ix2 r ⟨n, h⟩) else 0, fun r k => (hY (ix2 r k)).trans (congrArg Real.toEReal ?_)⟩
    simp only [k.isLt, dite_true]
  refine funext fun j => Eq.trans ?_ (RvM_real (X := X) hX (ht c) j).symm
  exact Ref.out_real _ _ X hX (fun r => ht c (ix1 r)) j

end Cert.Proof.SC

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_finite_in_range
public import proofs.«01_k».proof.Proof.Frames
public import proofs.«01_k».proof.Proof.FramesFinite
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts, Cert.Pre_finite_in_range.Gen.facts, by
  exact ⟨SC.frame_Kernel, SC.frame_KernelIdeal, SC.frame_KernelIdeal_finite, SC.frame_ReferenceIdeal, SC.frame_ReferenceIdeal_finite, SC.preserves, SC.algebraic⟩⟩

end Cert.Proof

end
